-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v11_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v55)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v204) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v55)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v55) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v59_0)) (v1 : (c : Dev Cert.Kernel6Ideal.nD) → Buf (Elt Ideal) ((c.tc : Thread Cert.Kernel6Ideal.nD Cert.Kernel6Ideal.τ).loc Cert.Kernel6Ideal.main_v59_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v59_0) = v0 c
          ∧ r.2.mem ((c.tc : Thread Cert.Kernel6Ideal.nD Cert.Kernel6Ideal.τ).loc Cert.Kernel6Ideal.main_v59_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v101) = v0 c
          ∧ r.2.mem ((c.tc : Thread Cert.Reference6Ideal.nD Cert.Reference6Ideal.τ).loc Cert.Reference6Ideal.main_v71) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S9216x5120 : Shape := ⟨2, ![9216, 5120]⟩
abbrev S8x128 : Shape := ⟨2, ![8, 128]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128x1 : Shape := ⟨3, ![8, 128, 1]⟩
abbrev S8x1x128 : Shape := ⟨3, ![8, 1, 128]⟩
abbrev S8192x1024 : Shape := ⟨2, ![8192, 1024]⟩
abbrev S2x8x128x128 : Shape := ⟨4, ![2, 8, 128, 128]⟩
abbrev S128x512 : Shape := ⟨2, ![128, 512]⟩
abbrev S4x128x128 : Shape := ⟨3, ![4, 128, 128]⟩
abbrev S4x1x128 : Shape := ⟨3, ![4, 1, 128]⟩
abbrev S1x4x128x128 : Shape := ⟨4, ![1, 4, 128, 128]⟩
abbrev S1x1x128 : Shape := ⟨3, ![1, 1, 128]⟩

abbrev nBuf : Space → Nat
  | .hbm => 80
  | .vmem => 25
  | .smem => 0
  | _ => 0

abbrev bufTy : (tb : Table) → Fin (tcTables nBuf tb) → BufTy
  | .hbm, ⟨0, _⟩ => ⟨S9216x5120, .f32⟩
  | .hbm, ⟨1, _⟩ => ⟨S8x128, .f32⟩
  | .hbm, ⟨2, _⟩ => ⟨S8x128, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S128, .f32⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .i1⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S8x1x1, .f32⟩
  | .hbm, ⟨29, _⟩ => ⟨S8x128x128, .f32⟩
  | .hbm, ⟨30, _⟩ => ⟨S8x128x128, .f32⟩
  | .hbm, ⟨31, _⟩ => ⟨S8x128x128, .f32⟩
  | .hbm, ⟨32, _⟩ => ⟨S8x128x128, .f32⟩
  | .hbm, ⟨33, _⟩ => ⟨S_, .f32⟩
  | .hbm, ⟨34, _⟩ => ⟨S_, .f32⟩
  | .hbm, ⟨35, _⟩ => ⟨S8x128x128, .i1⟩
  | .hbm, ⟨36, _⟩ => ⟨S8x128x128, .f32⟩
  | .hbm, ⟨37, _⟩ => ⟨S8x128x128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S8x1, .f32⟩
  | .hbm, ⟨43, _⟩ => ⟨S8x128, .f32⟩
  | .hbm, ⟨44, _⟩ => ⟨S8x128, .f32⟩
  | .hbm, ⟨45, _⟩ => ⟨S8x128, .f32⟩
  | .hbm, ⟨46, _⟩ => ⟨S8x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S8x1, .f32⟩
  | .hbm, ⟨52, _⟩ => ⟨S8x128, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .i1⟩
  | .hbm, ⟨60, _⟩ => ⟨S_, .f32⟩
  | .hbm, ⟨61, _⟩ => ⟨S_, .f32⟩
  | .hbm, ⟨62, _⟩ => ⟨S8x128, .i1⟩
  | .hbm, ⟨63, _⟩ => ⟨S8x128, .f32⟩
  | .hbm, ⟨64, _⟩ => ⟨S8x128, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S8, .f32⟩
  | .hbm, ⟨69, _⟩ => ⟨S8x128x1, .f32⟩
  | .hbm, ⟨70, _⟩ => ⟨S8x128x128, .f32⟩
  | .hbm, ⟨71, _⟩ => ⟨S8x128x1, .f32⟩
  | .hbm, ⟨72, _⟩ => ⟨S8x128x128, .f32⟩
  | .hbm, ⟨73, _⟩ => ⟨S8x1, .f32⟩
  | .hbm, ⟨74, _⟩ => ⟨S8x1x1, .f32⟩
  | .hbm, ⟨75, _⟩ => ⟨S8x1x128, .f32⟩
  | .hbm, ⟨76, _⟩ => ⟨S8x1x128, .f32⟩
  | .hbm, ⟨77, _⟩ => ⟨S8x1x128, .f32⟩
  | .hbm, ⟨78, _⟩ => ⟨S8192x1024, .f32⟩
  | .hbm, ⟨79, _⟩ => ⟨S2x8x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x1x128, .f32⟩
  | .local _ .vmem, ⟨15, _⟩ => ⟨S4x1x128, .f32⟩
  | .local _ .vmem, ⟨16, _⟩ => ⟨S4x1x128, .f32⟩
  | .local _ .vmem, ⟨17, _⟩ => ⟨S4x1x128, .f32⟩
  | .local _ .vmem, ⟨18, _⟩ => ⟨S4x1x128, .f32⟩
  | .local _ .vmem, ⟨19, _⟩ => ⟨S4x1x128, .f32⟩
  | .local _ .vmem, ⟨20, _⟩ => ⟨S128x512, .f32⟩
  | .local _ .vmem, ⟨21, _⟩ => ⟨S128x512, .f32⟩
  | .local _ .vmem, ⟨22, _⟩ => ⟨S1x4x128x128, .f32⟩
  | .local _ .vmem, ⟨23, _⟩ => ⟨S1x4x128x128, .f32⟩
  | .local _ .vmem, ⟨24, _⟩ => ⟨S4x128x128, .f32⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58_0 : Ref sig .tc := ⟨.hbm, 78, rfl⟩
abbrev main_v58_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 2, 32], ![false, false, false]⟩

def k0_cond2 (i : grid0.Coords) : BitVec 1 :=
  let arg2 : BitVec 32 := BitVec.ofNat 32 (i 2).val
  let c31_i32 : BitVec 32 := 31#32
  let v255 : BitVec 1 := Scalar.cmpi .eq arg2 c31_i32
  let v256 : BitVec 32 := Scalar.extui v255
  let c0_i32_165 : BitVec 32 := 0#32
  let v257 : BitVec 1 := Scalar.cmpi .ne v256 c0_i32_165
  v257

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S9216x5120 : Shape := ⟨2, ![9216, 5120]⟩
abbrev S8x128 : Shape := ⟨2, ![8, 128]⟩
abbrev S8192x1024 : Shape := ⟨2, ![8192, 1024]⟩
abbrev S_ : Shape := ⟨0, ![]⟩
abbrev S2x8x128x128 : Shape := ⟨4, ![2, 8, 128, 128]⟩
abbrev S2x32x128x8x128 : Shape := ⟨5, ![2, 32, 128, 8, 128]⟩
abbrev S32x2x128x8x128 : Shape := ⟨5, ![32, 2, 128, 8, 128]⟩
abbrev S1x2x128x8x128 : Shape := ⟨5, ![1, 2, 128, 8, 128]⟩
abbrev S2x128x8x128 : Shape := ⟨4, ![2, 128, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8x128x128 : Shape := ⟨4, ![1, 8, 128, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S2x4096x8x128 : Shape := ⟨4, ![2, 4096, 8, 128]⟩
abbrev S2x4096x1024 : Shape := ⟨3, ![2, 4096, 1024]⟩
abbrev S2x4096x8 : Shape := ⟨3, ![2, 4096, 8]⟩
abbrev S2x4096x8x1 : Shape := ⟨4, ![2, 4096, 8, 1]⟩
abbrev S1x1x8x128 : Shape := ⟨4, ![1, 1, 8, 128]⟩

abbrev nBuf : Space → Nat
  | .hbm => 173
  | .vmem => 0
  | .smem => 0
  | _ => 0

abbrev hbmTy0_0 (i : Nat) : BufTy := match i % 128 with
  | 0 => ⟨S9216x5120, .f32⟩
  | 1 => ⟨S8x128, .f32⟩
  | 2 => ⟨S8x128, .f32⟩
  | 3 => ⟨S8192x1024, .f32⟩
  | 4 => ⟨S8192x1024, .f32⟩
  | 5 => ⟨S8192x1024, .f32⟩
  | 6 => ⟨S_, .f32⟩
  | 7 => ⟨S2x8x128x128, .f32⟩
  | 8 => ⟨S2x32x128x8x128, .f32⟩
  | 9 => ⟨S32x2x128x8x128, .f32⟩
  | 10 => ⟨S2x32x128x8x128, .f32⟩
  | 11 => ⟨S32x2x128x8x128, .f32⟩
  | 12 => ⟨S2x32x128x8x128, .f32⟩
  | 13 => ⟨S32x2x128x8x128, .f32⟩
  | 14 => ⟨S_, .f32⟩
  | 15 => ⟨S32x2x128x8x128, .f32⟩
  | 16 => ⟨S_, .i32⟩
  | 17 => ⟨S32x2x128x8x128, .f32⟩
  | 18 => ⟨S32x2x128x8x128, .f32⟩
  | 19 => ⟨S32x2x128x8x128, .f32⟩
  | 20 => ⟨S_, .i32⟩
  | 21 => ⟨S2x8x128x128, .f32⟩
  | 22 => ⟨S32x2x128x8x128, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1x2x128x8x128, .f32⟩
  | 30 => ⟨S2x128x8x128, .f32⟩
  | 31 => ⟨S_, .i32⟩
  | 32 => ⟨S_, .i32⟩
  | 33 => ⟨S_, .i32⟩
  | 34 => ⟨S_, .i32⟩
  | 35 => ⟨S1x2x128x8x128, .f32⟩
  | 36 => ⟨S2x128x8x128, .f32⟩
  | 37 => ⟨S_, .i32⟩
  | 38 => ⟨S_, .i32⟩
  | 39 => ⟨S_, .i32⟩
  | 40 => ⟨S_, .i32⟩
  | 41 => ⟨S1x2x128x8x128, .f32⟩
  | 42 => ⟨S2x128x8x128, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S128, .f32⟩
  | 56 => ⟨S128x1, .f32⟩
  | 57 => ⟨S1x128, .f32⟩
  | 58 => ⟨S128x128, .f32⟩
  | 59 => ⟨S128x128, .f32⟩
  | 60 => ⟨S128x128, .f32⟩
  | 61 => ⟨S_, .f32⟩
  | 62 => ⟨S128x128, .f32⟩
  | 63 => ⟨S128x128, .i1⟩
  | 64 => ⟨S_, .f32⟩
  | 65 => ⟨S128x128, .f32⟩
  | 66 => ⟨S128x128, .f32⟩
  | 67 => ⟨S1x128x128, .f32⟩
  | 68 => ⟨S8x1x1, .f32⟩
  | 69 => ⟨S8x128x128, .f32⟩
  | 70 => ⟨S8x128x128, .f32⟩
  | 71 => ⟨S8x128x128, .f32⟩
  | 72 => ⟨S8x128x128, .f32⟩
  | 73 => ⟨S_, .f32⟩
  | 74 => ⟨S_, .f32⟩
  | 75 => ⟨S8x128x128, .i1⟩
  | 76 => ⟨S8x128x128, .f32⟩
  | 77 => ⟨S8x128x128, .f32⟩
  | 78 => ⟨S2x8x128x128, .f32⟩
  | 79 => ⟨S1x8x128x128, .f32⟩
  | 80 => ⟨S2x8x128x128, .f32⟩
  | 81 => ⟨S2x8x128x128, .f32⟩
  | 82 => ⟨S2x8x128x128, .f32⟩
  | 83 => ⟨S2x128x8x128, .f32⟩
  | 84 => ⟨S_, .f32⟩
  | 85 => ⟨S128, .f32⟩
  | 86 => ⟨S128, .f32⟩
  | 87 => ⟨S128x1, .f32⟩
  | 88 => ⟨S1x8, .f32⟩
  | 89 => ⟨S128x8, .f32⟩
  | 90 => ⟨S128x8, .f32⟩
  | 91 => ⟨S128x8, .f32⟩
  | 92 => ⟨S128x8, .f32⟩
  | 93 => ⟨S2x8x128x128, .f32⟩
  | 94 => ⟨S2x128x8x128, .f32⟩
  | 95 => ⟨S1x128x8x1, .f32⟩
  | 96 => ⟨S2x128x8x128, .f32⟩
  | 97 => ⟨S2x128x8x128, .f32⟩
  | 98 => ⟨S2x128x8x128, .f32⟩
  | 99 => ⟨S_, .f32⟩
  | 100 => ⟨S128, .f32⟩
  | 101 => ⟨S128, .f32⟩
  | 102 => ⟨S128x1, .f32⟩
  | 103 => ⟨S1x8, .f32⟩
  | 104 => ⟨S128x8, .f32⟩
  | 105 => ⟨S128x8, .f32⟩
  | 106 => ⟨S128x8, .f32⟩
  | 107 => ⟨S128x8, .f32⟩
  | 108 => ⟨S_, .f32⟩
  | 109 => ⟨S8, .f32⟩
  | 110 => ⟨S8, .f32⟩
  | 111 => ⟨S8, .f32⟩
  | 112 => ⟨S1x8x1x1, .f32⟩
  | 113 => ⟨S2x8x128x128, .f32⟩
  | 114 => ⟨S2x8x128x128, .f32⟩
  | 115 => ⟨S1x128x8x1, .f32⟩
  | 116 => ⟨S2x128x8x128, .f32⟩
  | 117 => ⟨S2x128x8x128, .f32⟩
  | 118 => ⟨S2x8x128x128, .f32⟩
  | 119 => ⟨S2x8x128x128, .f32⟩
  | 120 => ⟨S1x2x128x8x128, .f32⟩
  | 121 => ⟨S_, .i32⟩
  | 122 => ⟨S_, .i32⟩
  | 123 => ⟨S_, .i32⟩
  | 124 => ⟨S_, .i32⟩
  | 125 => ⟨S32x2x128x8x128, .f32⟩
  | 126 => ⟨S_, .i32⟩
  | 127 => ⟨S_, .i32⟩
  | _ => ⟨S9216x5120, .f32⟩

abbrev hbmTy0_1 (i : Nat) : BufTy := match i % 128 with
  | 0 => ⟨S2x32x128x8x128, .f32⟩
  | 1 => ⟨S2x4096x8x128, .f32⟩
  | 2 => ⟨S8192x1024, .f32⟩
  | 3 => ⟨S2x4096x1024, .f32⟩
  | 4 => ⟨S_, .f32⟩
  | 5 => ⟨S2x4096x8, .f32⟩
  | 6 => ⟨S2x4096x8x1, .f32⟩
  | 7 => ⟨S_, .f32⟩
  | 8 => ⟨S2x4096x8x1, .f32⟩
  | 9 => ⟨S2x4096x8x1, .f32⟩
  | 10 => ⟨S2x4096x8x128, .f32⟩
  | 11 => ⟨S2x4096x8x128, .f32⟩
  | 12 => ⟨S2x4096x8x128, .f32⟩
  | 13 => ⟨S_, .f32⟩
  | 14 => ⟨S2x4096x8, .f32⟩
  | 15 => ⟨S2x4096x8x1, .f32⟩
  | 16 => ⟨S_, .f32⟩
  | 17 => ⟨S2x4096x8x1, .f32⟩
  | 18 => ⟨S2x4096x8x1, .f32⟩
  | 19 => ⟨S2x4096x8x128, .f32⟩
  | 20 => ⟨S2x4096x8x128, .f32⟩
  | 21 => ⟨S_, .f32⟩
  | 22 => ⟨S2x4096x8x1, .f32⟩
  | 23 => ⟨S2x4096x8x1, .f32⟩
  | 24 => ⟨S2x4096x8x1, .f32⟩
  | 25 => ⟨S2x4096x8x128, .f32⟩
  | 26 => ⟨S2x4096x8x128, .f32⟩
  | 27 => ⟨S1x1x8x128, .f32⟩
  | 28 => ⟨S2x4096x8x128, .f32⟩
  | 29 => ⟨S2x4096x8x128, .f32⟩
  | 30 => ⟨S1x1x8x128, .f32⟩
  | 31 => ⟨S2x4096x8x128, .f32⟩
  | 32 => ⟨S2x4096x8x128, .f32⟩
  | 33 => ⟨S2x4096x1024, .f32⟩
  | 34 => ⟨S2x4096x1024, .f32⟩
  | 35 => ⟨S2x4096x1024, .f32⟩
  | 36 => ⟨S_, .f32⟩
  | 37 => ⟨S2x4096x1024, .f32⟩
  | 38 => ⟨S2x4096x1024, .f32⟩
  | 39 => ⟨S_, .f32⟩
  | 40 => ⟨S2x4096x1024, .f32⟩
  | 41 => ⟨S2x4096x1024, .f32⟩
  | 42 => ⟨S2x4096x1024, .f32⟩
  | 43 => ⟨S2x4096x1024, .f32⟩
  | 44 => ⟨S8192x1024, .f32⟩
  | _ => ⟨S9216x5120, .f32⟩

abbrev hbmTy (i : Nat) : BufTy := match i / 128 with
  | 0 => hbmTy0_0 i
  | 1 => hbmTy0_1 i
  | _ => ⟨S9216x5120, .f32⟩

abbrev bufTy : (tb : Table) → Fin (tcTables nBuf tb) → BufTy
  | .hbm, ⟨i, _⟩ => hbmTy i
  | _, _ => ⟨S9216x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_c : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev main_while0c_c_11 : Ref sig .tc := ⟨.hbm, 23, rfl⟩
abbrev main_while0c_v44 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_c_1 : Ref sig .tc := ⟨.hbm, 27, rfl⟩
abbrev main_while0b_call0_c_2 : Ref sig .tc := ⟨.hbm, 28, rfl⟩
abbrev main_while0b_call0_v0 : Ref sig .tc := ⟨.hbm, 29, rfl⟩
abbrev main_while0b_v44 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_c_1 : Ref sig .tc := ⟨.hbm, 33, rfl⟩
abbrev main_while0b_call1_c_2 : Ref sig .tc := ⟨.hbm, 34, rfl⟩
abbrev main_while0b_call1_v0 : Ref sig .tc := ⟨.hbm, 35, rfl⟩
abbrev main_while0b_v45 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_c_2 : Ref sig .tc := ⟨.hbm, 40, rfl⟩
abbrev main_while0b_call2_v0 : Ref sig .tc := ⟨.hbm, 41, rfl⟩
abbrev main_while0b_v46 : Ref sig .tc := ⟨.hbm, 42, rfl⟩
abbrev main_while0b_v47 : Ref sig .tc := ⟨.hbm, 43, rfl⟩
abbrev main_while0b_cst_11 : Ref sig .tc := ⟨.hbm, 44, rfl⟩
abbrev main_while0b_v48 : Ref sig .tc := ⟨.hbm, 45, rfl⟩
abbrev main_while0b_v49 : Ref sig .tc := ⟨.hbm, 46, rfl⟩
abbrev main_while0b_cst_12 : Ref sig .tc := ⟨.hbm, 47, rfl⟩
abbrev main_while0b_v50 : Ref sig .tc := ⟨.hbm, 48, rfl⟩
abbrev main_while0b_v51 : Ref sig .tc := ⟨.hbm, 49, rfl⟩
abbrev main_while0b_v52 : Ref sig .tc := ⟨.hbm, 50, rfl⟩
abbrev main_while0b_cst_13 : Ref sig .tc := ⟨.hbm, 51, rfl⟩
abbrev main_while0b_v53 : Ref sig .tc := ⟨.hbm, 52, rfl⟩
abbrev main_while0b_v54 : Ref sig .tc := ⟨.hbm, 53, rfl⟩
abbrev main_while0b_v55 : Ref sig .tc := ⟨.hbm, 54, rfl⟩
abbrev main_while0b_v56 : Ref sig .tc := ⟨.hbm, 55, rfl⟩
abbrev main_while0b_v57 : Ref sig .tc := ⟨.hbm, 56, rfl⟩
abbrev main_while0b_v58 : Ref sig .tc := ⟨.hbm, 57, rfl⟩
abbrev main_while0b_v59 : Ref sig .tc := ⟨.hbm, 58, rfl⟩
abbrev main_while0b_v60 : Ref sig .tc := ⟨.hbm, 59, rfl⟩
abbrev main_while0b_v61 : Ref sig .tc := ⟨.hbm, 60, rfl⟩
abbrev main_while0b_cst_14 : Ref sig .tc := ⟨.hbm, 61, rfl⟩
abbrev main_while0b_v62 : Ref sig .tc := ⟨.hbm, 62, rfl⟩
abbrev main_while0b_v63 : Ref sig .tc := ⟨.hbm, 63, rfl⟩
abbrev main_while0b_cst_15 : Ref sig .tc := ⟨.hbm, 64, rfl⟩
abbrev main_while0b_v64 : Ref sig .tc := ⟨.hbm, 65, rfl⟩
abbrev main_while0b_v65 : Ref sig .tc := ⟨.hbm, 66, rfl⟩
abbrev main_while0b_v66 : Ref sig .tc := ⟨.hbm, 67, rfl⟩
abbrev main_while0b_v67 : Ref sig .tc := ⟨.hbm, 68, rfl⟩
abbrev main_while0b_v68 : Ref sig .tc := ⟨.hbm, 69, rfl⟩
abbrev main_while0b_v69 : Ref sig .tc := ⟨.hbm, 70, rfl⟩
abbrev main_while0b_v70 : Ref sig .tc := ⟨.hbm, 71, rfl⟩
abbrev main_while0b_v71 : Ref sig .tc := ⟨.hbm, 72, rfl⟩
abbrev main_while0b_cst_16 : Ref sig .tc := ⟨.hbm, 73, rfl⟩
abbrev main_while0b_call3_v0 : Ref sig .tc := ⟨.hbm, 74, rfl⟩
abbrev main_while0b_call3_v1 : Ref sig .tc := ⟨.hbm, 75, rfl⟩
abbrev main_while0b_call3_v2 : Ref sig .tc := ⟨.hbm, 76, rfl⟩
abbrev main_while0b_v72 : Ref sig .tc := ⟨.hbm, 77, rfl⟩
abbrev main_while0b_v73 : Ref sig .tc := ⟨.hbm, 78, rfl⟩
abbrev main_while0b_v74 : Ref sig .tc := ⟨.hbm, 79, rfl⟩
abbrev main_while0b_v75 : Ref sig .tc := ⟨.hbm, 80, rfl⟩
abbrev main_while0b_v76 : Ref sig .tc := ⟨.hbm, 81, rfl⟩
abbrev main_while0b_v77 : Ref sig .tc := ⟨.hbm, 82, rfl⟩
abbrev main_while0b_v78 : Ref sig .tc := ⟨.hbm, 83, rfl⟩
abbrev main_while0b_cst_17 : Ref sig .tc := ⟨.hbm, 84, rfl⟩
abbrev main_while0b_v79 : Ref sig .tc := ⟨.hbm, 85, rfl⟩
abbrev main_while0b_v80 : Ref sig .tc := ⟨.hbm, 86, rfl⟩
abbrev main_while0b_v81 : Ref sig .tc := ⟨.hbm, 87, rfl⟩
abbrev main_while0b_v82 : Ref sig .tc := ⟨.hbm, 88, rfl⟩
abbrev main_while0b_v83 : Ref sig .tc := ⟨.hbm, 89, rfl⟩
abbrev main_while0b_v84 : Ref sig .tc := ⟨.hbm, 90, rfl⟩
abbrev main_while0b_v85 : Ref sig .tc := ⟨.hbm, 91, rfl⟩
abbrev main_while0b_v86 : Ref sig .tc := ⟨.hbm, 92, rfl⟩
abbrev main_while0b_v87 : Ref sig .tc := ⟨.hbm, 93, rfl⟩
abbrev main_while0b_v88 : Ref sig .tc := ⟨.hbm, 94, rfl⟩
abbrev main_while0b_v89 : Ref sig .tc := ⟨.hbm, 95, rfl⟩
abbrev main_while0b_v90 : Ref sig .tc := ⟨.hbm, 96, rfl⟩
abbrev main_while0b_v91 : Ref sig .tc := ⟨.hbm, 97, rfl⟩
abbrev main_while0b_v92 : Ref sig .tc := ⟨.hbm, 98, rfl⟩
abbrev main_while0b_cst_18 : Ref sig .tc := ⟨.hbm, 99, rfl⟩
abbrev main_while0b_v93 : Ref sig .tc := ⟨.hbm, 100, rfl⟩
abbrev main_while0b_v94 : Ref sig .tc := ⟨.hbm, 101, rfl⟩
abbrev main_while0b_v95 : Ref sig .tc := ⟨.hbm, 102, rfl⟩
abbrev main_while0b_v96 : Ref sig .tc := ⟨.hbm, 103, rfl⟩
abbrev main_while0b_v97 : Ref sig .tc := ⟨.hbm, 104, rfl⟩
abbrev main_while0b_v98 : Ref sig .tc := ⟨.hbm, 105, rfl⟩
abbrev main_while0b_v99 : Ref sig .tc := ⟨.hbm, 106, rfl⟩
abbrev main_while0b_v100 : Ref sig .tc := ⟨.hbm, 107, rfl⟩
abbrev main_while0b_cst_19 : Ref sig .tc := ⟨.hbm, 108, rfl⟩
abbrev main_while0b_v101 : Ref sig .tc := ⟨.hbm, 109, rfl⟩
abbrev main_while0b_v102 : Ref sig .tc := ⟨.hbm, 110, rfl⟩
abbrev main_while0b_v103 : Ref sig .tc := ⟨.hbm, 111, rfl⟩
abbrev main_while0b_v104 : Ref sig .tc := ⟨.hbm, 112, rfl⟩
abbrev main_while0b_v105 : Ref sig .tc := ⟨.hbm, 113, rfl⟩
abbrev main_while0b_v106 : Ref sig .tc := ⟨.hbm, 114, rfl⟩
abbrev main_while0b_v107 : Ref sig .tc := ⟨.hbm, 115, rfl⟩
abbrev main_while0b_v108 : Ref sig .tc := ⟨.hbm, 116, rfl⟩
abbrev main_while0b_v109 : Ref sig .tc := ⟨.hbm, 117, rfl⟩
abbrev main_while0b_v110 : Ref sig .tc := ⟨.hbm, 118, rfl⟩
abbrev main_while0b_v111 : Ref sig .tc := ⟨.hbm, 119, rfl⟩
abbrev main_while0b_call4_v0 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_c_2 : Ref sig .tc := ⟨.hbm, 124, rfl⟩
abbrev main_while0b_v112 : Ref sig .tc := ⟨.hbm, 125, rfl⟩
abbrev main_while0b_c_20 : Ref sig .tc := ⟨.hbm, 126, rfl⟩
abbrev main_while0b_v113 : Ref sig .tc := ⟨.hbm, 127, rfl⟩
abbrev main_v12 : Ref sig .tc := ⟨.hbm, 128, rfl⟩
abbrev main_v13 : Ref sig .tc := ⟨.hbm, 129, rfl⟩
abbrev main_v14 : Ref sig .tc := ⟨.hbm, 130, rfl⟩
abbrev main_v15 : Ref sig .tc := ⟨.hbm, 131, rfl⟩
abbrev main_cst_1 : Ref sig .tc := ⟨.hbm, 132, rfl⟩
abbrev main_v16 : Ref sig .tc := ⟨.hbm, 133, rfl⟩
abbrev main_v17 : Ref sig .tc := ⟨.hbm, 134, rfl⟩
abbrev main_cst_2 : Ref sig .tc := ⟨.hbm, 135, rfl⟩
abbrev main_v18 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_cst_3 : Ref sig .tc := ⟨.hbm, 141, rfl⟩
abbrev main_v23 : Ref sig .tc := ⟨.hbm, 142, rfl⟩
abbrev main_v24 : Ref sig .tc := ⟨.hbm, 143, rfl⟩
abbrev main_cst_4 : Ref sig .tc := ⟨.hbm, 144, rfl⟩
abbrev main_v25 : Ref sig .tc := ⟨.hbm, 145, rfl⟩
abbrev main_v26 : Ref sig .tc := ⟨.hbm, 146, rfl⟩
abbrev main_v27 : Ref sig .tc := ⟨.hbm, 147, rfl⟩
abbrev main_v28 : Ref sig .tc := ⟨.hbm, 148, rfl⟩
abbrev main_cst_5 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v41 : Ref sig .tc := ⟨.hbm, 170, rfl⟩
abbrev main_v42 : Ref sig .tc := ⟨.hbm, 171, rfl⟩
abbrev main_v43 : Ref sig .tc := ⟨.hbm, 172, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S9216x2048 : Shape := ⟨2, ![9216, 2048]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S768x2048 : Shape := ⟨2, ![768, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S768x512 : Shape := ⟨2, ![768, 512]⟩
abbrev S512x2048 : Shape := ⟨2, ![512, 2048]⟩
abbrev S768 : Shape := ⟨1, ![768]⟩
abbrev S768x1 : Shape := ⟨2, ![768, 1]⟩

abbrev nBuf : Space → Nat
  | .hbm => 16
  | .vmem => 14
  | .smem => 0
  | _ => 0

abbrev bufTy : (tb : Table) → Fin (tcTables nBuf tb) → BufTy
  | .hbm, ⟨0, _⟩ => ⟨S9216x2048, .f32⟩
  | .hbm, ⟨1, _⟩ => ⟨S2x2x2048x5632, .f32⟩
  | .hbm, ⟨2, _⟩ => ⟨S2x2x2048x5632, .f32⟩
  | .hbm, ⟨3, _⟩ => ⟨S2x2x5632x2048, .f32⟩
  | .hbm, ⟨4, _⟩ => ⟨S2x3x2048, .f32⟩
  | .hbm, ⟨5, _⟩ => ⟨S2x3x2048, .f32⟩
  | .hbm, ⟨6, _⟩ => ⟨S2x2x2048x5632, .bf16⟩
  | .hbm, ⟨7, _⟩ => ⟨S2x2x2048x5632, .bf16⟩
  | .hbm, ⟨8, _⟩ => ⟨S2x2x5632x2048, .bf16⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S9216x2048, .f32⟩
  | .local _ .vmem, ⟨0, _⟩ => ⟨S768x2048, .f32⟩
  | .local _ .vmem, ⟨1, _⟩ => ⟨S768x2048, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S1x2048, .f32⟩
  | .local _ .vmem, ⟨9, _⟩ => ⟨S1x2048, .f32⟩
  | .local _ .vmem, ⟨10, _⟩ => ⟨S768x2048, .f32⟩
  | .local _ .vmem, ⟨11, _⟩ => ⟨S768x2048, .f32⟩
  | .local _ .vmem, ⟨12, _⟩ => ⟨S768x2048, .bf16⟩
  | .local _ .vmem, ⟨13, _⟩ => ⟨S768x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S9216x2048 : Shape := ⟨2, ![9216, 2048]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S9216x5632 : Shape := ⟨2, ![9216, 5632]⟩
abbrev S_ : Shape := ⟨0, ![]⟩
abbrev S9216 : Shape := ⟨1, ![9216]⟩
abbrev S9216x1 : Shape := ⟨2, ![9216, 1]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x2x2048x5632, .f32⟩
  | .hbm, ⟨2, _⟩ => ⟨S2x2x2048x5632, .f32⟩
  | .hbm, ⟨3, _⟩ => ⟨S2x2x5632x2048, .f32⟩
  | .hbm, ⟨4, _⟩ => ⟨S2x3x2048, .f32⟩
  | .hbm, ⟨5, _⟩ => ⟨S2x3x2048, .f32⟩
  | .hbm, ⟨6, _⟩ => ⟨S1x1x2048x5632, .f32⟩
  | .hbm, ⟨7, _⟩ => ⟨S2048x5632, .f32⟩
  | .hbm, ⟨8, _⟩ => ⟨S1x1x2048x5632, .f32⟩
  | .hbm, ⟨9, _⟩ => ⟨S2048x5632, .f32⟩
  | .hbm, ⟨10, _⟩ => ⟨S1x1x5632x2048, .f32⟩
  | .hbm, ⟨11, _⟩ => ⟨S5632x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S9216x5632, .f32⟩
  | .hbm, ⟨17, _⟩ => ⟨S9216x5632, .f32⟩
  | .hbm, ⟨18, _⟩ => ⟨S9216x5632, .f32⟩
  | .hbm, ⟨19, _⟩ => ⟨S_, .f32⟩
  | .hbm, ⟨20, _⟩ => ⟨S9216x5632, .f32⟩
  | .hbm, ⟨21, _⟩ => ⟨S9216x5632, .f32⟩
  | .hbm, ⟨22, _⟩ => ⟨S_, .f32⟩
  | .hbm, ⟨23, _⟩ => ⟨S9216x5632, .f32⟩
  | .hbm, ⟨24, _⟩ => ⟨S9216x5632, .f32⟩
  | .hbm, ⟨25, _⟩ => ⟨S9216x5632, .f32⟩
  | .hbm, ⟨26, _⟩ => ⟨S9216x5632, .f32⟩
  | .hbm, ⟨27, _⟩ => ⟨S9216x5632, .f32⟩
  | .hbm, ⟨28, _⟩ => ⟨S9216x2048, .f32⟩
  | .hbm, ⟨29, _⟩ => ⟨S_, .f32⟩
  | .hbm, ⟨30, _⟩ => ⟨S9216x2048, .f32⟩
  | .hbm, ⟨31, _⟩ => ⟨S9216x2048, .f32⟩
  | .hbm, ⟨32, _⟩ => ⟨S_, .f32⟩
  | .hbm, ⟨33, _⟩ => ⟨S9216x2048, .f32⟩
  | .hbm, ⟨34, _⟩ => ⟨S9216x2048, .f32⟩
  | .hbm, ⟨35, _⟩ => ⟨S9216x2048, .f32⟩
  | .hbm, ⟨36, _⟩ => ⟨S_, .f32⟩
  | .hbm, ⟨37, _⟩ => ⟨S9216, .f32⟩
  | .hbm, ⟨38, _⟩ => ⟨S9216x1, .f32⟩
  | .hbm, ⟨39, _⟩ => ⟨S_, .f32⟩
  | .hbm, ⟨40, _⟩ => ⟨S9216x1, .f32⟩
  | .hbm, ⟨41, _⟩ => ⟨S9216x1, .f32⟩
  | .hbm, ⟨42, _⟩ => ⟨S9216x2048, .f32⟩
  | .hbm, ⟨43, _⟩ => ⟨S9216x2048, .f32⟩
  | .hbm, ⟨44, _⟩ => ⟨S9216x2048, .f32⟩
  | .hbm, ⟨45, _⟩ => ⟨S_, .f32⟩
  | .hbm, ⟨46, _⟩ => ⟨S9216, .f32⟩
  | .hbm, ⟨47, _⟩ => ⟨S9216x1, .f32⟩
  | .hbm, ⟨48, _⟩ => ⟨S_, .f32⟩
  | .hbm, ⟨49, _⟩ => ⟨S9216x1, .f32⟩
  | .hbm, ⟨50, _⟩ => ⟨S9216x1, .f32⟩
  | .hbm, ⟨51, _⟩ => ⟨S9216x2048, .f32⟩
  | .hbm, ⟨52, _⟩ => ⟨S9216x2048, .f32⟩
  | .hbm, ⟨53, _⟩ => ⟨S_, .f32⟩
  | .hbm, ⟨54, _⟩ => ⟨S9216x1, .f32⟩
  | .hbm, ⟨55, _⟩ => ⟨S9216x1, .f32⟩
  | .hbm, ⟨56, _⟩ => ⟨S9216x1, .f32⟩
  | .hbm, ⟨57, _⟩ => ⟨S9216x2048, .f32⟩
  | .hbm, ⟨58, _⟩ => ⟨S9216x2048, .f32⟩
  | .hbm, ⟨59, _⟩ => ⟨S1x2048, .f32⟩
  | .hbm, ⟨60, _⟩ => ⟨S9216x2048, .f32⟩
  | .hbm, ⟨61, _⟩ => ⟨S9216x2048, .f32⟩
  | .hbm, ⟨62, _⟩ => ⟨S1x2048, .f32⟩
  | .hbm, ⟨63, _⟩ => ⟨S9216x2048, .f32⟩
  | .hbm, ⟨64, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S9216x2048 : Shape := ⟨2, ![9216, 2048]⟩
abbrev S1x2048x3072 : Shape := ⟨3, ![1, 2048, 3072]⟩
abbrev S2048x3072 : Shape := ⟨2, ![2048, 3072]⟩
abbrev S9216x3072 : Shape := ⟨2, ![9216, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S1x2048x3072, .f32⟩
  | .hbm, ⟨2, _⟩ => ⟨S2048x3072, .f32⟩
  | .hbm, ⟨3, _⟩ => ⟨S2048x3072, .bf16⟩
  | .hbm, ⟨4, _⟩ => ⟨S9216x3072, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S9216x2048 : Shape := ⟨2, ![9216, 2048]⟩
abbrev S1x2048x3072 : Shape := ⟨3, ![1, 2048, 3072]⟩
abbrev S2048x3072 : Shape := ⟨2, ![2048, 3072]⟩
abbrev S9216x3072 : Shape := ⟨2, ![9216, 3072]⟩

abbrev nBuf : Space → Nat
  | .hbm => 4
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048x3072, .f32⟩
  | .hbm, ⟨2, _⟩ => ⟨S2048x3072, .f32⟩
  | .hbm, ⟨3, _⟩ => ⟨S9216x3072, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S9216x2048 : Shape := ⟨2, ![9216, 2048]⟩
abbrev S1x2048x5184 : Shape := ⟨3, ![1, 2048, 5184]⟩
abbrev S1x512 : Shape := ⟨2, ![1, 512]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S9216x1 : Shape := ⟨2, ![9216, 1]⟩
abbrev S63 : Shape := ⟨1, ![63]⟩
abbrev S1 : Shape := ⟨1, ![1]⟩
abbrev S64 : Shape := ⟨1, ![64]⟩
abbrev S1x64 : Shape := ⟨2, ![1, 64]⟩
abbrev S9216x64 : Shape := ⟨2, ![9216, 64]⟩
abbrev S9216x128 : Shape := ⟨2, ![9216, 128]⟩
abbrev S32 : Shape := ⟨1, ![32]⟩
abbrev S1x32 : Shape := ⟨2, ![1, 32]⟩
abbrev S9216x32 : Shape := ⟨2, ![9216, 32]⟩
abbrev S2048x5184 : Shape := ⟨2, ![2048, 5184]⟩
abbrev S2048x5120 : Shape := ⟨2, ![2048, 5120]⟩
abbrev S512 : Shape := ⟨1, ![512]⟩
abbrev S9216x5120 : Shape := ⟨2, ![9216, 5120]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 91
  | .vmem => 13
  | .smem => 0
  | _ => 0

abbrev bufTy : (tb : Table) → Fin (tcTables nBuf tb) → BufTy
  | .hbm, ⟨0, _⟩ => ⟨S9216x2048, .f32⟩
  | .hbm, ⟨1, _⟩ => ⟨S1x2048x5184, .f32⟩
  | .hbm, ⟨2, _⟩ => ⟨S1x512, .f32⟩
  | .hbm, ⟨3, _⟩ => ⟨S1x512, .f32⟩
  | .hbm, ⟨4, _⟩ => ⟨S4096, .i32⟩
  | .hbm, ⟨5, _⟩ => ⟨S1x4096, .i32⟩
  | .hbm, ⟨6, _⟩ => ⟨S2x4096, .i32⟩
  | .hbm, ⟨7, _⟩ => ⟨S8192, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S1x8, .i32⟩
  | .hbm, ⟨13, _⟩ => ⟨S128x8, .i32⟩
  | .hbm, ⟨14, _⟩ => ⟨S1024, .i32⟩
  | .hbm, ⟨15, _⟩ => ⟨S9216, .i32⟩
  | .hbm, ⟨16, _⟩ => ⟨S9216, .f32⟩
  | .hbm, ⟨17, _⟩ => ⟨S9216x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S63, .f32⟩
  | .hbm, ⟨26, _⟩ => ⟨S_, .f32⟩
  | .hbm, ⟨27, _⟩ => ⟨S63, .f32⟩
  | .hbm, ⟨28, _⟩ => ⟨S63, .f32⟩
  | .hbm, ⟨29, _⟩ => ⟨S1, .f32⟩
  | .hbm, ⟨30, _⟩ => ⟨S_, .f32⟩
  | .hbm, ⟨31, _⟩ => ⟨S63, .f32⟩
  | .hbm, ⟨32, _⟩ => ⟨S63, .f32⟩
  | .hbm, ⟨33, _⟩ => ⟨S63, .f32⟩
  | .hbm, ⟨34, _⟩ => ⟨S63, .f32⟩
  | .hbm, ⟨35, _⟩ => ⟨S1, .f32⟩
  | .hbm, ⟨36, _⟩ => ⟨S63, .f32⟩
  | .hbm, ⟨37, _⟩ => ⟨S63, .f32⟩
  | .hbm, ⟨38, _⟩ => ⟨S63, .f32⟩
  | .hbm, ⟨39, _⟩ => ⟨S1, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S9216x64, .f32⟩
  | .hbm, ⟨49, _⟩ => ⟨S9216x64, .f32⟩
  | .hbm, ⟨50, _⟩ => ⟨S9216x64, .f32⟩
  | .hbm, ⟨51, _⟩ => ⟨S9216x64, .f32⟩
  | .hbm, ⟨52, _⟩ => ⟨S9216x64, .f32⟩
  | .hbm, ⟨53, _⟩ => ⟨S9216x128, .f32⟩
  | .hbm, ⟨54, _⟩ => ⟨S9216x64, .f32⟩
  | .hbm, ⟨55, _⟩ => ⟨S9216x128, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S1x32, .f32⟩
  | .hbm, ⟨73, _⟩ => ⟨S9216x32, .f32⟩
  | .hbm, ⟨74, _⟩ => ⟨S9216x32, .f32⟩
  | .hbm, ⟨75, _⟩ => ⟨S9216x32, .f32⟩
  | .hbm, ⟨76, _⟩ => ⟨S9216x32, .f32⟩
  | .hbm, ⟨77, _⟩ => ⟨S9216x32, .f32⟩
  | .hbm, ⟨78, _⟩ => ⟨S_, .f32⟩
  | .hbm, ⟨79, _⟩ => ⟨S9216x64, .f32⟩
  | .hbm, ⟨80, _⟩ => ⟨S9216x128, .f32⟩
  | .hbm, ⟨81, _⟩ => ⟨S9216x32, .f32⟩
  | .hbm, ⟨82, _⟩ => ⟨S9216x128, .f32⟩
  | .hbm, ⟨83, _⟩ => ⟨S2048x5184, .f32⟩
  | .hbm, ⟨84, _⟩ => ⟨S2048x5120, .f32⟩
  | .hbm, ⟨85, _⟩ => ⟨S2048x5120, .bf16⟩
  | .hbm, ⟨86, _⟩ => ⟨S512, .f32⟩
  | .hbm, ⟨87, _⟩ => ⟨S512, .f32⟩
  | .hbm, ⟨88, _⟩ => ⟨S1x512, .f32⟩
  | .hbm, ⟨89, _⟩ => ⟨S1x512, .f32⟩
  | .hbm, ⟨90, _⟩ => ⟨S9216x5120, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![9, 10], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let c4_i32 : BitVec 32 := 4#32
  let v11 : BitVec 1 := Scalar.cmpi .slt arg1 c4_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c4_i32_7 : BitVec 32 := 4#32
  let v15 : BitVec 1 := Scalar.cmpi .sge arg1 c4_i32_7
  let c8_i32 : BitVec 32 := 8#32
  let v16 : BitVec 1 := Scalar.cmpi .slt arg1 c8_i32
  let v17 : BitVec 1 := Scalar.andi v15 v16
  let v18 : BitVec 32 := Scalar.extui v17
  let c0_i32_8 : BitVec 32 := 0#32
  let v19 : BitVec 1 := Scalar.cmpi .ne v18 c0_i32_8
  v19

def k0_cond5 (i : grid0.Coords) : BitVec 1 :=
  let arg1 : BitVec 32 := BitVec.ofNat 32 (i 1).val
  let c8_i32_9 : BitVec 32 := 8#32
  let v20 : BitVec 1 := Scalar.cmpi .eq arg1 c8_i32_9
  let v21 : BitVec 32 := Scalar.extui v20
  let c0_i32_10 : BitVec 32 := 0#32
  let v22 : BitVec 1 := Scalar.cmpi .ne v21 c0_i32_10
  v22

def k0_cond6 (i : grid0.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S9216x2048 : Shape := ⟨2, ![9216, 2048]⟩
abbrev S1x2048x5184 : Shape := ⟨3, ![1, 2048, 5184]⟩
abbrev S1x512 : Shape := ⟨2, ![1, 512]⟩
abbrev S8192x2048 : Shape := ⟨2, ![8192, 2048]⟩
abbrev S2x4096x2048 : Shape := ⟨3, ![2, 4096, 2048]⟩
abbrev S1024x2048 : Shape := ⟨2, ![1024, 2048]⟩
abbrev S128x8x2048 : Shape := ⟨3, ![128, 8, 2048]⟩
abbrev S4096 : Shape := ⟨1, ![4096]⟩
abbrev S2048x5184 : Shape := ⟨2, ![2048, 5184]⟩
abbrev S512 : Shape := ⟨1, ![512]⟩
abbrev S2x4096x5184 : Shape := ⟨3, ![2, 4096, 5184]⟩
abbrev S2x4096x1024 : Shape := ⟨3, ![2, 4096, 1024]⟩
abbrev S2x4096x512 : Shape := ⟨3, ![2, 4096, 512]⟩
abbrev S2x4096x64 : Shape := ⟨3, ![2, 4096, 64]⟩
abbrev S_ : Shape := ⟨0, ![]⟩
abbrev S63 : Shape := ⟨1, ![63]⟩
abbrev S1 : Shape := ⟨1, ![1]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x128 : Shape := ⟨4, ![2, 4096, 8, 128]⟩
abbrev S2x4096x8x64 : Shape := ⟨4, ![2, 4096, 8, 64]⟩
abbrev S1x4096x1x64 : Shape := ⟨4, ![1, 4096, 1, 64]⟩
abbrev S2x4096 : Shape := ⟨2, ![2, 4096]⟩
abbrev S2x4096x1 : Shape := ⟨3, ![2, 4096, 1]⟩
abbrev S1x1x512 : Shape := ⟨3, ![1, 1, 512]⟩
abbrev S8192x1024 : Shape := ⟨2, ![8192, 1024]⟩
abbrev S8192x512 : Shape := ⟨2, ![8192, 512]⟩
abbrev S8192x5120 : Shape := ⟨2, ![8192, 5120]⟩
abbrev S8 : Shape := ⟨1, ![8]⟩
abbrev S128x8x5184 : Shape := ⟨3, ![128, 8, 5184]⟩
abbrev S128x8x1024 : Shape := ⟨3, ![128, 8, 1024]⟩
abbrev S128x8x512 : Shape := ⟨3, ![128, 8, 512]⟩
abbrev S128x8x64 : Shape := ⟨3, ![128, 8, 64]⟩
abbrev S8x1 : Shape := ⟨2, ![8, 1]⟩
abbrev S8x64 : Shape := ⟨2, ![8, 64]⟩
abbrev S8x1x64 : Shape := ⟨3, ![8, 1, 64]⟩
abbrev S128x8x8x128 : Shape := ⟨4, ![128, 8, 8, 128]⟩
abbrev S128x8x8x64 : Shape := ⟨4, ![128, 8, 8, 64]⟩
abbrev S1x8x1x64 : Shape := ⟨4, ![1, 8, 1, 64]⟩
abbrev S128x8 : Shape := ⟨2, ![128, 8]⟩
abbrev S128x8x1 : Shape := ⟨3, ![128, 8, 1]⟩
abbrev S1024x1024 : Shape := ⟨2, ![1024, 1024]⟩
abbrev S1024x512 : Shape := ⟨2, ![1024, 512]⟩
abbrev S1024x5120 : Shape := ⟨2, ![1024, 5120]⟩
abbrev S9216x5120 : Shape := ⟨2, ![9216, 5120]⟩

abbrev nBuf : Space → Nat
  | .hbm => 272
  | .vmem => 0
  | .smem => 0
  | _ => 0

abbrev hbmTy0_0 (i : Nat) : BufTy := match i % 128 with
  | 0 => ⟨S9216x2048, .f32⟩
  | 1 => ⟨S1x2048x5184, .f32⟩
  | 2 => ⟨S1x512, .f32⟩
  | 3 => ⟨S1x512, .f32⟩
  | 4 => ⟨S8192x2048, .f32⟩
  | 5 => ⟨S2x4096x2048, .f32⟩
  | 6 => ⟨S1024x2048, .f32⟩
  | 7 => ⟨S128x8x2048, .f32⟩
  | 8 => ⟨S4096, .i32⟩
  | 9 => ⟨S2048x5184, .f32⟩
  | 10 => ⟨S512, .f32⟩
  | 11 => ⟨S512, .f32⟩
  | 12 => ⟨S2x4096x5184, .f32⟩
  | 13 => ⟨S2x4096x1024, .f32⟩
  | 14 => ⟨S2x4096x1024, .f32⟩
  | 15 => ⟨S2x4096x1024, .f32⟩
  | 16 => ⟨S2x4096x1024, .f32⟩
  | 17 => ⟨S2x4096x512, .f32⟩
  | 18 => ⟨S2x4096x512, .f32⟩
  | 19 => ⟨S2x4096x64, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S63, .f32⟩
  | 28 => ⟨S_, .f32⟩
  | 29 => ⟨S63, .f32⟩
  | 30 => ⟨S63, .f32⟩
  | 31 => ⟨S1, .f32⟩
  | 32 => ⟨S_, .f32⟩
  | 33 => ⟨S63, .f32⟩
  | 34 => ⟨S63, .f32⟩
  | 35 => ⟨S63, .f32⟩
  | 36 => ⟨S63, .f32⟩
  | 37 => ⟨S1, .f32⟩
  | 38 => ⟨S63, .f32⟩
  | 39 => ⟨S63, .f32⟩
  | 40 => ⟨S63, .f32⟩
  | 41 => ⟨S1, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S4096, .f32⟩
  | 50 => ⟨S4096x1, .f32⟩
  | 51 => ⟨S1x64, .f32⟩
  | 52 => ⟨S4096x64, .f32⟩
  | 53 => ⟨S4096x64, .f32⟩
  | 54 => ⟨S4096x64, .f32⟩
  | 55 => ⟨S4096x1x64, .f32⟩
  | 56 => ⟨S2x4096x8x128, .f32⟩
  | 57 => ⟨S4096x1x64, .f32⟩
  | 58 => ⟨S4096x1x64, .f32⟩
  | 59 => ⟨S2x4096x8x64, .f32⟩
  | 60 => ⟨S2x4096x8x64, .f32⟩
  | 61 => ⟨S1x4096x1x64, .f32⟩
  | 62 => ⟨S2x4096x8x64, .f32⟩
  | 63 => ⟨S2x4096x8x64, .f32⟩
  | 64 => ⟨S1x4096x1x64, .f32⟩
  | 65 => ⟨S2x4096x8x64, .f32⟩
  | 66 => ⟨S2x4096x8x64, .f32⟩
  | 67 => ⟨S2x4096x8x64, .f32⟩
  | 68 => ⟨S1x4096x1x64, .f32⟩
  | 69 => ⟨S2x4096x8x64, .f32⟩
  | 70 => ⟨S2x4096x8x64, .f32⟩
  | 71 => ⟨S1x4096x1x64, .f32⟩
  | 72 => ⟨S2x4096x8x64, .f32⟩
  | 73 => ⟨S2x4096x8x64, .f32⟩
  | 74 => ⟨S2x4096x8x64, .f32⟩
  | 75 => ⟨S2x4096x8x128, .f32⟩
  | 76 => ⟨S2x4096x8x128, .f32⟩
  | 77 => ⟨S4096x1x64, .f32⟩
  | 78 => ⟨S4096x1x64, .f32⟩
  | 79 => ⟨S2x4096x8x64, .f32⟩
  | 80 => ⟨S2x4096x8x64, .f32⟩
  | 81 => ⟨S1x4096x1x64, .f32⟩
  | 82 => ⟨S2x4096x8x64, .f32⟩
  | 83 => ⟨S2x4096x8x64, .f32⟩
  | 84 => ⟨S1x4096x1x64, .f32⟩
  | 85 => ⟨S2x4096x8x64, .f32⟩
  | 86 => ⟨S2x4096x8x64, .f32⟩
  | 87 => ⟨S2x4096x8x64, .f32⟩
  | 88 => ⟨S1x4096x1x64, .f32⟩
  | 89 => ⟨S2x4096x8x64, .f32⟩
  | 90 => ⟨S2x4096x8x64, .f32⟩
  | 91 => ⟨S1x4096x1x64, .f32⟩
  | 92 => ⟨S2x4096x8x64, .f32⟩
  | 93 => ⟨S2x4096x8x64, .f32⟩
  | 94 => ⟨S2x4096x8x64, .f32⟩
  | 95 => ⟨S2x4096x8x128, .f32⟩
  | 96 => ⟨S_, .f32⟩
  | 97 => ⟨S2x4096x8x128, .f32⟩
  | 98 => ⟨S2x4096x8x128, .f32⟩
  | 99 => ⟨S2x4096x512, .f32⟩
  | 100 => ⟨S_, .f32⟩
  | 101 => ⟨S2x4096, .f32⟩
  | 102 => ⟨S2x4096x1, .f32⟩
  | 103 => ⟨S_, .f32⟩
  | 104 => ⟨S2x4096x1, .f32⟩
  | 105 => ⟨S2x4096x1, .f32⟩
  | 106 => ⟨S_, .f32⟩
  | 107 => ⟨S2x4096x1, .f32⟩
  | 108 => ⟨S2x4096x1, .f32⟩
  | 109 => ⟨S2x4096x1, .f32⟩
  | 110 => ⟨S2x4096x512, .f32⟩
  | 111 => ⟨S2x4096x512, .f32⟩
  | 112 => ⟨S1x1x512, .f32⟩
  | 113 => ⟨S2x4096x512, .f32⟩
  | 114 => ⟨S2x4096x512, .f32⟩
  | 115 => ⟨S2x4096x512, .f32⟩
  | 116 => ⟨S_, .f32⟩
  | 117 => ⟨S2x4096, .f32⟩
  | 118 => ⟨S2x4096x1, .f32⟩
  | 119 => ⟨S_, .f32⟩
  | 120 => ⟨S2x4096x1, .f32⟩
  | 121 => ⟨S2x4096x1, .f32⟩
  | 122 => ⟨S_, .f32⟩
  | 123 => ⟨S2x4096x1, .f32⟩
  | 124 => ⟨S2x4096x1, .f32⟩
  | 125 => ⟨S2x4096x1, .f32⟩
  | 126 => ⟨S2x4096x512, .f32⟩
  | 127 => ⟨S2x4096x512, .f32⟩
  | _ => ⟨S9216x2048, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S8192x1024, .f32⟩
  | 4 => ⟨S8192x1024, .f32⟩
  | 5 => ⟨S8192x1024, .f32⟩
  | 6 => ⟨S8192x1024, .f32⟩
  | 7 => ⟨S8192x512, .f32⟩
  | 8 => ⟨S8192x512, .f32⟩
  | 9 => ⟨S8192x5120, .f32⟩
  | 10 => ⟨S8, .i32⟩
  | 11 => ⟨S_, .i32⟩
  | 12 => ⟨S8, .i32⟩
  | 13 => ⟨S8, .i32⟩
  | 14 => ⟨S2048x5184, .f32⟩
  | 15 => ⟨S512, .f32⟩
  | 16 => ⟨S512, .f32⟩
  | 17 => ⟨S128x8x5184, .f32⟩
  | 18 => ⟨S128x8x1024, .f32⟩
  | 19 => ⟨S128x8x1024, .f32⟩
  | 20 => ⟨S128x8x1024, .f32⟩
  | 21 => ⟨S128x8x1024, .f32⟩
  | 22 => ⟨S128x8x512, .f32⟩
  | 23 => ⟨S128x8x512, .f32⟩
  | 24 => ⟨S128x8x64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S63, .f32⟩
  | 33 => ⟨S_, .f32⟩
  | 34 => ⟨S63, .f32⟩
  | 35 => ⟨S63, .f32⟩
  | 36 => ⟨S1, .f32⟩
  | 37 => ⟨S_, .f32⟩
  | 38 => ⟨S63, .f32⟩
  | 39 => ⟨S63, .f32⟩
  | 40 => ⟨S63, .f32⟩
  | 41 => ⟨S63, .f32⟩
  | 42 => ⟨S1, .f32⟩
  | 43 => ⟨S63, .f32⟩
  | 44 => ⟨S63, .f32⟩
  | 45 => ⟨S63, .f32⟩
  | 46 => ⟨S1, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8, .f32⟩
  | 55 => ⟨S8x1, .f32⟩
  | 56 => ⟨S1x64, .f32⟩
  | 57 => ⟨S8x64, .f32⟩
  | 58 => ⟨S8x64, .f32⟩
  | 59 => ⟨S8x64, .f32⟩
  | 60 => ⟨S8x1x64, .f32⟩
  | 61 => ⟨S128x8x8x128, .f32⟩
  | 62 => ⟨S8x1x64, .f32⟩
  | 63 => ⟨S8x1x64, .f32⟩
  | 64 => ⟨S128x8x8x64, .f32⟩
  | 65 => ⟨S128x8x8x64, .f32⟩
  | 66 => ⟨S1x8x1x64, .f32⟩
  | 67 => ⟨S128x8x8x64, .f32⟩
  | 68 => ⟨S128x8x8x64, .f32⟩
  | 69 => ⟨S1x8x1x64, .f32⟩
  | 70 => ⟨S128x8x8x64, .f32⟩
  | 71 => ⟨S128x8x8x64, .f32⟩
  | 72 => ⟨S128x8x8x64, .f32⟩
  | 73 => ⟨S1x8x1x64, .f32⟩
  | 74 => ⟨S128x8x8x64, .f32⟩
  | 75 => ⟨S128x8x8x64, .f32⟩
  | 76 => ⟨S1x8x1x64, .f32⟩
  | 77 => ⟨S128x8x8x64, .f32⟩
  | 78 => ⟨S128x8x8x64, .f32⟩
  | 79 => ⟨S128x8x8x64, .f32⟩
  | 80 => ⟨S128x8x8x128, .f32⟩
  | 81 => ⟨S128x8x8x128, .f32⟩
  | 82 => ⟨S8x1x64, .f32⟩
  | 83 => ⟨S8x1x64, .f32⟩
  | 84 => ⟨S128x8x8x64, .f32⟩
  | 85 => ⟨S128x8x8x64, .f32⟩
  | 86 => ⟨S1x8x1x64, .f32⟩
  | 87 => ⟨S128x8x8x64, .f32⟩
  | 88 => ⟨S128x8x8x64, .f32⟩
  | 89 => ⟨S1x8x1x64, .f32⟩
  | 90 => ⟨S128x8x8x64, .f32⟩
  | 91 => ⟨S128x8x8x64, .f32⟩
  | 92 => ⟨S128x8x8x64, .f32⟩
  | 93 => ⟨S1x8x1x64, .f32⟩
  | 94 => ⟨S128x8x8x64, .f32⟩
  | 95 => ⟨S128x8x8x64, .f32⟩
  | 96 => ⟨S1x8x1x64, .f32⟩
  | 97 => ⟨S128x8x8x64, .f32⟩
  | 98 => ⟨S128x8x8x64, .f32⟩
  | 99 => ⟨S128x8x8x64, .f32⟩
  | 100 => ⟨S128x8x8x128, .f32⟩
  | 101 => ⟨S_, .f32⟩
  | 102 => ⟨S128x8x8x128, .f32⟩
  | 103 => ⟨S128x8x8x128, .f32⟩
  | 104 => ⟨S128x8x512, .f32⟩
  | 105 => ⟨S_, .f32⟩
  | 106 => ⟨S128x8, .f32⟩
  | 107 => ⟨S128x8x1, .f32⟩
  | 108 => ⟨S_, .f32⟩
  | 109 => ⟨S128x8x1, .f32⟩
  | 110 => ⟨S128x8x1, .f32⟩
  | 111 => ⟨S_, .f32⟩
  | 112 => ⟨S128x8x1, .f32⟩
  | 113 => ⟨S128x8x1, .f32⟩
  | 114 => ⟨S128x8x1, .f32⟩
  | 115 => ⟨S128x8x512, .f32⟩
  | 116 => ⟨S128x8x512, .f32⟩
  | 117 => ⟨S1x1x512, .f32⟩
  | 118 => ⟨S128x8x512, .f32⟩
  | 119 => ⟨S128x8x512, .f32⟩
  | 120 => ⟨S128x8x512, .f32⟩
  | 121 => ⟨S_, .f32⟩
  | 122 => ⟨S128x8, .f32⟩
  | 123 => ⟨S128x8x1, .f32⟩
  | 124 => ⟨S_, .f32⟩
  | 125 => ⟨S128x8x1, .f32⟩
  | 126 => ⟨S128x8x1, .f32⟩
  | 127 => ⟨S_, .f32⟩
  | _ => ⟨S9216x2048, .f32⟩

abbrev hbmTy0_2 (i : Nat) : BufTy := match i % 128 with
  | 0 => ⟨S128x8x1, .f32⟩
  | 1 => ⟨S128x8x1, .f32⟩
  | 2 => ⟨S128x8x1, .f32⟩
  | 3 => ⟨S128x8x512, .f32⟩
  | 4 => ⟨S128x8x512, .f32⟩
  | 5 => ⟨S1x1x512, .f32⟩
  | 6 => ⟨S128x8x512, .f32⟩
  | 7 => ⟨S128x8x512, .f32⟩
  | 8 => ⟨S1024x1024, .f32⟩
  | 9 => ⟨S1024x1024, .f32⟩
  | 10 => ⟨S1024x1024, .f32⟩
  | 11 => ⟨S1024x1024, .f32⟩
  | 12 => ⟨S1024x512, .f32⟩
  | 13 => ⟨S1024x512, .f32⟩
  | 14 => ⟨S1024x5120, .f32⟩
  | 15 => ⟨S9216x5120, .f32⟩
  | _ => ⟨S9216x2048, .f32⟩

abbrev hbmTy (i : Nat) : BufTy := match i / 128 with
  | 0 => hbmTy0_0 i
  | 1 => hbmTy0_1 i
  | 2 => hbmTy0_2 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_3 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_4 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_v74 : Ref sig .tc := ⟨.hbm, 105, rfl⟩
abbrev main_cst_6 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_7 : Ref sig .tc := ⟨.hbm, 116, rfl⟩
abbrev main_v84 : Ref sig .tc := ⟨.hbm, 117, rfl⟩
abbrev main_v85 : Ref sig .tc := ⟨.hbm, 118, rfl⟩
abbrev main_cst_8 : Ref sig .tc := ⟨.hbm, 119, rfl⟩
abbrev main_v86 : Ref sig .tc := ⟨.hbm, 120, rfl⟩
abbrev main_v87 : Ref sig .tc := ⟨.hbm, 121, rfl⟩
abbrev main_cst_9 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_10 : Ref sig .tc := ⟨.hbm, 153, rfl⟩
abbrev main_cst_11 : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_call1_cst : Ref sig .tc := ⟨.hbm, 158, rfl⟩
abbrev main_call1_v3 : Ref sig .tc := ⟨.hbm, 159, rfl⟩
abbrev main_call1_v4 : Ref sig .tc := ⟨.hbm, 160, rfl⟩
abbrev main_call1_cst_0 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_cst_1 : Ref sig .tc := ⟨.hbm, 165, rfl⟩
abbrev main_call1_v8 : Ref sig .tc := ⟨.hbm, 166, rfl⟩
abbrev main_call1_v9 : Ref sig .tc := ⟨.hbm, 167, rfl⟩
abbrev main_call1_v10 : Ref sig .tc := ⟨.hbm, 168, rfl⟩
abbrev main_call1_v11 : Ref sig .tc := ⟨.hbm, 169, rfl⟩
abbrev main_call1_v12 : Ref sig .tc := ⟨.hbm, 170, rfl⟩
abbrev main_call1_v13 : Ref sig .tc := ⟨.hbm, 171, rfl⟩
abbrev main_call1_v14 : Ref sig .tc := ⟨.hbm, 172, rfl⟩
abbrev main_call1_v15 : Ref sig .tc := ⟨.hbm, 173, rfl⟩
abbrev main_call1_v16 : Ref sig .tc := ⟨.hbm, 174, rfl⟩
abbrev main_v117 : Ref sig .tc := ⟨.hbm, 175, rfl⟩
abbrev main_cst_12 : Ref sig .tc := ⟨.hbm, 176, rfl⟩
abbrev main_v118 : Ref sig .tc := ⟨.hbm, 177, rfl⟩
abbrev main_v119 : Ref sig .tc := ⟨.hbm, 178, rfl⟩
abbrev main_cst_13 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_14 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_15 : Ref sig .tc := ⟨.hbm, 233, rfl⟩
abbrev main_v172 : Ref sig .tc := ⟨.hbm, 234, rfl⟩
abbrev main_v173 : Ref sig .tc := ⟨.hbm, 235, rfl⟩
abbrev main_cst_16 : Ref sig .tc := ⟨.hbm, 236, rfl⟩
abbrev main_v174 : Ref sig .tc := ⟨.hbm, 237, rfl⟩
abbrev main_v175 : Ref sig .tc := ⟨.hbm, 238, rfl⟩
abbrev main_cst_17 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_cst_18 : Ref sig .tc := ⟨.hbm, 249, rfl⟩
abbrev main_v185 : Ref sig .tc := ⟨.hbm, 250, rfl⟩
abbrev main_v186 : Ref sig .tc := ⟨.hbm, 251, rfl⟩
abbrev main_cst_19 : Ref sig .tc := ⟨.hbm, 252, rfl⟩
abbrev main_v187 : Ref sig .tc := ⟨.hbm, 253, rfl⟩
abbrev main_v188 : Ref sig .tc := ⟨.hbm, 254, rfl⟩
abbrev main_cst_20 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩

abbrev nD : Nat := 1
abbrev τ : Topo := Topo.v7x

variable {F : FTy → Type} [FloatOps F]
-- ==== Kernel5.lean ====
abbrev S9216x2048 : Shape := ⟨2, ![9216, 2048]⟩
abbrev S1x2048x5184 : Shape := ⟨3, ![1, 2048, 5184]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S9216x1 : Shape := ⟨2, ![9216, 1]⟩
abbrev S63 : Shape := ⟨1, ![63]⟩
abbrev S1 : Shape := ⟨1, ![1]⟩
abbrev S64 : Shape := ⟨1, ![64]⟩
abbrev S1x64 : Shape := ⟨2, ![1, 64]⟩
abbrev S9216x64 : Shape := ⟨2, ![9216, 64]⟩
abbrev S9216x128 : Shape := ⟨2, ![9216, 128]⟩
abbrev S32 : Shape := ⟨1, ![32]⟩
abbrev S1x32 : Shape := ⟨2, ![1, 32]⟩
abbrev S9216x32 : Shape := ⟨2, ![9216, 32]⟩
abbrev S2048x5184 : Shape := ⟨2, ![2048, 5184]⟩
abbrev S2048x64 : Shape := ⟨2, ![2048, 64]⟩
abbrev S2048x32 : Shape := ⟨2, ![2048, 32]⟩
abbrev S2048x128 : Shape := ⟨2, ![2048, 128]⟩
abbrev S512x2048 : Shape := ⟨2, ![512, 2048]⟩
abbrev S512x128 : Shape := ⟨2, ![512, 128]⟩

abbrev nBuf : Space → Nat
  | .hbm => 89
  | .vmem => 9
  | .smem => 0
  | _ => 0

abbrev bufTy : (tb : Table) → Fin (tcTables nBuf tb) → BufTy
  | .hbm, ⟨0, _⟩ => ⟨S9216x2048, .f32⟩
  | .hbm, ⟨1, _⟩ => ⟨S1x2048x5184, .f32⟩
  | .hbm, ⟨2, _⟩ => ⟨S4096, .i32⟩
  | .hbm, ⟨3, _⟩ => ⟨S1x4096, .i32⟩
  | .hbm, ⟨4, _⟩ => ⟨S2x4096, .i32⟩
  | .hbm, ⟨5, _⟩ => ⟨S8192, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1x8, .i32⟩
  | .hbm, ⟨11, _⟩ => ⟨S128x8, .i32⟩
  | .hbm, ⟨12, _⟩ => ⟨S1024, .i32⟩
  | .hbm, ⟨13, _⟩ => ⟨S9216, .i32⟩
  | .hbm, ⟨14, _⟩ => ⟨S9216, .f32⟩
  | .hbm, ⟨15, _⟩ => ⟨S9216x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S63, .f32⟩
  | .hbm, ⟨24, _⟩ => ⟨S_, .f32⟩
  | .hbm, ⟨25, _⟩ => ⟨S63, .f32⟩
  | .hbm, ⟨26, _⟩ => ⟨S63, .f32⟩
  | .hbm, ⟨27, _⟩ => ⟨S1, .f32⟩
  | .hbm, ⟨28, _⟩ => ⟨S_, .f32⟩
  | .hbm, ⟨29, _⟩ => ⟨S63, .f32⟩
  | .hbm, ⟨30, _⟩ => ⟨S63, .f32⟩
  | .hbm, ⟨31, _⟩ => ⟨S63, .f32⟩
  | .hbm, ⟨32, _⟩ => ⟨S63, .f32⟩
  | .hbm, ⟨33, _⟩ => ⟨S1, .f32⟩
  | .hbm, ⟨34, _⟩ => ⟨S63, .f32⟩
  | .hbm, ⟨35, _⟩ => ⟨S63, .f32⟩
  | .hbm, ⟨36, _⟩ => ⟨S63, .f32⟩
  | .hbm, ⟨37, _⟩ => ⟨S1, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S9216x64, .f32⟩
  | .hbm, ⟨47, _⟩ => ⟨S9216x64, .f32⟩
  | .hbm, ⟨48, _⟩ => ⟨S9216x64, .f32⟩
  | .hbm, ⟨49, _⟩ => ⟨S9216x64, .f32⟩
  | .hbm, ⟨50, _⟩ => ⟨S9216x64, .f32⟩
  | .hbm, ⟨51, _⟩ => ⟨S9216x128, .f32⟩
  | .hbm, ⟨52, _⟩ => ⟨S9216x64, .f32⟩
  | .hbm, ⟨53, _⟩ => ⟨S9216x128, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S1x32, .f32⟩
  | .hbm, ⟨71, _⟩ => ⟨S9216x32, .f32⟩
  | .hbm, ⟨72, _⟩ => ⟨S9216x32, .f32⟩
  | .hbm, ⟨73, _⟩ => ⟨S9216x32, .f32⟩
  | .hbm, ⟨74, _⟩ => ⟨S9216x32, .f32⟩
  | .hbm, ⟨75, _⟩ => ⟨S9216x32, .f32⟩
  | .hbm, ⟨76, _⟩ => ⟨S_, .f32⟩
  | .hbm, ⟨77, _⟩ => ⟨S9216x64, .f32⟩
  | .hbm, ⟨78, _⟩ => ⟨S9216x128, .f32⟩
  | .hbm, ⟨79, _⟩ => ⟨S9216x32, .f32⟩
  | .hbm, ⟨80, _⟩ => ⟨S9216x128, .f32⟩
  | .hbm, ⟨81, _⟩ => ⟨S2048x5184, .f32⟩
  | .hbm, ⟨82, _⟩ => ⟨S2048x64, .f32⟩
  | .hbm, ⟨83, _⟩ => ⟨S2048x32, .f32⟩
  | .hbm, ⟨84, _⟩ => ⟨S2048x32, .f32⟩
  | .hbm, ⟨85, _⟩ => ⟨S2048x64, .f32⟩
  | .hbm, ⟨86, _⟩ => ⟨S2048x128, .f32⟩
  | .hbm, ⟨87, _⟩ => ⟨S2048x128, .bf16⟩
  | .hbm, ⟨88, _⟩ => ⟨S9216x128, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S9216x2048 : Shape := ⟨2, ![9216, 2048]⟩
abbrev S1x2048x5184 : Shape := ⟨3, ![1, 2048, 5184]⟩
abbrev S8192x2048 : Shape := ⟨2, ![8192, 2048]⟩
abbrev S2x4096x2048 : Shape := ⟨3, ![2, 4096, 2048]⟩
abbrev S1024x2048 : Shape := ⟨2, ![1024, 2048]⟩
abbrev S128x8x2048 : Shape := ⟨3, ![128, 8, 2048]⟩
abbrev S4096 : Shape := ⟨1, ![4096]⟩
abbrev S2048x5184 : Shape := ⟨2, ![2048, 5184]⟩
abbrev S2x4096x5184 : Shape := ⟨3, ![2, 4096, 5184]⟩
abbrev S2x4096x64 : Shape := ⟨3, ![2, 4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S2x4096x32 : Shape := ⟨3, ![2, 4096, 32]⟩
abbrev S1x4096x32 : Shape := ⟨3, ![1, 4096, 32]⟩
abbrev S8192x64 : Shape := ⟨2, ![8192, 64]⟩
abbrev S8 : Shape := ⟨1, ![8]⟩
abbrev S128x8x5184 : Shape := ⟨3, ![128, 8, 5184]⟩
abbrev S128x8x64 : Shape := ⟨3, ![128, 8, 64]⟩
abbrev S8x1 : Shape := ⟨2, ![8, 1]⟩
abbrev S8x32 : Shape := ⟨2, ![8, 32]⟩
abbrev S128x8x32 : Shape := ⟨3, ![128, 8, 32]⟩
abbrev S1x8x32 : Shape := ⟨3, ![1, 8, 32]⟩
abbrev S1024x64 : Shape := ⟨2, ![1024, 64]⟩
abbrev S9216x64 : Shape := ⟨2, ![9216, 64]⟩
abbrev S9216x128 : Shape := ⟨2, ![9216, 128]⟩

abbrev nBuf : Space → Nat
  | .hbm => 105
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x2048x5184, .f32⟩
  | .hbm, ⟨2, _⟩ => ⟨S8192x2048, .f32⟩
  | .hbm, ⟨3, _⟩ => ⟨S2x4096x2048, .f32⟩
  | .hbm, ⟨4, _⟩ => ⟨S1024x2048, .f32⟩
  | .hbm, ⟨5, _⟩ => ⟨S128x8x2048, .f32⟩
  | .hbm, ⟨6, _⟩ => ⟨S4096, .i32⟩
  | .hbm, ⟨7, _⟩ => ⟨S2048x5184, .f32⟩
  | .hbm, ⟨8, _⟩ => ⟨S2x4096x5184, .f32⟩
  | .hbm, ⟨9, _⟩ => ⟨S2x4096x64, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S2x4096x32, .f32⟩
  | .hbm, ⟨35, _⟩ => ⟨S2x4096x32, .f32⟩
  | .hbm, ⟨36, _⟩ => ⟨S1x4096x32, .f32⟩
  | .hbm, ⟨37, _⟩ => ⟨S2x4096x32, .f32⟩
  | .hbm, ⟨38, _⟩ => ⟨S2x4096x32, .f32⟩
  | .hbm, ⟨39, _⟩ => ⟨S1x4096x32, .f32⟩
  | .hbm, ⟨40, _⟩ => ⟨S2x4096x32, .f32⟩
  | .hbm, ⟨41, _⟩ => ⟨S2x4096x32, .f32⟩
  | .hbm, ⟨42, _⟩ => ⟨S2x4096x32, .f32⟩
  | .hbm, ⟨43, _⟩ => ⟨S1x4096x32, .f32⟩
  | .hbm, ⟨44, _⟩ => ⟨S2x4096x32, .f32⟩
  | .hbm, ⟨45, _⟩ => ⟨S2x4096x32, .f32⟩
  | .hbm, ⟨46, _⟩ => ⟨S1x4096x32, .f32⟩
  | .hbm, ⟨47, _⟩ => ⟨S2x4096x32, .f32⟩
  | .hbm, ⟨48, _⟩ => ⟨S2x4096x32, .f32⟩
  | .hbm, ⟨49, _⟩ => ⟨S2x4096x32, .f32⟩
  | .hbm, ⟨50, _⟩ => ⟨S2x4096x64, .f32⟩
  | .hbm, ⟨51, _⟩ => ⟨S8192x64, .f32⟩
  | .hbm, ⟨52, _⟩ => ⟨S8, .i32⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S2048x5184, .f32⟩
  | .hbm, ⟨57, _⟩ => ⟨S128x8x5184, .f32⟩
  | .hbm, ⟨58, _⟩ => ⟨S128x8x64, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S8, .f32⟩
  | .hbm, ⟨76, _⟩ => ⟨S8x1, .f32⟩
  | .hbm, ⟨77, _⟩ => ⟨S1x32, .f32⟩
  | .hbm, ⟨78, _⟩ => ⟨S8x32, .f32⟩
  | .hbm, ⟨79, _⟩ => ⟨S8x32, .f32⟩
  | .hbm, ⟨80, _⟩ => ⟨S8x32, .f32⟩
  | .hbm, ⟨81, _⟩ => ⟨S8x32, .f32⟩
  | .hbm, ⟨82, _⟩ => ⟨S8x32, .f32⟩
  | .hbm, ⟨83, _⟩ => ⟨S128x8x32, .f32⟩
  | .hbm, ⟨84, _⟩ => ⟨S128x8x32, .f32⟩
  | .hbm, ⟨85, _⟩ => ⟨S1x8x32, .f32⟩
  | .hbm, ⟨86, _⟩ => ⟨S128x8x32, .f32⟩
  | .hbm, ⟨87, _⟩ => ⟨S128x8x32, .f32⟩
  | .hbm, ⟨88, _⟩ => ⟨S1x8x32, .f32⟩
  | .hbm, ⟨89, _⟩ => ⟨S128x8x32, .f32⟩
  | .hbm, ⟨90, _⟩ => ⟨S128x8x32, .f32⟩
  | .hbm, ⟨91, _⟩ => ⟨S128x8x32, .f32⟩
  | .hbm, ⟨92, _⟩ => ⟨S1x8x32, .f32⟩
  | .hbm, ⟨93, _⟩ => ⟨S128x8x32, .f32⟩
  | .hbm, ⟨94, _⟩ => ⟨S128x8x32, .f32⟩
  | .hbm, ⟨95, _⟩ => ⟨S1x8x32, .f32⟩
  | .hbm, ⟨96, _⟩ => ⟨S128x8x32, .f32⟩
  | .hbm, ⟨97, _⟩ => ⟨S128x8x32, .f32⟩
  | .hbm, ⟨98, _⟩ => ⟨S128x8x32, .f32⟩
  | .hbm, ⟨99, _⟩ => ⟨S128x8x64, .f32⟩
  | .hbm, ⟨100, _⟩ => ⟨S1024x64, .f32⟩
  | .hbm, ⟨101, _⟩ => ⟨S9216x64, .f32⟩
  | .hbm, ⟨102, _⟩ => ⟨S_, .f32⟩
  | .hbm, ⟨103, _⟩ => ⟨S9216x64, .f32⟩
  | .hbm, ⟨104, _⟩ => ⟨S9216x128, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_9 : Ref sig .tc := ⟨.hbm, 102, rfl⟩
abbrev main_v89 : Ref sig .tc := ⟨.hbm, 103, rfl⟩
abbrev main_v90 : Ref sig .tc := ⟨.hbm, 104, rfl⟩

abbrev nD : Nat := 1
abbrev τ : Topo := Topo.v7x

variable {F : FTy → Type} [FloatOps F]
-- ==== Kernel6.lean ====
abbrev S9216x5120 : Shape := ⟨2, ![9216, 5120]⟩
abbrev S1x128x8x128x128 : Shape := ⟨5, ![1, 128, 8, 128, 128]⟩
abbrev S8x128 : Shape := ⟨2, ![8, 128]⟩
abbrev S128x8x128x128 : Shape := ⟨4, ![128, 8, 128, 128]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128x1 : Shape := ⟨3, ![8, 128, 1]⟩
abbrev S8x1x128 : Shape := ⟨3, ![8, 1, 128]⟩
abbrev S1024x1024 : Shape := ⟨2, ![1024, 1024]⟩
abbrev S8x1024 : Shape := ⟨2, ![8, 1024]⟩
abbrev S1x8x128x128 : Shape := ⟨4, ![1, 8, 128, 128]⟩
abbrev S120x128 : Shape := ⟨2, ![120, 128]⟩
abbrev S1x1x128x128 : Shape := ⟨4, ![1, 1, 128, 128]⟩
abbrev S1x1x128 : Shape := ⟨3, ![1, 1, 128]⟩

abbrev nBuf : Space → Nat
  | .hbm => 82
  | .vmem => 20
  | .smem => 0
  | _ => 0

abbrev bufTy : (tb : Table) → Fin (tcTables nBuf tb) → BufTy
  | .hbm, ⟨0, _⟩ => ⟨S9216x5120, .f32⟩
  | .hbm, ⟨1, _⟩ => ⟨S1x128x8x128x128, .f32⟩
  | .hbm, ⟨2, _⟩ => ⟨S8x128, .f32⟩
  | .hbm, ⟨3, _⟩ => ⟨S8x128, .f32⟩
  | .hbm, ⟨4, _⟩ => ⟨S128x8x128x128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S128, .f32⟩
  | .hbm, ⟨18, _⟩ => ⟨S128x1, .f32⟩
  | .hbm, ⟨19, _⟩ => ⟨S1x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .i1⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S8x1x1, .f32⟩
  | .hbm, ⟨31, _⟩ => ⟨S8x128x128, .f32⟩
  | .hbm, ⟨32, _⟩ => ⟨S8x128x128, .f32⟩
  | .hbm, ⟨33, _⟩ => ⟨S8x128x128, .f32⟩
  | .hbm, ⟨34, _⟩ => ⟨S8x128x128, .f32⟩
  | .hbm, ⟨35, _⟩ => ⟨S_, .f32⟩
  | .hbm, ⟨36, _⟩ => ⟨S_, .f32⟩
  | .hbm, ⟨37, _⟩ => ⟨S8x128x128, .i1⟩
  | .hbm, ⟨38, _⟩ => ⟨S8x128x128, .f32⟩
  | .hbm, ⟨39, _⟩ => ⟨S8x128x128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S8x1, .f32⟩
  | .hbm, ⟨45, _⟩ => ⟨S8x128, .f32⟩
  | .hbm, ⟨46, _⟩ => ⟨S8x128, .f32⟩
  | .hbm, ⟨47, _⟩ => ⟨S8x128, .f32⟩
  | .hbm, ⟨48, _⟩ => ⟨S8x128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S8x1, .f32⟩
  | .hbm, ⟨54, _⟩ => ⟨S8x128, .f32⟩
  | .hbm, ⟨55, _⟩ => ⟨S8x128, .f32⟩
  | .hbm, ⟨56, _⟩ => ⟨S8x128, .f32⟩
  | .hbm, ⟨57, _⟩ => ⟨S8x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .i1⟩
  | .hbm, ⟨62, _⟩ => ⟨S_, .f32⟩
  | .hbm, ⟨63, _⟩ => ⟨S_, .f32⟩
  | .hbm, ⟨64, _⟩ => ⟨S8x128, .i1⟩
  | .hbm, ⟨65, _⟩ => ⟨S8x128, .f32⟩
  | .hbm, ⟨66, _⟩ => ⟨S8x128, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S8, .f32⟩
  | .hbm, ⟨71, _⟩ => ⟨S8x128x1, .f32⟩
  | .hbm, ⟨72, _⟩ => ⟨S8x128x128, .f32⟩
  | .hbm, ⟨73, _⟩ => ⟨S8x128x1, .f32⟩
  | .hbm, ⟨74, _⟩ => ⟨S8x128x128, .f32⟩
  | .hbm, ⟨75, _⟩ => ⟨S8x1, .f32⟩
  | .hbm, ⟨76, _⟩ => ⟨S8x1x1, .f32⟩
  | .hbm, ⟨77, _⟩ => ⟨S8x1x128, .f32⟩
  | .hbm, ⟨78, _⟩ => ⟨S8x1x128, .f32⟩
  | .hbm, ⟨79, _⟩ => ⟨S8x1x128, .f32⟩
  | .hbm, ⟨80, _⟩ => ⟨S1024x1024, .f32⟩
  | .hbm, ⟨81, _⟩ => ⟨S128x8x128x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x8x128x128, .f32⟩
  | .local _ .vmem, ⟨9, _⟩ => ⟨S1x8x128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S8x1x128, .f32⟩
  | .local _ .vmem, ⟨14, _⟩ => ⟨S8x1x128, .f32⟩
  | .local _ .vmem, ⟨15, _⟩ => ⟨S8x1x128, .f32⟩
  | .local _ .vmem, ⟨16, _⟩ => ⟨S8x1024, .f32⟩
  | .local _ .vmem, ⟨17, _⟩ => ⟨S8x1024, .f32⟩
  | .local _ .vmem, ⟨18, _⟩ => ⟨S1x8x128x128, .f32⟩
  | .local _ .vmem, ⟨19, _⟩ => ⟨S1x8x128x128, .f32⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59_0 : Ref sig .tc := ⟨.hbm, 80, rfl⟩
abbrev main_v59_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1024_i32 : BitVec 32 := 1024#32
  let v0 : BitVec 32 := Scalar.addi c1024_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c1024_i32 : BitVec 32 := 1024#32
  let v0 : BitVec 32 := Scalar.addi c1024_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c1024_i32 : BitVec 32 := 1024#32
  let v0 : BitVec 32 := Scalar.addi c1024_i32 arg0
  let c3_i32 : BitVec 32 := 3#32
  let c0_i32 : BitVec 32 := 0#32
  ![v0.toNat, c3_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S9216x5120 : Shape := ⟨2, ![9216, 5120]⟩
abbrev S1x128x8x128x128 : Shape := ⟨5, ![1, 128, 8, 128, 128]⟩
abbrev S8x128 : Shape := ⟨2, ![8, 128]⟩
abbrev S1024x1024 : Shape := ⟨2, ![1024, 1024]⟩
abbrev S128x8x8x128 : Shape := ⟨4, ![128, 8, 8, 128]⟩
abbrev S128x8x128x128 : Shape := ⟨4, ![128, 8, 128, 128]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S8x1x1 : Shape := ⟨3, ![8, 1, 1]⟩
abbrev S8x8x8 : Shape := ⟨3, ![8, 8, 8]⟩
abbrev S128x8x8x8 : Shape := ⟨4, ![128, 8, 8, 8]⟩
abbrev S1x8x8x8 : Shape := ⟨4, ![1, 8, 8, 8]⟩
abbrev S128x8x128x8 : Shape := ⟨4, ![128, 8, 128, 8]⟩
abbrev S1x8x8x1 : Shape := ⟨4, ![1, 8, 8, 1]⟩
abbrev S1x8x1x1 : Shape := ⟨4, ![1, 8, 1, 1]⟩
abbrev S128x8x1024 : Shape := ⟨3, ![128, 8, 1024]⟩
abbrev S128x8x8 : Shape := ⟨3, ![128, 8, 8]⟩
abbrev S128x8x8x1 : Shape := ⟨4, ![128, 8, 8, 1]⟩
abbrev S1x1x8x128 : Shape := ⟨4, ![1, 1, 8, 128]⟩

abbrev nBuf : Space → Nat
  | .hbm => 131
  | .vmem => 0
  | .smem => 0
  | _ => 0

abbrev hbmTy0_0 (i : Nat) : BufTy := match i % 128 with
  | 0 => ⟨S9216x5120, .f32⟩
  | 1 => ⟨S1x128x8x128x128, .f32⟩
  | 2 => ⟨S8x128, .f32⟩
  | 3 => ⟨S8x128, .f32⟩
  | 4 => ⟨S1024x1024, .f32⟩
  | 5 => ⟨S128x8x8x128, .f32⟩
  | 6 => ⟨S1024x1024, .f32⟩
  | 7 => ⟨S128x8x8x128, .f32⟩
  | 8 => ⟨S1024x1024, .f32⟩
  | 9 => ⟨S128x8x8x128, .f32⟩
  | 10 => ⟨S128x8x128x128, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S8, .f32⟩
  | 23 => ⟨S8, .f32⟩
  | 24 => ⟨S8x1, .f32⟩
  | 25 => ⟨S1x8, .f32⟩
  | 26 => ⟨S8x8, .f32⟩
  | 27 => ⟨S8x8, .f32⟩
  | 28 => ⟨S8x8, .f32⟩
  | 29 => ⟨S_, .f32⟩
  | 30 => ⟨S8x8, .f32⟩
  | 31 => ⟨S8x8, .i1⟩
  | 32 => ⟨S_, .f32⟩
  | 33 => ⟨S8x8, .f32⟩
  | 34 => ⟨S8x8, .f32⟩
  | 35 => ⟨S1x8x8, .f32⟩
  | 36 => ⟨S8x1x1, .f32⟩
  | 37 => ⟨S8x8x8, .f32⟩
  | 38 => ⟨S8x8x8, .f32⟩
  | 39 => ⟨S8x8x8, .f32⟩
  | 40 => ⟨S8x8x8, .f32⟩
  | 41 => ⟨S_, .f32⟩
  | 42 => ⟨S_, .f32⟩
  | 43 => ⟨S8x8x8, .i1⟩
  | 44 => ⟨S8x8x8, .f32⟩
  | 45 => ⟨S8x8x8, .f32⟩
  | 46 => ⟨S128x8x8x8, .f32⟩
  | 47 => ⟨S1x8x8x8, .f32⟩
  | 48 => ⟨S128x8x8x8, .f32⟩
  | 49 => ⟨S128x8x8x8, .f32⟩
  | 50 => ⟨S128x8x128x8, .f32⟩
  | 51 => ⟨S128x8x8x128, .f32⟩
  | 52 => ⟨S_, .f32⟩
  | 53 => ⟨S8, .f32⟩
  | 54 => ⟨S8, .f32⟩
  | 55 => ⟨S8x1, .f32⟩
  | 56 => ⟨S1x8, .f32⟩
  | 57 => ⟨S8x8, .f32⟩
  | 58 => ⟨S8x8, .f32⟩
  | 59 => ⟨S8x8, .f32⟩
  | 60 => ⟨S8x8, .f32⟩
  | 61 => ⟨S128x8x128x8, .f32⟩
  | 62 => ⟨S128x8x8x128, .f32⟩
  | 63 => ⟨S1x8x8x1, .f32⟩
  | 64 => ⟨S128x8x8x128, .f32⟩
  | 65 => ⟨S128x8x8x128, .f32⟩
  | 66 => ⟨S128x8x8x128, .f32⟩
  | 67 => ⟨S_, .f32⟩
  | 68 => ⟨S8, .f32⟩
  | 69 => ⟨S8, .f32⟩
  | 70 => ⟨S8x1, .f32⟩
  | 71 => ⟨S1x8, .f32⟩
  | 72 => ⟨S8x8, .f32⟩
  | 73 => ⟨S8x8, .f32⟩
  | 74 => ⟨S8x8, .f32⟩
  | 75 => ⟨S8x8, .f32⟩
  | 76 => ⟨S_, .f32⟩
  | 77 => ⟨S8, .f32⟩
  | 78 => ⟨S8, .f32⟩
  | 79 => ⟨S8, .f32⟩
  | 80 => ⟨S1x8x1x1, .f32⟩
  | 81 => ⟨S128x8x128x128, .f32⟩
  | 82 => ⟨S128x8x128x128, .f32⟩
  | 83 => ⟨S1x8x8x1, .f32⟩
  | 84 => ⟨S128x8x8x128, .f32⟩
  | 85 => ⟨S128x8x8x128, .f32⟩
  | 86 => ⟨S128x8x128x128, .f32⟩
  | 87 => ⟨S128x8x128x128, .f32⟩
  | 88 => ⟨S1024x1024, .f32⟩
  | 89 => ⟨S128x8x1024, .f32⟩
  | 90 => ⟨S_, .f32⟩
  | 91 => ⟨S128x8x8, .f32⟩
  | 92 => ⟨S128x8x8x1, .f32⟩
  | 93 => ⟨S_, .f32⟩
  | 94 => ⟨S128x8x8x1, .f32⟩
  | 95 => ⟨S128x8x8x1, .f32⟩
  | 96 => ⟨S128x8x8x128, .f32⟩
  | 97 => ⟨S128x8x8x128, .f32⟩
  | 98 => ⟨S128x8x8x128, .f32⟩
  | 99 => ⟨S_, .f32⟩
  | 100 => ⟨S128x8x8, .f32⟩
  | 101 => ⟨S128x8x8x1, .f32⟩
  | 102 => ⟨S_, .f32⟩
  | 103 => ⟨S128x8x8x1, .f32⟩
  | 104 => ⟨S128x8x8x1, .f32⟩
  | 105 => ⟨S128x8x8x128, .f32⟩
  | 106 => ⟨S128x8x8x128, .f32⟩
  | 107 => ⟨S_, .f32⟩
  | 108 => ⟨S128x8x8x1, .f32⟩
  | 109 => ⟨S128x8x8x1, .f32⟩
  | 110 => ⟨S128x8x8x1, .f32⟩
  | 111 => ⟨S128x8x8x128, .f32⟩
  | 112 => ⟨S128x8x8x128, .f32⟩
  | 113 => ⟨S1x1x8x128, .f32⟩
  | 114 => ⟨S128x8x8x128, .f32⟩
  | 115 => ⟨S128x8x8x128, .f32⟩
  | 116 => ⟨S1x1x8x128, .f32⟩
  | 117 => ⟨S128x8x8x128, .f32⟩
  | 118 => ⟨S128x8x8x128, .f32⟩
  | 119 => ⟨S128x8x1024, .f32⟩
  | 120 => ⟨S128x8x1024, .f32⟩
  | 121 => ⟨S128x8x1024, .f32⟩
  | 122 => ⟨S_, .f32⟩
  | 123 => ⟨S128x8x1024, .f32⟩
  | 124 => ⟨S128x8x1024, .f32⟩
  | 125 => ⟨S_, .f32⟩
  | 126 => ⟨S128x8x1024, .f32⟩
  | 127 => ⟨S128x8x1024, .f32⟩
  | _ => ⟨S9216x5120, .f32⟩

abbrev hbmTy0_1 (i : Nat) : BufTy := match i % 128 with
  | 0 => ⟨S128x8x1024, .f32⟩
  | 1 => ⟨S128x8x1024, .f32⟩
  | 2 => ⟨S1024x1024, .f32⟩
  | _ => ⟨S9216x5120, .f32⟩

abbrev hbmTy (i : Nat) : BufTy := match i / 128 with
  | 0 => hbmTy0_0 i
  | 1 => hbmTy0_1 i
  | _ => ⟨S9216x5120, .f32⟩

abbrev bufTy : (tb : Table) → Fin (tcTables nBuf tb) → BufTy
  | .hbm, ⟨i, _⟩ => hbmTy i
  | _, _ => ⟨S9216x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_12 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Kernel7.lean ====
abbrev S8192x2048 : Shape := ⟨2, ![8192, 2048]⟩
abbrev S1024x2048 : Shape := ⟨2, ![1024, 2048]⟩
abbrev S9216x2048 : Shape := ⟨2, ![9216, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S9216x2048, .f32⟩
  | .hbm, ⟨3, _⟩ => ⟨S1x2048x2048, .f32⟩
  | .hbm, ⟨4, _⟩ => ⟨S2x3x2048, .f32⟩
  | .hbm, ⟨5, _⟩ => ⟨S2x3x2048, .f32⟩
  | .hbm, ⟨6, _⟩ => ⟨S2048x2048, .f32⟩
  | .hbm, ⟨7, _⟩ => ⟨S2048x2048, .bf16⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x2048 : Shape := ⟨2, ![8192, 2048]⟩
abbrev S1024x2048 : Shape := ⟨2, ![1024, 2048]⟩
abbrev S9216x2048 : Shape := ⟨2, ![9216, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S9216 : Shape := ⟨1, ![9216]⟩
abbrev S9216x1 : Shape := ⟨2, ![9216, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S9216x2048, .f32⟩
  | .hbm, ⟨3, _⟩ => ⟨S1x2048x2048, .f32⟩
  | .hbm, ⟨4, _⟩ => ⟨S2x3x2048, .f32⟩
  | .hbm, ⟨5, _⟩ => ⟨S2x3x2048, .f32⟩
  | .hbm, ⟨6, _⟩ => ⟨S2048x2048, .f32⟩
  | .hbm, ⟨7, _⟩ => ⟨S8192x2048, .f32⟩
  | .hbm, ⟨8, _⟩ => ⟨S2048x2048, .f32⟩
  | .hbm, ⟨9, _⟩ => ⟨S1024x2048, .f32⟩
  | .hbm, ⟨10, _⟩ => ⟨S9216x2048, .f32⟩
  | .hbm, ⟨11, _⟩ => ⟨S_, .f32⟩
  | .hbm, ⟨12, _⟩ => ⟨S9216x2048, .f32⟩
  | .hbm, ⟨13, _⟩ => ⟨S9216x2048, .f32⟩
  | .hbm, ⟨14, _⟩ => ⟨S9216x2048, .f32⟩
  | .hbm, ⟨15, _⟩ => ⟨S1x1x2048, .f32⟩
  | .hbm, ⟨16, _⟩ => ⟨S2048, .f32⟩
  | .hbm, ⟨17, _⟩ => ⟨S1x1x2048, .f32⟩
  | .hbm, ⟨18, _⟩ => ⟨S2048, .f32⟩
  | .hbm, ⟨19, _⟩ => ⟨S_, .f32⟩
  | .hbm, ⟨20, _⟩ => ⟨S9216, .f32⟩
  | .hbm, ⟨21, _⟩ => ⟨S9216x1, .f32⟩
  | .hbm, ⟨22, _⟩ => ⟨S_, .f32⟩
  | .hbm, ⟨23, _⟩ => ⟨S9216x1, .f32⟩
  | .hbm, ⟨24, _⟩ => ⟨S9216x1, .f32⟩
  | .hbm, ⟨25, _⟩ => ⟨S9216x2048, .f32⟩
  | .hbm, ⟨26, _⟩ => ⟨S9216x2048, .f32⟩
  | .hbm, ⟨27, _⟩ => ⟨S9216x2048, .f32⟩
  | .hbm, ⟨28, _⟩ => ⟨S_, .f32⟩
  | .hbm, ⟨29, _⟩ => ⟨S9216, .f32⟩
  | .hbm, ⟨30, _⟩ => ⟨S9216x1, .f32⟩
  | .hbm, ⟨31, _⟩ => ⟨S_, .f32⟩
  | .hbm, ⟨32, _⟩ => ⟨S9216x1, .f32⟩
  | .hbm, ⟨33, _⟩ => ⟨S9216x1, .f32⟩
  | .hbm, ⟨34, _⟩ => ⟨S9216x2048, .f32⟩
  | .hbm, ⟨35, _⟩ => ⟨S9216x2048, .f32⟩
  | .hbm, ⟨36, _⟩ => ⟨S_, .f32⟩
  | .hbm, ⟨37, _⟩ => ⟨S9216x1, .f32⟩
  | .hbm, ⟨38, _⟩ => ⟨S9216x1, .f32⟩
  | .hbm, ⟨39, _⟩ => ⟨S9216x1, .f32⟩
  | .hbm, ⟨40, _⟩ => ⟨S9216x2048, .f32⟩
  | .hbm, ⟨41, _⟩ => ⟨S9216x2048, .f32⟩
  | .hbm, ⟨42, _⟩ => ⟨S1x2048, .f32⟩
  | .hbm, ⟨43, _⟩ => ⟨S9216x2048, .f32⟩
  | .hbm, ⟨44, _⟩ => ⟨S9216x2048, .f32⟩
  | .hbm, ⟨45, _⟩ => ⟨S1x2048, .f32⟩
  | .hbm, ⟨46, _⟩ => ⟨S9216x2048, .f32⟩
  | .hbm, ⟨47, _⟩ => ⟨S9216x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S9216x2048 : Shape := ⟨2, ![9216, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S1024x2048 : Shape := ⟨2, ![1024, 2048]⟩
abbrev S1x1x2048 : Shape := ⟨3, ![1, 1, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .hbm, ⟨4, _⟩ => ⟨S9216x2048, .f32⟩
  | .hbm, ⟨5, _⟩ => ⟨S1x2048x2048, .f32⟩
  | .hbm, ⟨6, _⟩ => ⟨S2x3x2048, .f32⟩
  | .hbm, ⟨7, _⟩ => ⟨S2x3x2048, .f32⟩
  | .hbm, ⟨8, _⟩ => ⟨S2048x2048, .f32⟩
  | .hbm, ⟨9, _⟩ => ⟨S2048x2048, .bf16⟩
  | .hbm, ⟨10, _⟩ => ⟨S1024x2048, .bf16⟩
  | .hbm, ⟨11, _⟩ => ⟨S1024x2048, .bf16⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S9216x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8192x1024 : Shape := ⟨2, ![8192, 1024]⟩
abbrev S1024x1024 : Shape := ⟨2, ![1024, 1024]⟩
abbrev S9216x2048 : Shape := ⟨2, ![9216, 2048]⟩
abbrev S1x2048x2048 : Shape := ⟨3, ![1, 2048, 2048]⟩
abbrev S2x3x2048 : Shape := ⟨3, ![2, 3, 2048]⟩
abbrev S8192x2048 : Shape := ⟨2, ![8192, 2048]⟩
abbrev S2048x2048 : Shape := ⟨2, ![2048, 2048]⟩
abbrev S1024x2048 : Shape := ⟨2, ![1024, 2048]⟩
abbrev S_ : Shape := ⟨0, ![]⟩
abbrev S1x1x2048 : Shape := ⟨3, ![1, 1, 2048]⟩
abbrev S2048 : Shape := ⟨1, ![2048]⟩
abbrev S9216 : Shape := ⟨1, ![9216]⟩
abbrev S9216x1 : Shape := ⟨2, ![9216, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .hbm, ⟨4, _⟩ => ⟨S9216x2048, .f32⟩
  | .hbm, ⟨5, _⟩ => ⟨S1x2048x2048, .f32⟩
  | .hbm, ⟨6, _⟩ => ⟨S2x3x2048, .f32⟩
  | .hbm, ⟨7, _⟩ => ⟨S2x3x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S1024x2048, .f32⟩
  | .hbm, ⟨12, _⟩ => ⟨S2048x2048, .f32⟩
  | .hbm, ⟨13, _⟩ => ⟨S1024x2048, .f32⟩
  | .hbm, ⟨14, _⟩ => ⟨S_, .f32⟩
  | .hbm, ⟨15, _⟩ => ⟨S9216x2048, .f32⟩
  | .hbm, ⟨16, _⟩ => ⟨S9216x2048, .f32⟩
  | .hbm, ⟨17, _⟩ => ⟨S9216x2048, .f32⟩
  | .hbm, ⟨18, _⟩ => ⟨S9216x2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S_, .f32⟩
  | .hbm, ⟨24, _⟩ => ⟨S9216, .f32⟩
  | .hbm, ⟨25, _⟩ => ⟨S9216x1, .f32⟩
  | .hbm, ⟨26, _⟩ => ⟨S_, .f32⟩
  | .hbm, ⟨27, _⟩ => ⟨S9216x1, .f32⟩
  | .hbm, ⟨28, _⟩ => ⟨S9216x1, .f32⟩
  | .hbm, ⟨29, _⟩ => ⟨S9216x2048, .f32⟩
  | .hbm, ⟨30, _⟩ => ⟨S9216x2048, .f32⟩
  | .hbm, ⟨31, _⟩ => ⟨S9216x2048, .f32⟩
  | .hbm, ⟨32, _⟩ => ⟨S_, .f32⟩
  | .hbm, ⟨33, _⟩ => ⟨S9216, .f32⟩
  | .hbm, ⟨34, _⟩ => ⟨S9216x1, .f32⟩
  | .hbm, ⟨35, _⟩ => ⟨S_, .f32⟩
  | .hbm, ⟨36, _⟩ => ⟨S9216x1, .f32⟩
  | .hbm, ⟨37, _⟩ => ⟨S9216x1, .f32⟩
  | .hbm, ⟨38, _⟩ => ⟨S9216x2048, .f32⟩
  | .hbm, ⟨39, _⟩ => ⟨S9216x2048, .f32⟩
  | .hbm, ⟨40, _⟩ => ⟨S_, .f32⟩
  | .hbm, ⟨41, _⟩ => ⟨S9216x1, .f32⟩
  | .hbm, ⟨42, _⟩ => ⟨S9216x1, .f32⟩
  | .hbm, ⟨43, _⟩ => ⟨S9216x1, .f32⟩
  | .hbm, ⟨44, _⟩ => ⟨S9216x2048, .f32⟩
  | .hbm, ⟨45, _⟩ => ⟨S9216x2048, .f32⟩
  | .hbm, ⟨46, _⟩ => ⟨S1x2048, .f32⟩
  | .hbm, ⟨47, _⟩ => ⟨S9216x2048, .f32⟩
  | .hbm, ⟨48, _⟩ => ⟨S9216x2048, .f32⟩
  | .hbm, ⟨49, _⟩ => ⟨S1x2048, .f32⟩
  | .hbm, ⟨50, _⟩ => ⟨S9216x2048, .f32⟩
  | .hbm, ⟨51, _⟩ => ⟨S9216x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel9.lean ====
abbrev S9216x5120 : Shape := ⟨2, ![9216, 5120]⟩
abbrev S9216x128 : Shape := ⟨2, ![9216, 128]⟩
abbrev S1x512x2048 : Shape := ⟨3, ![1, 512, 2048]⟩
abbrev S512x2048 : Shape := ⟨2, ![512, 2048]⟩
abbrev S8192x2048 : Shape := ⟨2, ![8192, 2048]⟩
abbrev S8192x1024 : Shape := ⟨2, ![8192, 1024]⟩
abbrev S512x512 : Shape := ⟨2, ![512, 512]⟩
abbrev S512x128 : Shape := ⟨2, ![512, 128]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S9216x5120, .f32⟩
  | .hbm, ⟨1, _⟩ => ⟨S9216x128, .f32⟩
  | .hbm, ⟨2, _⟩ => ⟨S1x512x2048, .f32⟩
  | .hbm, ⟨3, _⟩ => ⟨S512x2048, .f32⟩
  | .hbm, ⟨4, _⟩ => ⟨S512x2048, .bf16⟩
  | .hbm, ⟨5, _⟩ => ⟨S8192x2048, .bf16⟩
  | .hbm, ⟨6, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x128, .f32⟩
  | .local _ .vmem, ⟨4, _⟩ => ⟨S512x128, .f32⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S9216x5120 : Shape := ⟨2, ![9216, 5120]⟩
abbrev S9216x128 : Shape := ⟨2, ![9216, 128]⟩
abbrev S1x512x2048 : Shape := ⟨3, ![1, 512, 2048]⟩
abbrev S8192x512 : Shape := ⟨2, ![8192, 512]⟩
abbrev S512x2048 : Shape := ⟨2, ![512, 2048]⟩
abbrev S8192x2048 : Shape := ⟨2, ![8192, 2048]⟩
abbrev S8192x8x256 : Shape := ⟨3, ![8192, 8, 256]⟩
abbrev S8192x8x128 : Shape := ⟨3, ![8192, 8, 128]⟩
abbrev S8192x128 : Shape := ⟨2, ![8192, 128]⟩
abbrev S8192x1x128 : Shape := ⟨3, ![8192, 1, 128]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S9216x5120, .f32⟩
  | .hbm, ⟨1, _⟩ => ⟨S9216x128, .f32⟩
  | .hbm, ⟨2, _⟩ => ⟨S1x512x2048, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x8x256, .f32⟩
  | .hbm, ⟨7, _⟩ => ⟨S8192x8x128, .f32⟩
  | .hbm, ⟨8, _⟩ => ⟨S8192x8x128, .f32⟩
  | .hbm, ⟨9, _⟩ => ⟨S8192x128, .f32⟩
  | .hbm, ⟨10, _⟩ => ⟨S8192x1x128, .f32⟩
  | .hbm, ⟨11, _⟩ => ⟨S8192x8x128, .f32⟩
  | .hbm, ⟨12, _⟩ => ⟨S8192x8x256, .f32⟩
  | .hbm, ⟨13, _⟩ => ⟨S8192x2048, .f32⟩
  | .hbm, ⟨14, _⟩ => ⟨S8192x2048, .bf16⟩
  | .hbm, ⟨15, _⟩ => ⟨S8192x1024, .f32⟩
  | .hbm, ⟨16, _⟩ => ⟨S8192x1024, .bf16⟩
  | _, _ => ⟨S9216x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel10.lean ====
abbrev S9216x2048 : Shape := ⟨2, ![9216, 2048]⟩
abbrev S1x512x2048 : Shape := ⟨3, ![1, 512, 2048]⟩
abbrev S512x2048 : Shape := ⟨2, ![512, 2048]⟩
abbrev S512x8x256 : Shape := ⟨3, ![512, 8, 256]⟩
abbrev S512x8x128 : Shape := ⟨3, ![512, 8, 128]⟩
abbrev S8x128x512 : Shape := ⟨3, ![8, 128, 512]⟩
abbrev S8x1024x512 : Shape := ⟨3, ![8, 1024, 512]⟩
abbrev S512x128 : Shape := ⟨2, ![512, 128]⟩
abbrev S1x128x512 : Shape := ⟨3, ![1, 128, 512]⟩
abbrev S1x512x512 : Shape := ⟨3, ![1, 512, 512]⟩
abbrev S128x512 : Shape := ⟨2, ![128, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S1x512x2048, .f32⟩
  | .hbm, ⟨2, _⟩ => ⟨S512x2048, .f32⟩
  | .hbm, ⟨3, _⟩ => ⟨S512x8x256, .f32⟩
  | .hbm, ⟨4, _⟩ => ⟨S512x8x128, .f32⟩
  | .hbm, ⟨5, _⟩ => ⟨S8x128x512, .f32⟩
  | .hbm, ⟨6, _⟩ => ⟨S8x128x512, .bf16⟩
  | .hbm, ⟨7, _⟩ => ⟨S8x1024x512, .f32⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .f32⟩
  | .local _ .vmem, ⟨5, _⟩ => ⟨S1x512x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c2_i32 : BitVec 32 := 2#32
  let v1 : BitVec 32 := Scalar.muli c2_i32 arg0
  let c0_i32 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S9216x2048 : Shape := ⟨2, ![9216, 2048]⟩
abbrev S1x512x2048 : Shape := ⟨3, ![1, 512, 2048]⟩
abbrev S1024x2048 : Shape := ⟨2, ![1024, 2048]⟩
abbrev S1024x8x256 : Shape := ⟨3, ![1024, 8, 256]⟩
abbrev S1024x8x128 : Shape := ⟨3, ![1024, 8, 128]⟩
abbrev S512x2048 : Shape := ⟨2, ![512, 2048]⟩
abbrev S512x8x256 : Shape := ⟨3, ![512, 8, 256]⟩
abbrev S512x8x128 : Shape := ⟨3, ![512, 8, 128]⟩
abbrev S8x512x1024 : Shape := ⟨3, ![8, 512, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x512x2048, .f32⟩
  | .hbm, ⟨2, _⟩ => ⟨S1024x2048, .bf16⟩
  | .hbm, ⟨3, _⟩ => ⟨S1024x8x256, .bf16⟩
  | .hbm, ⟨4, _⟩ => ⟨S1024x8x128, .bf16⟩
  | .hbm, ⟨5, _⟩ => ⟨S1024x8x128, .f32⟩
  | .hbm, ⟨6, _⟩ => ⟨S512x2048, .f32⟩
  | .hbm, ⟨7, _⟩ => ⟨S512x8x256, .f32⟩
  | .hbm, ⟨8, _⟩ => ⟨S512x8x128, .f32⟩
  | .hbm, ⟨9, _⟩ => ⟨S8x512x1024, .f32⟩
  | .hbm, ⟨10, _⟩ => ⟨S1024x8x512, .f32⟩
  | .hbm, ⟨11, _⟩ => ⟨S8x1024x512, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel11.lean ====
abbrev S128x64x512 : Shape := ⟨3, ![128, 64, 512]⟩
abbrev S1x512x2048 : Shape := ⟨3, ![1, 512, 2048]⟩
abbrev S512x2048 : Shape := ⟨2, ![512, 2048]⟩
abbrev S512x8x256 : Shape := ⟨3, ![512, 8, 256]⟩
abbrev S512x8x128 : Shape := ⟨3, ![512, 8, 128]⟩
abbrev S8x512x128 : Shape := ⟨3, ![8, 512, 128]⟩
abbrev S128x8x8x512 : Shape := ⟨4, ![128, 8, 8, 512]⟩
abbrev S1024x1024 : Shape := ⟨2, ![1024, 1024]⟩
abbrev S64x1x8x512 : Shape := ⟨4, ![64, 1, 8, 512]⟩
abbrev S1x512x128 : Shape := ⟨3, ![1, 512, 128]⟩
abbrev S512x128 : Shape := ⟨2, ![512, 128]⟩
abbrev S64x8x512 : Shape := ⟨3, ![64, 8, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S128x64x512, .f32⟩
  | .hbm, ⟨1, _⟩ => ⟨S1x512x2048, .f32⟩
  | .hbm, ⟨2, _⟩ => ⟨S512x2048, .f32⟩
  | .hbm, ⟨3, _⟩ => ⟨S512x8x256, .f32⟩
  | .hbm, ⟨4, _⟩ => ⟨S512x8x128, .f32⟩
  | .hbm, ⟨5, _⟩ => ⟨S8x512x128, .f32⟩
  | .hbm, ⟨6, _⟩ => ⟨S8x512x128, .bf16⟩
  | .hbm, ⟨7, _⟩ => ⟨S128x8x8x512, .f32⟩
  | .hbm, ⟨8, _⟩ => ⟨S1024x1024, .f32⟩
  | .local _ .vmem, ⟨0, _⟩ => ⟨S64x1x8x512, .f32⟩
  | .local _ .vmem, ⟨1, _⟩ => ⟨S64x1x8x512, .f32⟩
  | .local _ .vmem, ⟨2, _⟩ => ⟨S1x512x128, .bf16⟩
  | .local _ .vmem, ⟨3, _⟩ => ⟨S1x512x128, .bf16⟩
  | .local _ .vmem, ⟨4, _⟩ => ⟨S512x128, .f32⟩
  | .local _ .vmem, ⟨5, _⟩ => ⟨S512x128, .f32⟩
  | _, _ => ⟨S128x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S128x64x512 : Shape := ⟨3, ![128, 64, 512]⟩
abbrev S1x512x2048 : Shape := ⟨3, ![1, 512, 2048]⟩
abbrev S128x8x8x512 : Shape := ⟨4, ![128, 8, 8, 512]⟩
abbrev S512x2048 : Shape := ⟨2, ![512, 2048]⟩
abbrev S512x8x256 : Shape := ⟨3, ![512, 8, 256]⟩
abbrev S512x8x128 : Shape := ⟨3, ![512, 8, 128]⟩
abbrev S8x128x128x8 : Shape := ⟨4, ![8, 128, 128, 8]⟩
abbrev S128x8x8x128 : Shape := ⟨4, ![128, 8, 8, 128]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S128x64x512, .f32⟩
  | .hbm, ⟨1, _⟩ => ⟨S1x512x2048, .f32⟩
  | .hbm, ⟨2, _⟩ => ⟨S128x8x8x512, .f32⟩
  | .hbm, ⟨3, _⟩ => ⟨S128x8x8x512, .f32⟩
  | .hbm, ⟨4, _⟩ => ⟨S512x2048, .f32⟩
  | .hbm, ⟨5, _⟩ => ⟨S512x8x256, .f32⟩
  | .hbm, ⟨6, _⟩ => ⟨S512x8x128, .f32⟩
  | .hbm, ⟨7, _⟩ => ⟨S8x128x128x8, .f32⟩
  | .hbm, ⟨8, _⟩ => ⟨S128x8x8x128, .f32⟩
  | .hbm, ⟨9, _⟩ => ⟨S1024x1024, .f32⟩
  | _, _ => ⟨S128x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel12.lean ====
abbrev S9216x5120 : Shape := ⟨2, ![9216, 5120]⟩
abbrev S9216x32 : Shape := ⟨2, ![9216, 32]⟩
abbrev S1x512x1536 : Shape := ⟨3, ![1, 512, 1536]⟩
abbrev S_ : Shape := ⟨0, ![]⟩
abbrev S9216x64 : Shape := ⟨2, ![9216, 64]⟩
abbrev S9216x128 : Shape := ⟨2, ![9216, 128]⟩
abbrev S512x1536 : Shape := ⟨2, ![512, 1536]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S9216x2048 : Shape := ⟨2, ![9216, 2048]⟩
abbrev S512x512 : Shape := ⟨2, ![512, 512]⟩
abbrev S512x128 : Shape := ⟨2, ![512, 128]⟩

abbrev nBuf : Space → Nat
  | .hbm => 19
  | .vmem => 9
  | .smem => 0
  | _ => 0

abbrev bufTy : (tb : Table) → Fin (tcTables nBuf tb) → BufTy
  | .hbm, ⟨0, _⟩ => ⟨S9216x5120, .f32⟩
  | .hbm, ⟨1, _⟩ => ⟨S9216x32, .f32⟩
  | .hbm, ⟨2, _⟩ => ⟨S9216x32, .f32⟩
  | .hbm, ⟨3, _⟩ => ⟨S1x512x1536, .f32⟩
  | .hbm, ⟨4, _⟩ => ⟨S_, .f32⟩
  | .hbm, ⟨5, _⟩ => ⟨S9216x64, .f32⟩
  | .hbm, ⟨6, _⟩ => ⟨S9216x128, .f32⟩
  | .hbm, ⟨7, _⟩ => ⟨S9216x32, .f32⟩
  | .hbm, ⟨8, _⟩ => ⟨S9216x128, .f32⟩
  | .hbm, ⟨9, _⟩ => ⟨S512x1536, .f32⟩
  | .hbm, ⟨10, _⟩ => ⟨S512x8x192, .f32⟩
  | .hbm, ⟨11, _⟩ => ⟨S512x8x64, .f32⟩
  | .hbm, ⟨12, _⟩ => ⟨S512x8x32, .f32⟩
  | .hbm, ⟨13, _⟩ => ⟨S512x8x32, .f32⟩
  | .hbm, ⟨14, _⟩ => ⟨S512x8x64, .f32⟩
  | .hbm, ⟨15, _⟩ => ⟨S512x8x256, .f32⟩
  | .hbm, ⟨16, _⟩ => ⟨S512x2048, .f32⟩
  | .hbm, ⟨17, _⟩ => ⟨S512x2048, .bf16⟩
  | .hbm, ⟨18, _⟩ => ⟨S9216x2048, .bf16⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x2048, .bf16⟩
  | .local _ .vmem, ⟨8, _⟩ => ⟨S512x2048, .bf16⟩
  | _, _ => ⟨S9216x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S9216x5120 : Shape := ⟨2, ![9216, 5120]⟩
abbrev S9216x32 : Shape := ⟨2, ![9216, 32]⟩
abbrev S1x512x1536 : Shape := ⟨3, ![1, 512, 1536]⟩
abbrev S9216x512 : Shape := ⟨2, ![9216, 512]⟩
abbrev S512x1536 : Shape := ⟨2, ![512, 1536]⟩
abbrev S9216x1536 : Shape := ⟨2, ![9216, 1536]⟩
abbrev S9216x8x192 : Shape := ⟨3, ![9216, 8, 192]⟩
abbrev S9216x8x128 : Shape := ⟨3, ![9216, 8, 128]⟩
abbrev S9216x8x64 : Shape := ⟨3, ![9216, 8, 64]⟩
abbrev S9216x8x32 : Shape := ⟨3, ![9216, 8, 32]⟩
abbrev S9216x1x32 : Shape := ⟨3, ![9216, 1, 32]⟩
abbrev S_ : Shape := ⟨0, ![]⟩
abbrev S9216x8x256 : Shape := ⟨3, ![9216, 8, 256]⟩
abbrev S9216x2048 : Shape := ⟨2, ![9216, 2048]⟩

abbrev nBuf : Space → Nat
  | .hbm => 29
  | .vmem => 0
  | .smem => 0
  | _ => 0

abbrev bufTy : (tb : Table) → Fin (tcTables nBuf tb) → BufTy
  | .hbm, ⟨0, _⟩ => ⟨S9216x5120, .f32⟩
  | .hbm, ⟨1, _⟩ => ⟨S9216x32, .f32⟩
  | .hbm, ⟨2, _⟩ => ⟨S9216x32, .f32⟩
  | .hbm, ⟨3, _⟩ => ⟨S1x512x1536, .f32⟩
  | .hbm, ⟨4, _⟩ => ⟨S9216x512, .f32⟩
  | .hbm, ⟨5, _⟩ => ⟨S512x1536, .f32⟩
  | .hbm, ⟨6, _⟩ => ⟨S9216x1536, .f32⟩
  | .hbm, ⟨7, _⟩ => ⟨S9216x8x192, .f32⟩
  | .hbm, ⟨8, _⟩ => ⟨S9216x8x128, .f32⟩
  | .hbm, ⟨9, _⟩ => ⟨S9216x8x64, .f32⟩
  | .hbm, ⟨10, _⟩ => ⟨S9216x8x32, .f32⟩
  | .hbm, ⟨11, _⟩ => ⟨S9216x8x32, .f32⟩
  | .hbm, ⟨12, _⟩ => ⟨S9216x1x32, .f32⟩
  | .hbm, ⟨13, _⟩ => ⟨S9216x1x32, .f32⟩
  | .hbm, ⟨14, _⟩ => ⟨S9216x8x32, .f32⟩
  | .hbm, ⟨15, _⟩ => ⟨S9216x8x32, .f32⟩
  | .hbm, ⟨16, _⟩ => ⟨S9216x8x32, .f32⟩
  | .hbm, ⟨17, _⟩ => ⟨S9216x8x32, .f32⟩
  | .hbm, ⟨18, _⟩ => ⟨S9216x8x32, .f32⟩
  | .hbm, ⟨19, _⟩ => ⟨S9216x8x32, .f32⟩
  | .hbm, ⟨20, _⟩ => ⟨S9216x8x32, .f32⟩
  | .hbm, ⟨21, _⟩ => ⟨S9216x8x32, .f32⟩
  | .hbm, ⟨22, _⟩ => ⟨S9216x8x32, .f32⟩
  | .hbm, ⟨23, _⟩ => ⟨S9216x8x32, .f32⟩
  | .hbm, ⟨24, _⟩ => ⟨S_, .f32⟩
  | .hbm, ⟨25, _⟩ => ⟨S9216x8x64, .f32⟩
  | .hbm, ⟨26, _⟩ => ⟨S9216x8x256, .f32⟩
  | .hbm, ⟨27, _⟩ => ⟨S9216x2048, .f32⟩
  | .hbm, ⟨28, _⟩ => ⟨S9216x2048, .bf16⟩
  | _, _ => ⟨S9216x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Proof.MlaKeys.lean ====
/- The prompt's keys and values taken up from the latent space; a head's keys have the rotary part beside them. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel9Ideal.Kv

open Cert.Kernel9Ideal Cert.Kernel9Ideal.Gen Cert.Kernel9Ideal.Value
open Cert.Reference9Ideal.Read

variable (m : (ℓ : Loc nD τ sig) → Buf (Elt Ideal) ℓ)

/-- The blocks' positions: point `t` is row block `t`, the latent keys standing in the tenth column block. -/
theorem idx : ∀ t : Fin cfg0.N, win0_0.index t = ![t.val, 9] ∧ win0_1.index t = ![0, 0] ∧ win0_2.index t = ![t.val, 0]
    ∧ win0_3.index t = ![t.val, 0] ∧ win0_4.index t = ![t.val, 0] :=
  (by decide +kernel : ∀ t : Fin grid0.N, _)

theorem pt_lt (t : Fin cfg0.N) : t.val < 16 := t.isLt

/-- A latent row times a column of the up-projection. -/
def KV (x0 : FVec Ideal S9216x5120 .f32) (x2 : FVec Ideal S1x512x2048 .f32) (r : Fin 8192) (l : Fin 2048) : EReal :=
  ∑ k : Fin 512, x0 (ix2 ⟨r.val, by omega⟩ ⟨4608 + k.val, by omega⟩) * x2 (ix3 0 k l)

theorem ref_kv (x0 : FVec Ideal S9216x5120 .f32) (x2 : FVec Ideal S1x512x2048 .f32) (r : Fin 8192) (h : Fin 8) (e : Fin 256) :
    val_main_v3 (F := Ideal) x0 x2 (ix3 r h e) = KV x0 x2 r ⟨h.val * 256 + e.val, by omega⟩ := by
  pointwise [val_main_v3, val_main_v2, val_main_v1, val_main_v0, KV]

/-- The reference's keys at a head: the product's lanes, then the rotary part's. -/
theorem ref_k (x0 : FVec Ideal S9216x5120 .f32) (x1 : FVec Ideal S9216x128 .f32) (x2 : FVec Ideal S1x512x2048 .f32) (r : Fin 8192) (h : Fin 8)
    (e : Fin 256) : val_main_v9 (F := Ideal) x0 x1 x2 (ix3 r h e)
      = if hd : e.val < 128 then KV x0 x2 r ⟨h.val * 256 + e.val, by omega⟩ else x1 (ix2 ⟨r.val, by omega⟩ ⟨e.val - 128, by omega⟩) := by
  pointwise [val_main_v9, val_main_v8, val_main_v7, val_main_v6, val_main_v4]
  simp only [ref_kv]

/-- The reference's keys' array. -/
theorem ref_keys (x0 : FVec Ideal S9216x5120 .f32) (x1 : FVec Ideal S9216x128 .f32) (x2 : FVec Ideal S1x512x2048 .f32) (r : Fin 8192) (h : Fin 8)
    (e : Fin 256) : val_main_v11 (F := Ideal) x0 x1 x2 (ix2 r ⟨h.val * 256 + e.val, by omega⟩)
      = if hd : e.val < 128 then KV x0 x2 r ⟨h.val * 256 + e.val, by omega⟩ else x1 (ix2 ⟨r.val, by omega⟩ ⟨e.val - 128, by omega⟩) := by
  rw [← ref_k]
  generalize hv : val_main_v9 (F := Ideal) x0 x1 x2 = y
  pointwise [val_main_v11, val_main_v10, hv]

/-- The reference's values' array. -/
theorem ref_values (x0 : FVec Ideal S9216x5120 .f32) (x2 : FVec Ideal S1x512x2048 .f32) (r : Fin 8192) (h : Fin 8) (v : Fin 128) :
    val_main_v13 (F := Ideal) x0 x2 (ix2 r ⟨h.val * 128 + v.val, by omega⟩) = KV x0 x2 r ⟨h.val * 256 + (128 + v.val), by omega⟩ := by
  refine Eq.trans ?_ (ref_kv x0 x2 r h ⟨128 + v.val, by omega⟩)
  generalize hv : val_main_v3 (F := Ideal) x0 x2 = y
  pointwise [val_main_v13, val_main_v12, val_main_v5, hv]

set_option maxHeartbeats 2000000 in
/-- The keys a point stores. -/
theorem out_k (x : FVec Ideal S512x512 .f32) (w : FVec Ideal S512x2048 .bf16) (z : FVec Ideal S512x128 .f32) (p : Fin 512) (h : Fin 8) (e : Fin 256) :
    out0_3 (F := Ideal) x w z (ix2 p ⟨h.val * 256 + e.val, by omega⟩)
      = if hd : e.val < 128 then ∑ k : Fin 512, x (ix2 p k) * w (ix2 k ⟨h.val * 256 + e.val, by omega⟩) else z (ix2 p ⟨e.val - 128, by omega⟩) := by
  unfold_out out0_3
  canon_tiles u h
  all_goals
    have hl : h.val * 256 + e.val = _ := h1
    obtain rfl : p = u 0 := Fin.ext h0
    have hx : (u 1).val < 128 := (u 1).isLt
    first
      | (have hv : h.val = 7 := by omega); obtain rfl : h = 7 := Fin.ext hv
      | (have hv : h.val = 6 := by omega); obtain rfl : h = 6 := Fin.ext hv
      | (have hv : h.val = 5 := by omega); obtain rfl : h = 5 := Fin.ext hv
      | (have hv : h.val = 4 := by omega); obtain rfl : h = 4 := Fin.ext hv
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    first
      | (have he : e.val = (u 1).val := by omega)
        rw [dif_pos (by omega)]
        obtain rfl : e = ⟨(u 1).val, hx.trans (by decide)⟩ := Fin.ext he
        open_payloads
        pointwise
      | (have he : e.val = 128 + (u 1).val := by omega)
        rw [dif_neg (by omega)]
        obtain rfl : e = ⟨128 + (u 1).val, Nat.add_lt_add_left hx 128⟩ := Fin.ext he
        open_payloads
        pointwise
        try simp only [Nat.add_sub_cancel_left]

set_option maxHeartbeats 2000000 in
/-- The values a point stores. -/
theorem out_v (x : FVec Ideal S512x512 .f32) (w : FVec Ideal S512x2048 .bf16) (z : FVec Ideal S512x128 .f32) (p : Fin 512) (h : Fin 8) (v : Fin 128) :
    out0_4 (F := Ideal) x w z (ix2 p ⟨h.val * 128 + v.val, by omega⟩)
      = ∑ k : Fin 512, x (ix2 p k) * w (ix2 k ⟨h.val * 256 + (128 + v.val), by omega⟩) := by
  unfold_out out0_4
  canon_tiles u h
  all_goals
    have hl : h.val * 128 + v.val = _ := h1
    obtain rfl : p = u 0 := Fin.ext h0
    have he : v.val = (u 1).val := by omega
    obtain rfl : v = u 1 := Fin.ext he
    first
      | (have hv : h.val = 7 := by omega); obtain rfl : h = 7 := Fin.ext hv
      | (have hv : h.val = 6 := by omega); obtain rfl : h = 6 := Fin.ext hv
      | (have hv : h.val = 5 := by omega); obtain rfl : h = 5 := Fin.ext hv
      | (have hv : h.val = 4 := by omega); obtain rfl : h = 4 := Fin.ext hv
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise
    try exact Finset.sum_congr rfl fun k _ => congrArg (fun l => x (ix2 (u 0) k) * w (ix2 k l)) (Fin.ext (by dsimp only; omega))

theorem blk_x (c : Dev nD) (t : Fin cfg0.N) (p k : Fin 512) : (iblk m c 0 t : FVec Ideal S512x512 .f32) (ix2 p k)
    = (m ((c : Thread nD τ).loc main_arg0) : FVec Ideal S9216x5120 .f32) (ix2 ⟨t.val * 512 + p.val, by have := pt_lt t; omega⟩ ⟨4608 + k.val, by omega⟩) := by
  have := pt_lt t
  blk_point [iblk, V, idx t]

theorem blk_z (c : Dev nD) (t : Fin cfg0.N) (p : Fin 512) (e : Fin 128) : (iblk m c 2 t : FVec Ideal S512x128 .f32) (ix2 p e)
    = (m ((c : Thread nD τ).loc main_arg1) : FVec Ideal S9216x128 .f32) (ix2 ⟨t.val * 512 + p.val, by have := pt_lt t; omega⟩ e) := by
  have := pt_lt t
  blk_point [iblk, V, idx t]

/-- The weight as the host casts it. -/
theorem tab_w (c : Dev nD) (k : Fin 512) (l : Fin 2048) : (V m c main_v1 : FVec Ideal S512x2048 .bf16) (ix2 k l)
    = (m ((c : Thread nD τ).loc main_arg2) : FVec Ideal S1x512x2048 .f32) (ix3 0 k l) := by
  simp only [V, hostOps0, List.flatten_cons, List.flatten_nil, List.append_nil, List.cons_append, List.nil_append]
  after_reads_simp
  pointwise

theorem blk_w (c : Dev nD) (t : Fin cfg0.N) (k : Fin 512) (l : Fin 2048) : (iblk m c 1 t : FVec Ideal S512x2048 .bf16) (ix2 k l)
    = (m ((c : Thread nD τ).loc main_arg2) : FVec Ideal S1x512x2048 .f32) (ix3 0 k l) := by
  refine Eq.trans ?_ (tab_w m c k l)
  blk_point [iblk, idx t]

/-- A block's product is the reference's. -/
theorem kv_eq (c : Dev nD) (t : Fin cfg0.N) (p : Fin 512) (l : Fin 2048) :
    ∑ k : Fin 512, (show EReal from iblk m c 0 t (ix2 p k)) * (show EReal from iblk m c 1 t (ix2 k l))
      = KV (m ((c : Thread nD τ).loc main_arg0)) (m ((c : Thread nD τ).loc main_arg2)) ⟨t.val * 512 + p.val, by have := pt_lt t; omega⟩ l :=
  Finset.sum_congr rfl fun k _ => congrArg₂ (· * ·) (blk_x m c t p k) (blk_w m c t k l)

/-- The keys' array after the run is the reference's. -/
theorem final_k (c : Dev nD) : (dats m 0 c).arrAt 3 cfg0.N
    = val_main_v11 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := pt_lt t
  have hy1 : (y 1).val < 2048 := (y 1).isLt
  obtain ⟨p, h, e, hy⟩ : ∃ (p : Fin 512) (h : Fin 8) (e : Fin 256), y = ix2 p ⟨h.val * 256 + e.val, by omega⟩ := by
    refine ⟨y 0, ⟨(y 1).val / 256, by omega⟩, ⟨(y 1).val % 256, by omega⟩, ?_⟩
    funext a
    match a with
    | 0 => rfl
    | 1 => exact Fin.ext (by show (y 1).val = (y 1).val / 256 * 256 + (y 1).val % 256; omega)
  rw [show ((cfg0.win 3).blk t).view.emb y = ix2 ⟨t.val * 512 + p.val, by omega⟩ ⟨h.val * 256 + e.val, by omega⟩ by
    rw [hy]
    blk_ext [idx t]]
  rw [ref_keys]
  blk_simp
  rw [after0_3, hy]
  exact (out_k _ _ _ p h e).trans (dite_congr rfl (fun _ => kv_eq m c t p _) fun _ => blk_z m c t p _)

/-- The values' array after the run is the reference's. -/
theorem final_v (c : Dev nD) : (dats m 0 c).arrAt 4 cfg0.N
    = val_main_v13 (F := Ideal) (m ((c : Thread nD τ).loc main_arg0)) (m ((c : Thread nD τ).loc main_arg2)) := by
  refine (dats m 0 c).arrAt_eq_of_covers 4 _ (by decide +kernel) fun t hf y => ?_
  have ht := pt_lt t
  have hy1 : (y 1).val < 1024 := (y 1).isLt
  obtain ⟨p, h, v, hy⟩ : ∃ (p : Fin 512) (h : Fin 8) (v : Fin 128), y = ix2 p ⟨h.val * 128 + v.val, by omega⟩ := by
    refine ⟨y 0, ⟨(y 1).val / 128, by omega⟩, ⟨(y 1).val % 128, by omega⟩, ?_⟩
    funext a
    match a with
    | 0 => rfl
    | 1 => exact Fin.ext (by show (y 1).val = (y 1).val / 128 * 128 + (y 1).val % 128; omega)
  rw [show ((cfg0.win 4).blk t).view.emb y = ix2 ⟨t.val * 512 + p.val, by omega⟩ ⟨h.val * 128 + v.val, by omega⟩ by
    rw [hy]
    blk_ext [idx t]]
  rw [ref_values]
  blk_simp
  rw [after0_4, hy]
  exact (out_v _ _ _ p h v).trans (kv_eq m c t p _)

end Cert.Kernel9Ideal.Kv

namespace Cert.Proof

/-- At `Ideal` the keys and values of the kernel and of the reference agree. -/
theorem kv_up_algebraic : Cert.algebraic_Kernel9Ideal_Reference9Ideal := by
  pair_intro
  · run_from Cert.Kernel9Ideal.Value.run_blocks m g
  · refine (θ_run Cert.Reference9Ideal.defs _ _).mono (fun r h c => ⟨(h c).1.trans ?_, (h c).2.1.trans ?_, (h c).2.2⟩)
      (Cert.Reference9Ideal.Value.run (F := Ideal) m' g')
    · obtain ⟨h0, h1, h2⟩ := hagree c
      rw [Cert.Kernel9Ideal.Kv.final_k m c, h0, h1, h2]
      first
        | rfl
        | rw [Cert.Reference9Ideal.Read.val_main_v11_eq]
    · obtain ⟨h0, h1, h2⟩ := hagree c
      rw [Cert.Kernel9Ideal.Kv.final_v m c, h0, h2]
      first
        | rfl
        | rw [Cert.Reference9Ideal.Read.val_main_v13_eq]

end Cert.Proof

end
-- ==== Proof.MlaLatent.lean ====
/- The sample's queries taken to the latent space: one product a head, with the keys' up-projection transposed by the host. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel10Ideal.Lat

open Cert.Kernel10Ideal Cert.Kernel10Ideal.Gen Cert.Kernel10Ideal.Value
open Cert.Reference10Ideal.Read

variable (m : (ℓ : Loc nD τ sig) → Buf (Elt Ideal) ℓ)

/-- The blocks' positions: head `t / 2`, row block `t % 2` of the sample. -/
theorem idx : ∀ t : Fin cfg0.N, win0_0.index t = ![16 + t.val % 2, 2 * (t.val / 2)] ∧ win0_1.index t = ![t.val / 2, 0, 0]
    ∧ win0_2.index t = ![t.val / 2, t.val % 2, 0] :=
  (by decide +kernel : ∀ t : Fin grid0.N, _)

theorem pt_lt (t : Fin cfg0.N) : t.val < 16 := t.isLt

/-- A query's row times a column of its head's up-projection. -/
def LAT (x0 : FVec Ideal S9216x2048 .bf16) (x1 : FVec Ideal S1x512x2048 .f32) (h : Fin 8) (q : Fin 1024) (r : Fin 512) : EReal :=
  ∑ d : Fin 128, x0 (ix2 ⟨8192 + q.val, by omega⟩ ⟨h.val * 256 + d.val, by omega⟩) * x1 (ix3 0 r ⟨h.val * 256 + d.val, by omega⟩)

theorem ref_q (x0 : FVec Ideal S9216x2048 .bf16) (q : Fin 1024) (h : Fin 8) (d : Fin 128) :
    val_main_v3 (F := Ideal) x0 (ix3 q h d) = x0 (ix2 ⟨8192 + q.val, by omega⟩ ⟨h.val * 256 + d.val, by omega⟩) := by
  pointwise [val_main_v3, val_main_v2, val_main_v1, val_main_v0]

theorem ref_w (x1 : FVec Ideal S1x512x2048 .f32) (r : Fin 512) (h : Fin 8) (d : Fin 128) :
    val_main_v6 (F := Ideal) x1 (ix3 r h d) = x1 (ix3 0 r ⟨h.val * 256 + d.val, by omega⟩) := by
  pointwise [val_main_v6, val_main_v5, val_main_v4]

/-- The reference's result at an index. -/
theorem ref_val (x0 : FVec Ideal S9216x2048 .bf16) (x1 : FVec Ideal S1x512x2048 .f32) (h : Fin 8) (q : Fin 1024) (r : Fin 512) :
    val_main_v9 (F := Ideal) x0 x1 (ix3 h q r) = LAT x0 x1 h q r := by
  pointwise [val_main_v9, val_main_v8, val_main_v7]
  simp only [ref_q, ref_w, LAT]
  exact Finset.sum_congr rfl fun d _ => mul_comm _ _

/-- What a point stores. -/
theorem out (x : FVec Ideal S512x128 .bf16) (w : FVec Ideal S1x128x512 .bf16) (p r : Fin 512) :
    out0_2 (F := Ideal) x w (ix3 0 p r) = ∑ d : Fin 128, x (ix2 p d) * w (ix3 0 d r) := by
  frame_out
  pointwise [k0_pay1]

/-- The host's table: the keys' part of the up-projection, a head's transposed. -/
theorem tab_w (c : Dev nD) (h : Fin 8) (d : Fin 128) (r : Fin 512) : (V m c main_v4 : FVec Ideal S8x128x512 .bf16) (ix3 h d r)
    = (m ((c : Thread nD τ).loc main_arg1) : FVec Ideal S1x512x2048 .f32) (ix3 0 r ⟨h.val * 256 + d.val, by omega⟩) := by
  simp only [V, hostOps0, List.flatten_cons, List.flatten_nil, List.append_nil, List.cons_append, List.nil_append]
  after_reads_simp
  pointwise

/-- The result array after the run is the reference's. -/
theorem final (c : Dev nD) : (dats m 0 c).arrAt 2 cfg0.N
    = val_main_v9 (F := Ideal) (m ((c : Thread nD τ).loc main_arg0)) (m ((c : Thread nD τ).loc main_arg1)) := by
  refine (dats m 0 c).arrAt_eq_of_covers 2 _ (by decide +kernel) fun t hf y => ?_
  have ht := pt_lt t
  obtain ⟨p, r, hy⟩ : ∃ (p r : Fin 512), y = ix3 0 p r := by
    refine ⟨y 1, y 2, ?_⟩
    funext a
    match a with
    | 0 => exact Subsingleton.elim (α := Fin 1) _ _
    | 1 => rfl
    | 2 => rfl
  rw [show ((cfg0.win 2).blk t).view.emb y = ix3 ⟨t.val / 2, by omega⟩ ⟨t.val % 2 * 512 + p.val, by omega⟩ r by
    rw [hy]
    blk_ext [idx t]]
  rw [ref_val]
  blk_simp
  rw [after0_2, hy]
  refine (out _ _ p r).trans (Finset.sum_congr rfl fun d _ => congrArg₂ (· * ·) ?_ ?_)
  · blk_point [iblk, V, idx t]
  · refine Eq.trans ?_ (tab_w m c ⟨t.val / 2, by omega⟩ d r)
    blk_point [iblk, idx t]

end Cert.Kernel10Ideal.Lat

namespace Cert.Proof

/-- At `Ideal` the latent queries of the kernel and of the reference agree. -/
theorem q_latent_algebraic : Cert.algebraic_Kernel10Ideal_Reference10Ideal := by
  pair_intro
  · run_from Cert.Kernel10Ideal.Value.run_blocks m g
  · run_from Cert.Reference10Ideal.Value.run m' g'
    exact (Cert.Kernel10Ideal.Lat.final m c).symm

end Cert.Proof

end
-- ==== Proof.MlaValueUp.lean ====
/- The sample's values taken up from the latent space: one product a head. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel11Ideal.Up

open Cert.Kernel11Ideal Cert.Kernel11Ideal.Gen Cert.Kernel11Ideal.Value
open Cert.Reference11Ideal.Read

variable (m : (ℓ : Loc nD τ sig) → Buf (Elt Ideal) ℓ)

/-- The blocks' positions: head `t / 2`, 64 sequences from `t % 2 * 64`. -/
theorem idx : ∀ t : Fin cfg0.N, win0_0.index t = ![t.val % 2, t.val / 2, 0, 0] ∧ win0_1.index t = ![t.val / 2, 0, 0]
    ∧ win0_2.index t = ![t.val % 2, t.val / 2] :=
  (by decide +kernel : ∀ t : Fin grid0.N, _)

theorem pt_lt (t : Fin cfg0.N) : t.val < 16 := t.isLt

/-- A place's latent row times a column of its head's values. -/
def UP (x0 : FVec Ideal S128x64x512 .f32) (x1 : FVec Ideal S1x512x2048 .f32) (b : Fin 128) (i h : Fin 8) (v : Fin 128) : EReal :=
  ∑ r : Fin 512, x0 (ix3 b ⟨h.val * 8 + i.val, by omega⟩ r) * x1 (ix3 0 r ⟨h.val * 256 + (128 + v.val), by omega⟩)

theorem ref_o (x0 : FVec Ideal S128x64x512 .f32) (b : Fin 128) (i h : Fin 8) (r : Fin 512) :
    val_main_v1 (F := Ideal) x0 (ix4 b i h r) = x0 (ix3 b ⟨h.val * 8 + i.val, by omega⟩ r) := by
  pointwise [val_main_v1, val_main_v0]

theorem ref_w (x1 : FVec Ideal S1x512x2048 .f32) (r : Fin 512) (h : Fin 8) (v : Fin 128) :
    val_main_v4 (F := Ideal) x1 (ix3 r h v) = x1 (ix3 0 r ⟨h.val * 256 + (128 + v.val), by omega⟩) := by
  pointwise [val_main_v4, val_main_v3, val_main_v2]

/-- The reference's product by sequence, place, head and lane, -/
theorem ref_up (x0 : FVec Ideal S128x64x512 .f32) (x1 : FVec Ideal S1x512x2048 .f32) (b : Fin 128) (i h : Fin 8) (v : Fin 128) :
    val_main_v6 (F := Ideal) x0 x1 (ix4 b i h v) = UP x0 x1 b i h v := by
  pointwise [val_main_v6, val_main_v5]
  simp only [ref_o, ref_w, UP]
  exact Finset.sum_congr rfl fun d _ => mul_comm _ _

/-- and its result. -/
theorem ref_val (x0 : FVec Ideal S128x64x512 .f32) (x1 : FVec Ideal S1x512x2048 .f32) (b : Fin 128) (i h : Fin 8) (v : Fin 128) :
    val_main_v7 (F := Ideal) x0 x1 (ix2 ⟨b.val * 8 + i.val, by omega⟩ ⟨h.val * 128 + v.val, by omega⟩) = UP x0 x1 b i h v := by
  rw [← ref_up]
  generalize hv : val_main_v6 (F := Ideal) x0 x1 = y
  pointwise [val_main_v7, hv]

/-- What a point stores. -/
theorem out (x : FVec Ideal S64x1x8x512 .f32) (w : FVec Ideal S1x512x128 .bf16) (b : Fin 64) (i : Fin 8) (v : Fin 128) :
    out0_2 (F := Ideal) x w (ix2 ⟨b.val * 8 + i.val, by omega⟩ v) = ∑ r : Fin 512, x (ix4 b 0 i r) * w (ix3 0 r v) := by
  frame_out
  pointwise [k0_pay1]

/-- The host's table: the values' part of the up-projection by head. -/
theorem tab_w (c : Dev nD) (h : Fin 8) (r : Fin 512) (v : Fin 128) : (V m c main_v4 : FVec Ideal S8x512x128 .bf16) (ix3 h r v)
    = (m ((c : Thread nD τ).loc main_arg1) : FVec Ideal S1x512x2048 .f32) (ix3 0 r ⟨h.val * 256 + (128 + v.val), by omega⟩) := by
  simp only [V, hostOps0, List.flatten_cons, List.flatten_nil, List.append_nil, List.cons_append, List.nil_append]
  after_reads_simp
  pointwise

/-- The latent outputs as the host lays them out. -/
theorem tab_o (c : Dev nD) (b : Fin 128) (h i : Fin 8) (r : Fin 512) : (V m c main_v5 : FVec Ideal S128x8x8x512 .f32) (ix4 b h i r)
    = (m ((c : Thread nD τ).loc main_arg0) : FVec Ideal S128x64x512 .f32) (ix3 b ⟨h.val * 8 + i.val, by omega⟩ r) := by
  simp only [V, hostOps0, List.flatten_cons, List.flatten_nil, List.append_nil, List.cons_append, List.nil_append]
  after_reads_simp
  pointwise

/-- The result array after the run is the reference's. -/
theorem final (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  have ht := pt_lt t
  have hy0 : (y 0).val < 512 := (y 0).isLt
  obtain ⟨b, i, v, hy⟩ : ∃ (b : Fin 64) (i : Fin 8) (v : Fin 128), y = ix2 ⟨b.val * 8 + i.val, by omega⟩ v := by
    refine ⟨⟨(y 0).val / 8, by omega⟩, ⟨(y 0).val % 8, by omega⟩, y 1, ?_⟩
    funext a
    match a with
    | 0 => exact Fin.ext (by show (y 0).val = (y 0).val / 8 * 8 + (y 0).val % 8; omega)
    | 1 => rfl
  rw [show ((cfg0.win 2).blk t).view.emb y
      = ix2 ⟨(⟨t.val % 2 * 64 + b.val, by omega⟩ : Fin 128).val * 8 + i.val, by show (t.val % 2 * 64 + b.val) * 8 + i.val < 1024; omega⟩
          ⟨(⟨t.val / 2, by omega⟩ : Fin 8).val * 128 + v.val, by show t.val / 2 * 128 + v.val < 1024; omega⟩ by
    rw [hy]
    blk_ext [idx t]]
  rw [ref_val]
  blk_simp
  rw [after0_2, hy]
  refine (out _ _ b i v).trans (Finset.sum_congr rfl fun r _ => congrArg₂ (· * ·) ?_ ?_)
  · refine Eq.trans ?_ (tab_o m c ⟨t.val % 2 * 64 + b.val, by omega⟩ ⟨t.val / 2, by omega⟩ i r)
    blk_point [iblk, idx t]
  · refine Eq.trans ?_ (tab_w m c ⟨t.val / 2, by omega⟩ r v)
    blk_point [iblk, idx t]

end Cert.Kernel11Ideal.Up

namespace Cert.Proof

/-- At `Ideal` the values' up-projection of the kernel and of the reference agree. -/
theorem value_up_algebraic : Cert.algebraic_Kernel11Ideal_Reference11Ideal := by
  pair_intro
  · run_from Cert.Kernel11Ideal.Value.run_blocks m g
  · run_from Cert.Reference11Ideal.Value.run m' g'
    exact (Cert.Kernel11Ideal.Up.final m c).symm

end Cert.Proof

end
-- ==== Proof.MlaQueries.lean ====
/- The queries taken up from the compressed ones; a head's last part is rotated. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel12Ideal.Uq

open Cert.Kernel12Ideal Cert.Kernel12Ideal.Gen Cert.Kernel12Ideal.Value
open Cert.Reference12Ideal.Read

variable (m : (ℓ : Loc nD τ sig) → Buf (Elt Ideal) ℓ)

/-- The blocks' positions: point `t` is row block `t`, the compressed queries standing in the ninth column block. -/
theorem idx : ∀ t : Fin cfg0.N, win0_0.index t = ![t.val, 8] ∧ win0_1.index t = ![0, 0] ∧ win0_2.index t = ![t.val, 0]
    ∧ win0_3.index t = ![t.val, 0] ∧ win0_4.index t = ![t.val, 0] :=
  (by decide +kernel : ∀ t : Fin grid0.N, _)

theorem pt_lt (t : Fin cfg0.N) : t.val < 18 := t.isLt

/-- The row of the array that a point's block row is. -/
abbrev row (t : Fin cfg0.N) (p : Fin 512) : Fin 9216 := ⟨t.val * 512 + p.val, by have := pt_lt t; omega⟩

/-! ## The tables the host lays out -/

/-- A table: two half tables and the padding lanes. -/
def catTab (a b : FVec Ideal S9216x32 .f32) (z : FVec Ideal S9216x64 .f32) : FVec Ideal S9216x128 .f32 :=
  concatenate S9216x128 1 [⟨S9216x32, a⟩, ⟨S9216x32, b⟩, ⟨S9216x64, z⟩] concatenates_S9216x32_S9216x32_S9216x64_S9216x128_d1

/-- The halves of a head's last part side by side. -/
def catHalf (a b : (⟨S512x8x32, .f32⟩ : BufTy).Contents (Elt Ideal)) : (⟨S512x8x64, .f32⟩ : BufTy).Contents (Elt Ideal) :=
  concatenate S512x8x64 2 [⟨S512x8x32, a⟩, ⟨S512x8x32, b⟩] concatenates_S512x8x32_S512x8x32_S512x8x64_d2

/-- A head's columns beside the swapped halves of its last part. -/
def catW (a : (⟨S512x8x192, .f32⟩ : BufTy).Contents (Elt Ideal)) (b : (⟨S512x8x64, .f32⟩ : BufTy).Contents (Elt Ideal)) :
    (⟨S512x8x256, .f32⟩ : BufTy).Contents (Elt Ideal) :=
  concatenate S512x8x256 2 [⟨S512x8x192, a⟩, ⟨S512x8x64, b⟩] concatenates_S512x8x192_S512x8x64_S512x8x256_d2

theorem catHalf_eq : (fun (a b : (⟨S512x8x32, .f32⟩ : BufTy).Contents (Elt Ideal)) =>
  concatenate S512x8x64 2 [⟨S512x8x32, a⟩, ⟨S512x8x32, b⟩] concatenates_S512x8x32_S512x8x32_S512x8x64_d2) = catHalf := rfl
theorem catW_eq : (fun (a : (⟨S512x8x192, .f32⟩ : BufTy).Contents (Elt Ideal)) (b : (⟨S512x8x64, .f32⟩ : BufTy).Contents (Elt Ideal)) =>
  concatenate S512x8x256 2 [⟨S512x8x192, a⟩, ⟨S512x8x64, b⟩] concatenates_S512x8x192_S512x8x64_S512x8x256_d2) = catW := rfl

theorem catCos_eq : (fun u : (i : Fin 3) → (![main_arg1, main_arg1, main_v0] i).ty.Contents (Elt Ideal) =>
  (concatenate S9216x128 1 [⟨S9216x32, (u 0 : (⟨S9216x32, .f32⟩ : BufTy).Contents (Elt Ideal))⟩, ⟨S9216x32, (u 1 : (⟨S9216x32, .f32⟩ : BufTy).Contents (Elt Ideal))⟩, ⟨S9216x64, (u 2 : (⟨S9216x64, .f32⟩ : BufTy).Contents (Elt Ideal))⟩] concatenates_S9216x32_S9216x32_S9216x64_S9216x128_d1 : (⟨S9216x128, .f32⟩ : BufTy).Contents (Elt Ideal))) = fun u => catTab (u 0) (u 1) (u 2) := rfl
theorem catSin_eq : (fun u : (i : Fin 3) → (![main_v2, main_arg2, main_v0] i).ty.Contents (Elt Ideal) =>
  (concatenate S9216x128 1 [⟨S9216x32, (u 0 : (⟨S9216x32, .f32⟩ : BufTy).Contents (Elt Ideal))⟩, ⟨S9216x32, (u 1 : (⟨S9216x32, .f32⟩ : BufTy).Contents (Elt Ideal))⟩, ⟨S9216x64, (u 2 : (⟨S9216x64, .f32⟩ : BufTy).Contents (Elt Ideal))⟩] concatenates_S9216x32_S9216x32_S9216x64_S9216x128_d1 : (⟨S9216x128, .f32⟩ : BufTy).Contents (Elt Ideal))) = fun u => catTab (u 0) (u 1) (u 2) := rfl

theorem tab_w (c : Dev nD) (k : Fin 512) (h : Fin 8) (e : Fin 256) :
    (V m c main_v12 : FVec Ideal S512x2048 .bf16) (ix2 k ⟨h.val * 256 + e.val, by omega⟩)
    = if h1 : e.val < 192 then (m ((c : Thread nD τ).loc main_arg3) : FVec Ideal S1x512x1536 .f32) (ix3 0 k ⟨h.val * 192 + e.val, by omega⟩)
      else if h2 : e.val - 192 < 32 then
        (m ((c : Thread nD τ).loc main_arg3) : FVec Ideal S1x512x1536 .f32) (ix3 0 k ⟨h.val * 192 + (128 + (32 + (e.val - 192))), by omega⟩)
      else (m ((c : Thread nD τ).loc main_arg3) : FVec Ideal S1x512x1536 .f32) (ix3 0 k ⟨h.val * 192 + (128 + (e.val - 192 - 32)), by omega⟩) := by
  simp only [V, hostOps0, List.flatten_cons, List.flatten_nil, List.append_nil, List.cons_append, List.nil_append, catHalf_eq, catW_eq]
  after_reads_simp
  pointwise [catHalf, catW]
  have hm : (h.val * 256 + e.val) % 256 = e.val := by omega
  have hd : (h.val * 256 + e.val) / 256 = h.val := by omega
  simp only [hm, hd]

theorem tab_cos (c : Dev nD) (r : Fin 9216) (e : Fin 128) : (V m c main_v1 : FVec Ideal S9216x128 .f32) (ix2 r e)
    = if h : e.val < 32 then (m ((c : Thread nD τ).loc main_arg1) : FVec Ideal S9216x32 .f32) (ix2 r ⟨e.val, h⟩)
      else if h : e.val - 32 < 32 then (m ((c : Thread nD τ).loc main_arg1) : FVec Ideal S9216x32 .f32) (ix2 r ⟨e.val - 32, h⟩) else (0 : EReal) := by
  simp only [V, hostOps0, List.flatten_cons, List.flatten_nil, List.append_nil, List.cons_append, List.nil_append, catCos_eq]
  after_reads_simp
  dsimp only [Matrix.cons_val_zero, Matrix.cons_val_one, Matrix.cons_val]
  after_reads_simp
  pointwise [catTab]

theorem tab_sin (c : Dev nD) (r : Fin 9216) (e : Fin 128) : (V m c main_v3 : FVec Ideal S9216x128 .f32) (ix2 r e)
    = if h : e.val < 32 then @Neg.neg EReal _ ((m ((c : Thread nD τ).loc main_arg2) : FVec Ideal S9216x32 .f32) (ix2 r ⟨e.val, h⟩))
      else if h : e.val - 32 < 32 then (m ((c : Thread nD τ).loc main_arg2) : FVec Ideal S9216x32 .f32) (ix2 r ⟨e.val - 32, h⟩) else (0 : EReal) := by
  simp only [V, hostOps0, List.flatten_cons, List.flatten_nil, List.append_nil, List.cons_append, List.nil_append, catSin_eq]
  after_reads_simp
  dsimp only [Matrix.cons_val_zero, Matrix.cons_val_one, Matrix.cons_val]
  after_reads_simp
  pointwise [catTab]

/-! ## The reference -/

/-- A compressed row times a column of the up-projection. -/
def Q (x0 : FVec Ideal S9216x5120 .f32) (x3 : FVec Ideal S1x512x1536 .f32) (r : Fin 9216) (l : Fin 1536) : EReal :=
  ∑ k : Fin 512, x0 (ix2 r ⟨4096 + k.val, by omega⟩) * x3 (ix3 0 k l)

theorem ref_q (x0 : FVec Ideal S9216x5120 .f32) (x3 : FVec Ideal S1x512x1536 .f32) (r : Fin 9216) (h : Fin 8) (e : Fin 192) :
    val_main_v3 (F := Ideal) x0 x3 (ix3 r h e) = Q x0 x3 r ⟨h.val * 192 + e.val, by omega⟩ := by
  pointwise [val_main_v3, val_main_v2, val_main_v1, val_main_v0, Q]

/-- The reference's queries at a head. -/
theorem ref_h (x0 : FVec Ideal S9216x5120 .f32) (x1 x2 : FVec Ideal S9216x32 .f32) (x3 : FVec Ideal S1x512x1536 .f32) (r : Fin 9216) (h : Fin 8) (e : Fin 256) :
    val_main_v21 (F := Ideal) x0 x1 x2 x3 (ix3 r h e)
      = if hd : e.val < 128 then Q x0 x3 r ⟨h.val * 192 + e.val, by omega⟩
        else if h1 : e.val - 128 < 32 then
          Q x0 x3 r ⟨h.val * 192 + (128 + (e.val - 128)), by omega⟩ * x1 (ix2 r ⟨e.val - 128, h1⟩)
            - Q x0 x3 r ⟨h.val * 192 + (128 + (32 + (e.val - 128))), by omega⟩ * x2 (ix2 r ⟨e.val - 128, h1⟩)
        else if h2 : e.val - 128 - 32 < 32 then
          Q x0 x3 r ⟨h.val * 192 + (128 + (e.val - 128 - 32)), by omega⟩ * x2 (ix2 r ⟨e.val - 128 - 32, h2⟩)
            + Q x0 x3 r ⟨h.val * 192 + (128 + (32 + (e.val - 128 - 32))), by omega⟩ * x1 (ix2 r ⟨e.val - 128 - 32, h2⟩)
        else 0 := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_cst]
  simp only [ref_q]

/-- The reference's array by row, head and lane. -/
theorem ref_val (x0 : FVec Ideal S9216x5120 .f32) (x1 x2 : FVec Ideal S9216x32 .f32) (x3 : FVec Ideal S1x512x1536 .f32) (r : Fin 9216) (h : Fin 8) (e : Fin 256) :
    val_main_v23 (F := Ideal) x0 x1 x2 x3 (ix2 r ⟨h.val * 256 + e.val, by omega⟩) = val_main_v21 (F := Ideal) x0 x1 x2 x3 (ix3 r h e) := by
  generalize hv : val_main_v21 (F := Ideal) x0 x1 x2 x3 = y
  pointwise [val_main_v23, val_main_v22, hv]

/-! ## The kernel -/

set_option maxHeartbeats 4000000 in
/-- What a point stores, over its blocks. -/
theorem out (x : FVec Ideal S512x512 .f32) (w : FVec Ideal S512x2048 .bf16) (c s : FVec Ideal S512x128 .f32) (p : Fin 512) (h : Fin 8) (e : Fin 256) :
    out0_4 (F := Ideal) x w c s (ix2 p ⟨h.val * 256 + e.val, by omega⟩)
      = if hd : e.val < 128 then ∑ k : Fin 512, x (ix2 p k) * w (ix2 k ⟨h.val * 256 + e.val, by omega⟩)
        else (∑ k : Fin 512, x (ix2 p k) * w (ix2 k ⟨h.val * 256 + (128 + (e.val - 128)), by omega⟩)) * c (ix2 p ⟨e.val - 128, by omega⟩)
          + (∑ k : Fin 512, x (ix2 p k) * w (ix2 k ⟨h.val * 256 + (128 + (e.val - 128 + 128 - 64) % 128), by omega⟩)) * s (ix2 p ⟨e.val - 128, by omega⟩) := by
  unfold_out out0_4
  canon_tiles u h
  all_goals
    have hl : h.val * 256 + e.val = _ := h1
    obtain rfl : p = u 0 := Fin.ext h0
    have hx : (u 1).val < 128 := (u 1).isLt
    first
      | (have hv : h.val = 7 := by omega); obtain rfl : h = 7 := Fin.ext hv
      | (have hv : h.val = 6 := by omega); obtain rfl : h = 6 := Fin.ext hv
      | (have hv : h.val = 5 := by omega); obtain rfl : h = 5 := Fin.ext hv
      | (have hv : h.val = 4 := by omega); obtain rfl : h = 4 := Fin.ext hv
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    first
      | (have he : e.val = (u 1).val := by omega)
        rw [dif_pos (by omega)]
        obtain rfl : e = ⟨(u 1).val, hx.trans (by decide)⟩ := Fin.ext he
        open_payloads
        pointwise
      | (have he : e.val = 128 + (u 1).val := by omega)
        rw [dif_neg (by omega)]
        obtain rfl : e = ⟨128 + (u 1).val, Nat.add_lt_add_left hx 128⟩ := Fin.ext he
        open_payloads
        pointwise
        try simp only [Nat.add_sub_cancel_left]
        try exact congrArg₂ (· + ·) (congrArg (· * _) (Finset.sum_congr rfl fun k _ => congrArg (fun l => x (ix2 (u 0) k) * w (ix2 k l)) (Fin.ext (by dsimp only; omega)))) (congrArg (· * _) (Finset.sum_congr rfl fun k _ => congrArg (fun l => x (ix2 (u 0) k) * w (ix2 k l)) (Fin.ext (by dsimp only; omega))))

theorem blk_x (c : Dev nD) (t : Fin cfg0.N) (p k : Fin 512) : (iblk m c 0 t : FVec Ideal S512x512 .f32) (ix2 p k)
    = (m ((c : Thread nD τ).loc main_arg0) : FVec Ideal S9216x5120 .f32) (ix2 (row t p) ⟨4096 + k.val, by omega⟩) := by
  have := pt_lt t
  simp only [row]
  blk_point [iblk, V, idx t]

theorem blk_w (c : Dev nD) (t : Fin cfg0.N) (k : Fin 512) (l : Fin 2048) : (iblk m c 1 t : FVec Ideal S512x2048 .bf16) (ix2 k l)
    = (V m c main_v12 : FVec Ideal S512x2048 .bf16) (ix2 k l) := by
  blk_point [iblk, idx t]

theorem blk_cos (c : Dev nD) (t : Fin cfg0.N) (p : Fin 512) (e : Fin 128) : (iblk m c 2 t : FVec Ideal S512x128 .f32) (ix2 p e)
    = (V m c main_v1 : FVec Ideal S9216x128 .f32) (ix2 (row t p) e) := by
  have := pt_lt t
  simp only [row]
  blk_point [iblk, idx t]

theorem blk_sin (c : Dev nD) (t : Fin cfg0.N) (p : Fin 512) (e : Fin 128) : (iblk m c 3 t : FVec Ideal S512x128 .f32) (ix2 p e)
    = (V m c main_v3 : FVec Ideal S9216x128 .f32) (ix2 (row t p) e) := by
  have := pt_lt t
  simp only [row]
  blk_point [iblk, idx t]

/-- Where a lane of a head's widened columns comes from, within the head. -/
def src (e : ℕ) : ℕ := if e < 192 then e else if e < 224 then e - 32 else e - 96

/-- The weight's column at a lane. -/
theorem col (c : Dev nD) (h : Fin 8) (e : Fin 256) (q : Fin 1536) (hq : q.val = h.val * 192 + src e.val) (k : Fin 512) :
    (V m c main_v12 : FVec Ideal S512x2048 .bf16) (ix2 k ⟨h.val * 256 + e.val, by omega⟩)
      = (m ((c : Thread nD τ).loc main_arg3) : FVec Ideal S1x512x1536 .f32) (ix3 0 k q) := by
  rw [tab_w]
  unfold src at hq
  by_cases h1 : e.val < 192
  · rw [dif_pos h1]
    rw [if_pos h1] at hq
    exact congrArg _ (congrArg (ix3 0 k) (Fin.ext hq.symm))
  · rw [dif_neg h1]
    rw [if_neg h1] at hq
    by_cases h2 : e.val < 224
    · rw [dif_pos (by omega)]
      rw [if_pos h2] at hq
      exact congrArg _ (congrArg (ix3 0 k) (Fin.ext (by show h.val * 192 + (128 + (32 + (e.val - 192))) = q.val; omega)))
    · rw [dif_neg (by omega)]
      rw [if_neg h2] at hq
      exact congrArg _ (congrArg (ix3 0 k) (Fin.ext (by show h.val * 192 + (128 + (e.val - 192 - 32)) = q.val; omega)))

/-- A block's product at a lane is a column of the reference's. -/
theorem prod_eq (c : Dev nD) (t : Fin cfg0.N) (p : Fin 512) (h : Fin 8) (e : Fin 256) (q : Fin 1536) (hq : q.val = h.val * 192 + src e.val) :
    ∑ k : Fin 512, (show EReal from iblk m c 0 t (ix2 p k)) * (show EReal from iblk m c 1 t (ix2 k ⟨h.val * 256 + e.val, by omega⟩))
      = Q (m ((c : Thread nD τ).loc main_arg0)) (m ((c : Thread nD τ).loc main_arg3)) (row t p) q :=
  Finset.sum_congr rfl fun k _ => congrArg₂ (· * ·) (blk_x m c t p k) ((blk_w m c t k _).trans (col m c h e q hq k))

set_option maxHeartbeats 2000000 in
/-- What a point stores is the reference's value. -/
theorem point (c : Dev nD) (t : Fin cfg0.N) (p : Fin 512) (h : Fin 8) (e : Fin 256) :
    out0_4 (F := Ideal) (iblk m c 0 t) (iblk m c 1 t) (iblk m c 2 t) (iblk m c 3 t) (ix2 p ⟨h.val * 256 + e.val, by omega⟩)
      = val_main_v21 (F := Ideal) (m ((c : Thread nD τ).loc main_arg0)) (m ((c : Thread nD τ).loc main_arg1))
          (m ((c : Thread nD τ).loc main_arg2)) (m ((c : Thread nD τ).loc main_arg3)) (ix3 (row t p) h e) := by
  rw [ref_h]
  refine (out _ _ _ _ p h e).trans ?_
  by_cases h0 : e.val < 128
  · rw [dif_pos h0, dif_pos h0]
    exact prod_eq m c t p h e _ (by unfold src; rw [if_pos (by omega)])
  rw [dif_neg h0, dif_neg h0]
  have hs : 128 + (e.val - 128 + 128 - 64) % 128 < 256 := by omega
  have hc : 128 + (e.val - 128) < 256 := by omega
  by_cases h1 : e.val - 128 < 32
  · rw [dif_pos h1]
    refine (congrArg₂ (· + ·)
      (congrArg₂ (· * ·) (prod_eq m c t p h ⟨128 + (e.val - 128), hc⟩ ⟨h.val * 192 + (128 + (e.val - 128)), by omega⟩
          (by show h.val * 192 + (128 + (e.val - 128)) = h.val * 192 + src (128 + (e.val - 128)); unfold src; split_ifs <;> omega))
        ((blk_cos m c t p _).trans ((tab_cos m c (row t p) _).trans (dif_pos h1))))
      (congrArg₂ (· * ·) (prod_eq m c t p h ⟨128 + (e.val - 128 + 128 - 64) % 128, hs⟩ ⟨h.val * 192 + (128 + (32 + (e.val - 128))), by omega⟩
          (by show h.val * 192 + (128 + (32 + (e.val - 128))) = h.val * 192 + src (128 + (e.val - 128 + 128 - 64) % 128); unfold src; split_ifs <;> omega))
        ((blk_sin m c t p _).trans ((tab_sin m c (row t p) _).trans (dif_pos h1))))).trans ?_
    rw [sub_eq_add_neg]
    exact congrArg (_ + ·) (mul_neg (α := EReal) _ _)
  · rw [dif_neg h1]
    by_cases h2 : e.val - 128 - 32 < 32
    · rw [dif_pos h2]
      refine (congrArg₂ (· + ·)
        (congrArg₂ (· * ·) (prod_eq m c t p h ⟨128 + (e.val - 128), hc⟩ ⟨h.val * 192 + (128 + (32 + (e.val - 128 - 32))), by omega⟩
            (by show h.val * 192 + (128 + (32 + (e.val - 128 - 32))) = h.val * 192 + src (128 + (e.val - 128)); unfold src; split_ifs <;> omega))
          ((blk_cos m c t p _).trans ((tab_cos m c (row t p) _).trans ((dif_neg h1).trans (dif_pos h2)))))
        (congrArg₂ (· * ·) (prod_eq m c t p h ⟨128 + (e.val - 128 + 128 - 64) % 128, hs⟩ ⟨h.val * 192 + (128 + (e.val - 128 - 32)), by omega⟩
            (by show h.val * 192 + (128 + (e.val - 128 - 32)) = h.val * 192 + src (128 + (e.val - 128 + 128 - 64) % 128); unfold src; split_ifs <;> omega))
          ((blk_sin m c t p _).trans ((tab_sin m c (row t p) _).trans ((dif_neg h1).trans (dif_pos h2)))))).trans ?_
      exact add_comm _ _
    · rw [dif_neg h2]
      refine (congrArg₂ (· + ·)
        (congrArg (_ * ·) ((blk_cos m c t p _).trans ((tab_cos m c (row t p) _).trans ((dif_neg h1).trans (dif_neg h2)))))
        (congrArg (_ * ·) ((blk_sin m c t p _).trans ((tab_sin m c (row t p) _).trans ((dif_neg h1).trans (dif_neg h2)))))).trans ?_
      show _ * (0 : EReal) + _ * (0 : EReal) = 0
      rw [mul_zero, mul_zero, add_zero]

/-- The result array after the run is the reference's. -/
theorem final (c : Dev nD) : (dats m 0 c).arrAt 4 cfg0.N
    = val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht := pt_lt t
  have hy1 : (y 1).val < 2048 := (y 1).isLt
  obtain ⟨p, h, e, hy⟩ : ∃ (p : Fin 512) (h : Fin 8) (e : Fin 256), y = ix2 p ⟨h.val * 256 + e.val, by omega⟩ := by
    refine ⟨y 0, ⟨(y 1).val / 256, by omega⟩, ⟨(y 1).val % 256, by omega⟩, ?_⟩
    funext a
    match a with
    | 0 => rfl
    | 1 => exact Fin.ext (by show (y 1).val = (y 1).val / 256 * 256 + (y 1).val % 256; omega)
  rw [show ((cfg0.win 4).blk t).view.emb y = ix2 (row t p) ⟨h.val * 256 + e.val, by omega⟩ by
    rw [hy]
    simp only [row]
    blk_ext [idx t]]
  rw [ref_val]
  blk_simp
  rw [after0_4, hy]
  exact point m c t p h e

end Cert.Kernel12Ideal.Uq

namespace Cert.Proof

/-- At `Ideal` the queries of the kernel and of the reference agree. -/
theorem q_up_algebraic : Cert.algebraic_Kernel12Ideal_Reference12Ideal := by
  pair_intro
  · run_from Cert.Kernel12Ideal.Value.run_blocks m g
  · run_from Cert.Reference12Ideal.Value.run m' g'
    refine (Cert.Reference12Ideal.Read.val_main_v23_eq _ _ _ _).trans ?_
    obtain ⟨_, _, _, h3⟩ := hagree c
    rw [Cert.Kernel12Ideal.Uq.final m c, h3]

end Cert.Proof

end
-- ==== Proof.RetRef.lean ====
/- One chunk of the reference's recurrence, read at an index: the state's decay and update, and the chunk's output. -/
module

public import proofs.«01_k».proof.Proof.Gen.ReferenceIdeal.Step
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.ReferenceIdeal.Ret

open Cert.ReferenceIdeal Cert.ReferenceIdeal.Gen Cert.ReferenceIdeal.Step

/-- A trip's number, read signed. -/
theorem trip_toInt : ∀ n : ℕ, n < 32 → (BitVec.ofNat 32 n).toInt = (n : ℤ) := by
  decide

/-- A chunk taken out of the stacked chunks. -/
theorem chunk_read (x : FVec Ideal S32x2x128x8x128 .f32) (st : Fin S32x2x128x8x128.rank → ℤ)
    (hs : S32x2x128x8x128.Slices (fun _ => 0) S1x2x128x8x128) (hc : S1x2x128x8x128.ShapeCasts S2x128x8x128)
    (n : ℕ) (hn : n < 32) (h0 : st (0 : Fin 5) = n) (h1 : st (1 : Fin 5) = 0) (h2 : st (2 : Fin 5) = 0) (h3 : st (3 : Fin 5) = 0)
    (h4 : st (4 : Fin 5) = 0) (b : Fin 2) (i : Fin 128) (h : Fin 8) (d : Fin 128) :
    shapeCast S2x128x8x128 (Host.dynamicSlice S1x2x128x8x128 x st hs) hc (ix4 b i h d) = x (ix5 ⟨n, hn⟩ b i h d) := by
  have c0 : Host.clampedStart S32x2x128x8x128 S1x2x128x8x128 hs.1 st (0 : Fin 5) = n := by
    simp only [Host.clampedStart, h0]; simp; omega
  have c1 : Host.clampedStart S32x2x128x8x128 S1x2x128x8x128 hs.1 st (1 : Fin 5) = 0 := by
    simp only [Host.clampedStart, h1]; simp
  have c2 : Host.clampedStart S32x2x128x8x128 S1x2x128x8x128 hs.1 st (2 : Fin 5) = 0 := by
    simp only [Host.clampedStart, h2]; simp
  have c3 : Host.clampedStart S32x2x128x8x128 S1x2x128x8x128 hs.1 st (3 : Fin 5) = 0 := by
    simp only [Host.clampedStart, h3]; simp
  have c4 : Host.clampedStart S32x2x128x8x128 S1x2x128x8x128 hs.1 st (4 : Fin 5) = 0 := by
    simp only [Host.clampedStart, h4]; simp
  pointwise
  congr 1
  simp only [c0, c1, c2, c3, c4, Nat.zero_add, Fin.eta]

/-- A chunk written over the stacked chunks. -/
theorem chunk_write (x : FVec Ideal S32x2x128x8x128 .f32) (u : FVec Ideal S1x2x128x8x128 .f32) (st : Fin S32x2x128x8x128.rank → ℤ)
    (hs : S32x2x128x8x128.Slices (fun _ => 0) S1x2x128x8x128)
    (n : ℕ) (hn : n < 32) (h0 : st (0 : Fin 5) = n) (h1 : st (1 : Fin 5) = 0) (h2 : st (2 : Fin 5) = 0) (h3 : st (3 : Fin 5) = 0)
    (h4 : st (4 : Fin 5) = 0) (n' : Fin 32) (b : Fin 2) (i : Fin 128) (h : Fin 8) (d : Fin 128) :
    Host.dynamicUpdateSlice x u st hs (ix5 n' b i h d) = if n'.val = n then u (ix5 0 b i h d) else x (ix5 n' b i h d) := by
  have c0 : Host.clampedStart S32x2x128x8x128 S1x2x128x8x128 hs.1 st (0 : Fin 5) = n := by
    simp only [Host.clampedStart, h0]; simp; omega
  have c1 : Host.clampedStart S32x2x128x8x128 S1x2x128x8x128 hs.1 st (1 : Fin 5) = 0 := by
    simp only [Host.clampedStart, h1]; simp
  have c2 : Host.clampedStart S32x2x128x8x128 S1x2x128x8x128 hs.1 st (2 : Fin 5) = 0 := by
    simp only [Host.clampedStart, h2]; simp
  have c3 : Host.clampedStart S32x2x128x8x128 S1x2x128x8x128 hs.1 st (3 : Fin 5) = 0 := by
    simp only [Host.clampedStart, h3]; simp
  have c4 : Host.clampedStart S32x2x128x8x128 S1x2x128x8x128 hs.1 st (4 : Fin 5) = 0 := by
    simp only [Host.clampedStart, h4]; simp
  pointwise
  simp only [c0, c1, c2, c3, c4, Nat.sub_zero, Nat.zero_le, true_and, and_true, Fin.eta]
  by_cases hn' : n'.val = n
  · rw [dif_pos (by omega), if_pos hn']
    congr 2
    apply Fin.ext
    show n'.val - n = 0
    omega
  · rw [dif_neg (by omega), if_neg hn']

theorem q_read (n : ℕ) (hn : n < 32) (s : State Ideal) (b : Fin 2) (i : Fin 128) (h : Fin 8) (d : Fin 128) :
    b5 n s (ix4 b i h d) = s.main_v11_0 (ix5 ⟨n, hn⟩ b i h d) :=
  chunk_read _ _ _ _ n hn (trip_toInt n hn) rfl rfl rfl rfl b i h d

theorem k_read (n : ℕ) (hn : n < 32) (s : State Ideal) (b : Fin 2) (i : Fin 128) (h : Fin 8) (d : Fin 128) :
    b11 n s (ix4 b i h d) = s.main_v11_1 (ix5 ⟨n, hn⟩ b i h d) :=
  chunk_read _ _ _ _ n hn (trip_toInt n hn) rfl rfl rfl rfl b i h d

theorem v_read (n : ℕ) (hn : n < 32) (s : State Ideal) (b : Fin 2) (i : Fin 128) (h : Fin 8) (d : Fin 128) :
    b17 n s (ix4 b i h d) = s.main_v11_2 (ix5 ⟨n, hn⟩ b i h d) :=
  chunk_read _ _ _ _ n hn (trip_toInt n hn) rfl rfl rfl rfl b i h d

/-- The logarithm of a head's decay. -/
def LG (h : Fin 8) : EReal :=
  Ideal.log (1 - Ideal.exp (Ideal.ofBits FTy.f32 0x3F317218#32 * (Ideal.ofBits FTy.f32 0xC0A00000#32 - FloatOps.sitofp (F := Ideal) FTy.f32 (BitVec.ofNat 32 h.val))))

theorem lg_read (n : ℕ) (s : State Ideal) (h : Fin 8) : b29 n s (ix1 h) = LG h := by
  pointwise [b29, b28, b27, b26, b25, b24, b23, b22, b21, b20, b19, b18, LG]

/-- How much a state is decayed over a whole chunk, by head. -/
def CD (h : Fin 8) : EReal := Ideal.exp (Ideal.ofBits FTy.f32 0x43000000#32 * LG h)

/-- How much a key is decayed to the chunk's end, by its place in the chunk and head. -/
def KD (k : Fin 128) (h : Fin 8) : EReal :=
  Ideal.exp ((Ideal.ofBits FTy.f32 0x42FE0000#32 - FloatOps.sitofp (F := Ideal) FTy.f32 (BitVec.ofNat 32 k.val)) * LG h)

/-- How much the entering state is decayed for a query, by its place in the chunk and head. -/
def QD (i : Fin 128) (h : Fin 8) : EReal :=
  Ideal.exp ((FloatOps.sitofp (F := Ideal) FTy.f32 (BitVec.ofNat 32 i.val) + 1) * LG h)

/-- The decay between two places of a chunk, zero for a key after the query. -/
def DEC (h : Fin 8) (i k : Fin 128) : EReal :=
  if (0 : EReal) ≤ FloatOps.sitofp (F := Ideal) FTy.f32 (BitVec.ofNat 32 i.val) - FloatOps.sitofp (F := Ideal) FTy.f32 (BitVec.ofNat 32 k.val) then
    Ideal.exp (max (FloatOps.sitofp (F := Ideal) FTy.f32 (BitVec.ofNat 32 i.val) - FloatOps.sitofp (F := Ideal) FTy.f32 (BitVec.ofNat 32 k.val)) (0 : EReal)
      * LG h)
  else 0

theorem cd_read (n : ℕ) (s : State Ideal) (h : Fin 8) : b86 n s (ix1 h) = CD h := by
  pointwise [b86, b85, b84, b83]
  simp only [lg_read, CD]

theorem kd_read (n : ℕ) (s : State Ideal) (k : Fin 128) (h : Fin 8) : b82 n s (ix2 k h) = KD k h := by
  pointwise [b82, b81, b80, b79, b78, b77, b76, b75, b74, b30]
  simp only [lg_read, KD]

theorem qd_read (n : ℕ) (s : State Ideal) (i : Fin 128) (h : Fin 8) : b67 n s (ix2 i h) = QD i h := by
  pointwise [b67, b66, b65, b64, b63, b62, b61, b60, b59, b30]
  simp only [lg_read, QD]

theorem dec_read (n : ℕ) (s : State Ideal) (h : Fin 8) (i k : Fin 128) : b52 n s (ix3 h i k) = DEC h i k := by
  pointwise [b52, b51, b50, b49, b48, b47, b46, b45, b44, b43, b42, b41, b40, b39, b38, b37, b36, b35, b34, b33, b32, b31, b30]
  simp only [lg_read, DEC]

/-- The state after a trip: the state before, decayed over the chunk, plus the chunk's decayed keys times its values. -/
theorem state_step (n : ℕ) (hn : n < 32) (s : State Ideal) (b : Fin 2) (h : Fin 8) (d e : Fin 128) :
    b94 n s (ix4 b h d e) = s.main_v11_4 (ix4 b h d e) * CD h
      + ∑ k : Fin 128, s.main_v11_1 (ix5 ⟨n, hn⟩ b k h d) * KD k h * s.main_v11_2 (ix5 ⟨n, hn⟩ b k h e) := by
  pointwise [b94, b89, b88, b87, b93, b92, b91, b90]
  simp only [k_read n hn, v_read n hn, cd_read, kd_read]

/-- The chunk's output. -/
theorem out_step (n : ℕ) (hn : n < 32) (s : State Ideal) (b : Fin 2) (i : Fin 128) (h : Fin 8) (e : Fin 128) :
    b73 n s (ix4 b i h e) = ∑ k : Fin 128, s.main_v11_2 (ix5 ⟨n, hn⟩ b k h e)
        * ((∑ d : Fin 128, s.main_v11_0 (ix5 ⟨n, hn⟩ b i h d) * s.main_v11_1 (ix5 ⟨n, hn⟩ b k h d)) * DEC h i k)
      + (∑ d : Fin 128, s.main_v11_4 (ix4 b h d e) * s.main_v11_0 (ix5 ⟨n, hn⟩ b i h d)) * QD i h := by
  pointwise [b73, b72, b71, b70, b69, b68, b58, b57, b56, b55, b54, b53]
  simp only [q_read n hn, k_read n hn, v_read n hn, dec_read, qd_read]

/-- The chunk's output written at its place among the stacked outputs. -/
theorem stack_step (n : ℕ) (hn : n < 32) (s : State Ideal) (n' : Fin 32) (b : Fin 2) (i : Fin 128) (h : Fin 8) (e : Fin 128) :
    b100 n s (ix5 n' b i h e) = if n'.val = n then b73 n s (ix4 b i h e) else s.main_v11_5 (ix5 n' b i h e) := by
  have key := chunk_write (s.main_v11_5) (b95 n s) (fun k => (((![(constantI S_ 32 (BitVec.ofNat 32 n) : (⟨S_, .i32⟩ : BufTy).Contents (Elt Ideal)), (b96 n s), (b97 n s), (b98 n s), (b99 n s)] : Fin 5 → (⟨S_, .i32⟩ : BufTy).Contents (Elt Ideal))) k (Shape.Idx.first h_S_)).toInt)
    updateFits_S32x2x128x8x128_S1x2x128x8x128 n hn (trip_toInt n hn) rfl rfl rfl rfl n' b i h e
  refine key.trans ?_
  pointwise [b95]

/-- The reference's sequence of states. -/
def refIter (x : FVec Ideal S9216x5120 .f32) : ℕ → State Ideal
  | 0 => init x
  | n + 1 => step n (refIter x n)

theorem iter_q (x : FVec Ideal S9216x5120 .f32) : ∀ n, (refIter x n).main_v11_0 = A_main_v5 x
  | 0 => rfl
  | n + 1 => iter_q x n

theorem iter_k (x : FVec Ideal S9216x5120 .f32) : ∀ n, (refIter x n).main_v11_1 = A_main_v7 x
  | 0 => rfl
  | n + 1 => iter_k x n

theorem iter_v (x : FVec Ideal S9216x5120 .f32) : ∀ n, (refIter x n).main_v11_2 = A_main_v9 x
  | 0 => rfl
  | n + 1 => iter_v x n

/-- The state entering chunk `n`. -/
def ST (x : FVec Ideal S9216x5120 .f32) (n : ℕ) (b : Fin 2) (h : Fin 8) (d e : Fin 128) : EReal :=
  (refIter x n).main_v11_4 (ix4 b h d e)

/-- The output of chunk `n`, before its LayerNorm. -/
def OUT (x : FVec Ideal S9216x5120 .f32) (n : Fin 32) (b : Fin 2) (i : Fin 128) (h : Fin 8) (e : Fin 128) : EReal :=
  ∑ k : Fin 128, A_main_v9 (F := Ideal) x (ix5 n b k h e) * ((∑ d : Fin 128, A_main_v5 (F := Ideal) x (ix5 n b i h d) * A_main_v7 (F := Ideal) x (ix5 n b k h d)) * DEC h i k)
    + (∑ d : Fin 128, ST x n.val b h d e * A_main_v5 (F := Ideal) x (ix5 n b i h d)) * QD i h

/-- The stacked queries, in the argument. -/
theorem q_arg (x : FVec Ideal S9216x5120 .f32) (n : Fin 32) (b : Fin 2) (i : Fin 128) (h : Fin 8) (d : Fin 128) :
    A_main_v5 (F := Ideal) x (ix5 n b i h d) = x (ix2 ⟨b.val * 4096 + n.val * 128 + i.val, by omega⟩ ⟨h.val * 128 + d.val, by omega⟩) := by
  pointwise [A_main_v5, A_main_v4, A_main_v0]
  blk_ext

/-- The stacked keys, in the argument. -/
theorem k_arg (x : FVec Ideal S9216x5120 .f32) (n : Fin 32) (b : Fin 2) (i : Fin 128) (h : Fin 8) (d : Fin 128) :
    A_main_v7 (F := Ideal) x (ix5 n b i h d) = x (ix2 ⟨b.val * 4096 + n.val * 128 + i.val, by omega⟩ ⟨1024 + h.val * 128 + d.val, by omega⟩) := by
  pointwise [A_main_v7, A_main_v6, A_main_v1]
  blk_ext

/-- The stacked values, in the argument. -/
theorem v_arg (x : FVec Ideal S9216x5120 .f32) (n : Fin 32) (b : Fin 2) (i : Fin 128) (h : Fin 8) (d : Fin 128) :
    A_main_v9 (F := Ideal) x (ix5 n b i h d) = x (ix2 ⟨b.val * 4096 + n.val * 128 + i.val, by omega⟩ ⟨2048 + h.val * 128 + d.val, by omega⟩) := by
  pointwise [A_main_v9, A_main_v8, A_main_v2]
  blk_ext

/-- The first state is zero. -/
theorem st_zero (x : FVec Ideal S9216x5120 .f32) (b : Fin 2) (h : Fin 8) (d e : Fin 128) : ST x 0 b h d e = 0 := by
  show K_main_v3 (F := Ideal) (ix4 b h d e) = 0
  pointwise [K_main_v3, K_main_cst]

/-- The recurrence of the states. -/
theorem st_succ (x : FVec Ideal S9216x5120 .f32) (n : ℕ) (hn : n < 32) (b : Fin 2) (h : Fin 8) (d e : Fin 128) :
    ST x (n + 1) b h d e = ST x n b h d e * CD h
      + ∑ k : Fin 128, A_main_v7 (F := Ideal) x (ix5 ⟨n, hn⟩ b k h d) * KD k h * A_main_v9 (F := Ideal) x (ix5 ⟨n, hn⟩ b k h e) := by
  have := state_step n hn (refIter x n) b h d e
  rw [iter_k, iter_v] at this
  exact this

/-- A chunk's output stands in the stack once its trip is over. -/
theorem stack_iter (x : FVec Ideal S9216x5120 .f32) (n' : Fin 32) (b : Fin 2) (i : Fin 128) (h : Fin 8) (e : Fin 128) :
    ∀ n, n ≤ 32 → n'.val < n → (refIter x n).main_v11_5 (ix5 n' b i h e) = OUT x n' b i h e
  | 0, _, h' => absurd h' (Nat.not_lt_zero _)
  | n + 1, hn, h' => by
    refine (stack_step n hn (refIter x n) n' b i h e).trans ?_
    by_cases e' : n'.val = n
    · rw [if_pos e', out_step n hn (refIter x n) b i h e, iter_q, iter_k, iter_v]
      obtain rfl : n' = ⟨n, hn⟩ := Fin.ext e'
      rfl
    · rw [if_neg e']
      exact stack_iter x n' b i h e n (by omega) (by omega)

/-- A head's LayerNorm at one lane, gated. -/
def GATED (o : Fin 128 → EReal) (e : Fin 128) (gg gb g : EReal) : EReal :=
  ((o e - Ideal.div (∑ x : Fin 128, o x) (Ideal.ofBits FTy.f32 0x43000000#32))
      * Ideal.rsqrt (Ideal.div (∑ x : Fin 128, (o x - Ideal.div (∑ y : Fin 128, o y) (Ideal.ofBits FTy.f32 0x43000000#32))
          * (o x - Ideal.div (∑ y : Fin 128, o y) (Ideal.ofBits FTy.f32 0x43000000#32))) (Ideal.ofBits FTy.f32 0x43000000#32)
        + Ideal.ofBits FTy.f32 0x3727C5AC#32) * gg + gb)
    * (g * Ideal.div 1 (1 + Ideal.exp (-g)))

/-- What the operations after the loop make of the stacked outputs. -/
theorem out_read (s : State Ideal) (x0 : FVec Ideal S9216x5120 .f32) (x1 x2 : FVec Ideal S8x128 .f32) (r : Fin 8192) (l : Fin 1024) :
    R_main_v43 s x0 x1 x2 (ix2 r l)
      = GATED (fun e => s.main_v11_5 (ix5 ⟨r.val % 4096 / 128, by omega⟩ ⟨r.val / 4096, by omega⟩ ⟨r.val % 4096 % 128, by omega⟩ ⟨l.val / 128, by omega⟩ e))
        ⟨l.val % 128, by omega⟩ (x1 (ix2 ⟨l.val / 128, by omega⟩ ⟨l.val % 128, by omega⟩)) (x2 (ix2 ⟨l.val / 128, by omega⟩ ⟨l.val % 128, by omega⟩))
        (x0 (ix2 ⟨r.val, by omega⟩ ⟨3072 + l.val, by omega⟩)) := by
  pointwise [R_main_v43, GATED]

/-- The reference's output, of its argument alone. -/
theorem out_at (x0 : FVec Ideal S9216x5120 .f32) (x1 x2 : FVec Ideal S8x128 .f32) (r : Fin 8192) (l : Fin 1024) :
    R_main_v43 (refIter x0 32) x0 x1 x2 (ix2 r l)
      = GATED (fun e => OUT x0 ⟨r.val % 4096 / 128, by omega⟩ ⟨r.val / 4096, by omega⟩ ⟨r.val % 4096 % 128, by omega⟩ ⟨l.val / 128, by omega⟩ e)
        ⟨l.val % 128, by omega⟩ (x1 (ix2 ⟨l.val / 128, by omega⟩ ⟨l.val % 128, by omega⟩)) (x2 (ix2 ⟨l.val / 128, by omega⟩ ⟨l.val % 128, by omega⟩))
        (x0 (ix2 ⟨r.val, by omega⟩ ⟨3072 + l.val, by omega⟩)) := by
  rw [out_read]
  congr 1
  funext e
  exact stack_iter x0 _ _ _ _ e 32 le_rfl (Fin.isLt _)

end Cert.ReferenceIdeal.Ret

end
-- ==== Proof.RetKernel.lean ====
/- One point of the retention kernel, read at an index: what it makes of the state its run carries, and its block of the
   output. -/
module

public import proofs.«01_k».proof.Proof.Gen.KernelIdeal.Value
public import proofs.«01_k».proof.Proof.RetRef
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen Cert.KernelIdeal.Value
open Cert.ReferenceIdeal.Ret (GATED)

variable (m : (ℓ : Loc nD τ sig) → Buf (Elt Ideal) ℓ)

/-- Earlier stores don't show where a later one covers. -/
theorem canon_drop {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hyq⟩ := hy
      rcases List.mem_cons.mp hq with rfl | hq'
      · exact absurd hyq hm
      · rw [List.cons_append, View.canon_cons_of_not_mem _ _ hm, View.canon_cons_of_not_mem _ _ hm]
        exact canon_drop L' L y ⟨q, hq', hyq⟩

/-- What a point makes of the state `S` its run carries. -/
def KS (k v : FVec Ideal S128x512 .f32) (kd : FVec Ideal S4x128x128 .f32) (cd : FVec Ideal S4x1x128 .f32) (S : FVec Ideal S4x128x128 .f32)
    (h : Fin 4) (d e : Fin 128) : EReal :=
  S (ix3 h d e) * cd (ix3 h 0 e)
    + ∑ i : Fin 128, k (ix2 i ⟨h.val * 128 + d.val, by omega⟩) * kd (ix3 h i d) * v (ix2 i ⟨h.val * 128 + e.val, by omega⟩)

/-- A point's output before its LayerNorm, from the state `S` its run carries. -/
def KO (q k v : FVec Ideal S128x512 .f32) (dec qd S : FVec Ideal S4x128x128 .f32) (h : Fin 4) (i e : Fin 128) : EReal :=
  (∑ j : Fin 128, (∑ d : Fin 128, q (ix2 i ⟨h.val * 128 + d.val, by omega⟩) * k (ix2 j ⟨h.val * 128 + d.val, by omega⟩)) * dec (ix3 h i j)
      * v (ix2 j ⟨h.val * 128 + e.val, by omega⟩))
    + (∑ d : Fin 128, q (ix2 i ⟨h.val * 128 + d.val, by omega⟩) * S (ix3 h d e)) * qd (ix3 h i e)

/-- A point's output. -/
def KG (q k v g : FVec Ideal S128x512 .f32) (dec qd : FVec Ideal S4x128x128 .f32) (gg gb : FVec Ideal S4x1x128 .f32) (S : FVec Ideal S4x128x128 .f32)
    (h : Fin 4) (i e : Fin 128) : EReal :=
  GATED (fun y => KO q k v dec qd S h i y) e (gg (ix3 h 0 e)) (gb (ix3 h 0 e)) (g (ix2 i ⟨h.val * 128 + e.val, by omega⟩))

/-- The state at a point inside its run. -/
theorem state_B (c : Dev nD) (t : Fin cfg0.N) (h0 : ¬t.val % 32 = 0) (h1 : ¬t.val % 32 = 31) (h : Fin 4) (d e : Fin 128) :
    (outsAt0 m c t.val t.isLt).2.2 (ix3 h d e)
      = KS (iblk m c 1 t) (iblk m c 2 t) (iblk m c 6 t) (iblk m c 7 t)
          (outsAt0 m c (t.val - 1) (Nat.lt_of_le_of_lt (Nat.sub_le _ _) t.isLt)).2.2 h d e := by
  rw [outsAt0_B m c t h0 h1]
  frame_out
  try simp only [read_unread_whole]
  generalize (outsAt0 m c (t.val - 1) (Nat.lt_of_le_of_lt (Nat.sub_le _ _) t.isLt)).2.2 = S
  generalize iblk m c 1 t = k
  generalize iblk m c 2 t = v
  generalize iblk m c 6 t = kd
  generalize iblk m c 7 t = cd
  canon_tiles x h
  all_goals
    have hh : h.val = _ := h0
    have hd : d.val = (x 1).val := h1
    have he : e.val = (x 2).val := h2
    obtain rfl : d = x 1 := Fin.ext hd
    obtain rfl : e = x 2 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KS]
    try simp only [Fin.val_zero, Nat.zero_mul, Nat.zero_add]
    try rfl

/-- The state at the first point of its run. -/
theorem state_A (c : Dev nD) (t : Fin cfg0.N) (h0 : t.val % 32 = 0) (h1 : ¬t.val % 32 = 31) (h : Fin 4) (d e : Fin 128) :
    (outsAt0 m c t.val t.isLt).2.2 (ix3 h d e)
      = KS (iblk m c 1 t) (iblk m c 2 t) (iblk m c 6 t) (iblk m c 7 t)
          (fun _ => 0) h d e := by
  rw [outsAt0_A m c t h0 h1]
  frame_open
  simp (disch := decide) only [↓ View.readCov_skip, ↓ View.readCov_fill]
  frame_out
  generalize iblk m c 1 t = k
  generalize iblk m c 2 t = v
  generalize iblk m c 6 t = kd
  generalize iblk m c 7 t = cd
  refine (canon_drop [_] [_, _, _, _] _ (View.cover_of_tiled_head _ _ _ rfl _)).trans ?_
  canon_tiles x h
  all_goals
    have hh : h.val = _ := h0
    have hd : d.val = (x 1).val := h1
    have he : e.val = (x 2).val := h2
    obtain rfl : d = x 1 := Fin.ext hd
    obtain rfl : e = x 2 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KS]
    try simp only [Fin.val_zero, Nat.zero_mul, Nat.zero_add]
    try rfl

/-- The state at the last point of its run. -/
theorem state_C (c : Dev nD) (t : Fin cfg0.N) (h0 : ¬t.val % 32 = 0) (h1 : t.val % 32 = 31) (h : Fin 4) (d e : Fin 128) :
    (outsAt0 m c t.val t.isLt).2.2 (ix3 h d e)
      = KS (iblk m c 1 t) (iblk m c 2 t) (iblk m c 6 t) (iblk m c 7 t)
          (outsAt0 m c (t.val - 1) (Nat.lt_of_le_of_lt (Nat.sub_le _ _) t.isLt)).2.2 h d e := by
  rw [outsAt0_C m c t h0 h1]
  frame_out
  try simp only [read_unread_whole]
  generalize (outsAt0 m c (t.val - 1) (Nat.lt_of_le_of_lt (Nat.sub_le _ _) t.isLt)).2.2 = S
  generalize iblk m c 1 t = k
  generalize iblk m c 2 t = v
  generalize iblk m c 6 t = kd
  generalize iblk m c 7 t = cd
  canon_tiles x h
  all_goals
    have hh : h.val = _ := h0
    have hd : d.val = (x 1).val := h1
    have he : e.val = (x 2).val := h2
    obtain rfl : d = x 1 := Fin.ext hd
    obtain rfl : e = x 2 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KS]
    try simp only [Fin.val_zero, Nat.zero_mul, Nat.zero_add]
    try rfl

set_option maxHeartbeats 1000000 in
/-- The output block at a point inside its run. -/
theorem out_B (c : Dev nD) (t : Fin cfg0.N) (h0 : ¬t.val % 32 = 0) (h1 : ¬t.val % 32 = 31) (h : Fin 4) (i e : Fin 128) :
    (outsAt0 m c t.val t.isLt).1 (ix2 i ⟨h.val * 128 + e.val, by omega⟩)
      = KG (iblk m c 0 t) (iblk m c 1 t) (iblk m c 2 t) (iblk m c 3 t) (iblk m c 4 t) (iblk m c 5 t) (iblk m c 8 t) (iblk m c 9 t)
          (outsAt0 m c (t.val - 1) (Nat.lt_of_le_of_lt (Nat.sub_le _ _) t.isLt)).2.2
          h i e := by
  rw [outsAt0_B m c t h0 h1]
  frame_out
  try simp only [read_unread_whole]
  generalize (outsAt0 m c (t.val - 1) (Nat.lt_of_le_of_lt (Nat.sub_le _ _) t.isLt)).2.2 = S
  generalize iblk m c 0 t = q
  generalize iblk m c 1 t = k
  generalize iblk m c 2 t = v
  generalize iblk m c 3 t = g
  generalize iblk m c 4 t = dec
  generalize iblk m c 5 t = qd
  generalize iblk m c 8 t = gg
  generalize iblk m c 9 t = gb
  canon_tiles x h
  all_goals
    have hl : h.val * 128 + e.val = _ := h1
    obtain rfl : i = x 0 := Fin.ext h0
    have he : e.val = (x 1).val := by omega
    obtain rfl : e = x 1 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KG, KO, GATED]
    simp only [Ideal.logistic]
    try simp only [Fin.val_zero, Nat.zero_mul, Nat.zero_add]
    try rfl

set_option maxHeartbeats 1000000 in
/-- The output block at the first point of its run. -/
theorem out_A (c : Dev nD) (t : Fin cfg0.N) (h0 : t.val % 32 = 0) (h1 : ¬t.val % 32 = 31) (h : Fin 4) (i e : Fin 128) :
    (outsAt0 m c t.val t.isLt).1 (ix2 i ⟨h.val * 128 + e.val, by omega⟩)
      = KG (iblk m c 0 t) (iblk m c 1 t) (iblk m c 2 t) (iblk m c 3 t) (iblk m c 4 t) (iblk m c 5 t) (iblk m c 8 t) (iblk m c 9 t)
          (fun _ => 0)
          h i e := by
  rw [outsAt0_A m c t h0 h1]
  frame_open
  simp (disch := decide) only [↓ View.readCov_skip, ↓ View.readCov_fill]
  frame_out
  generalize iblk m c 0 t = q
  generalize iblk m c 1 t = k
  generalize iblk m c 2 t = v
  generalize iblk m c 3 t = g
  generalize iblk m c 4 t = dec
  generalize iblk m c 5 t = qd
  generalize iblk m c 8 t = gg
  generalize iblk m c 9 t = gb
  canon_tiles x h
  all_goals
    have hl : h.val * 128 + e.val = _ := h1
    obtain rfl : i = x 0 := Fin.ext h0
    have he : e.val = (x 1).val := by omega
    obtain rfl : e = x 1 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KG, KO, GATED]
    simp only [Ideal.logistic]
    try simp only [Fin.val_zero, Nat.zero_mul, Nat.zero_add]
    try rfl

set_option maxHeartbeats 1000000 in
/-- The output block at the last point of its run. -/
theorem out_C (c : Dev nD) (t : Fin cfg0.N) (h0 : ¬t.val % 32 = 0) (h1 : t.val % 32 = 31) (h : Fin 4) (i e : Fin 128) :
    (outsAt0 m c t.val t.isLt).1 (ix2 i ⟨h.val * 128 + e.val, by omega⟩)
      = KG (iblk m c 0 t) (iblk m c 1 t) (iblk m c 2 t) (iblk m c 3 t) (iblk m c 4 t) (iblk m c 5 t) (iblk m c 8 t) (iblk m c 9 t)
          (outsAt0 m c (t.val - 1) (Nat.lt_of_le_of_lt (Nat.sub_le _ _) t.isLt)).2.2
          h i e := by
  rw [outsAt0_C m c t h0 h1]
  frame_out
  try simp only [read_unread_whole]
  generalize (outsAt0 m c (t.val - 1) (Nat.lt_of_le_of_lt (Nat.sub_le _ _) t.isLt)).2.2 = S
  generalize iblk m c 0 t = q
  generalize iblk m c 1 t = k
  generalize iblk m c 2 t = v
  generalize iblk m c 3 t = g
  generalize iblk m c 4 t = dec
  generalize iblk m c 5 t = qd
  generalize iblk m c 8 t = gg
  generalize iblk m c 9 t = gb
  canon_tiles x h
  all_goals
    have hl : h.val * 128 + e.val = _ := h1
    obtain rfl : i = x 0 := Fin.ext h0
    have he : e.val = (x 1).val := by omega
    obtain rfl : e = x 1 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KG, KO, GATED]
    simp only [Ideal.logistic]
    try simp only [Fin.val_zero, Nat.zero_mul, Nat.zero_add]
    try rfl

/-- The last point of a run stores the state it leaves. -/
theorem stored_C (c : Dev nD) (t : Fin cfg0.N) (h0 : ¬t.val % 32 = 0) (h1 : t.val % 32 = 31) (h : Fin 4) (d e : Fin 128) :
    (outsAt0 m c t.val t.isLt).2.1 (ix4 0 h d e) = (outsAt0 m c t.val t.isLt).2.2 (ix3 h d e) := by
  rw [outsAt0_C m c t h0 h1]
  frame_out
  simp only [read_unread_whole]
  generalize (outsAt0 m c (t.val - 1) (Nat.lt_of_le_of_lt (Nat.sub_le _ _) t.isLt)).2.2 = S
  rw [View.readCov_eq_canon']
  pointwise [k0_pay3]

end Cert.KernelIdeal.Ret

end
-- ==== Proof.RetTables.lean ====
/- The tables of the retention kernel that its host computes: they are the reference's scalars by head and place. -/
module

public import proofs.«01_k».proof.Proof.RetKernel
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen Cert.KernelIdeal.Value
open Cert.ReferenceIdeal.Ret (LG CD KD QD DEC)

variable (m : (ℓ : Loc nD τ sig) → Buf (Elt Ideal) ℓ)

/-- The f32 pattern of a chunk's length. -/
theorem bits_chunk : Ideal.ofBits FTy.f32 0x43000000#32 = ((128 : ℝ) : EReal) := by
  simp [Ideal.ofBits, Ideal.ieee, -EReal.coe_mul]; norm_num

/-- A place in a chunk comes before the chunk's end. -/
theorem place_lt (k : Fin 128) : FloatOps.sitofp (F := Ideal) FTy.f32 (BitVec.ofNat 32 k.val) < Ideal.ofBits FTy.f32 0x43000000#32 := by
  rw [bits_chunk]
  show ((((BitVec.ofNat 32 k.val).toInt : ℤ) : ℝ) : EReal) < ((128 : ℝ) : EReal)
  have hk : (BitVec.ofNat 32 k.val).toInt < 128 := (by decide +kernel : ∀ k : Fin 128, (BitVec.ofNat 32 k.val).toInt < 128) k
  exact EReal.coe_lt_coe_iff.mpr (by exact_mod_cast hk)

/-- The decay over a chunk. -/
theorem tab_cd (c : Dev nD) (h : Fin 8) (e : Fin 128) : (V m c main_v55 : FVec Ideal S8x1x128 .f32) (ix3 h 0 e) = CD h := by
  simp only [V, hostOps0, hostOps0_1, hostOps0_2, hostOps0_3, hostOps0_4, List.flatten_cons, List.flatten_nil, List.append_nil, List.cons_append,
    List.nil_append]
  after_reads_simp
  pointwise [CD, LG]

/-- The decay of a key to its chunk's end; the mask on the places is true at every place. -/
theorem tab_kd (c : Dev nD) (h : Fin 8) (k l : Fin 128) : (V m c main_v52 : FVec Ideal S8x128x128 .f32) (ix3 h k l) = KD k h := by
  simp only [V, hostOps0, hostOps0_1, hostOps0_2, hostOps0_3, hostOps0_4, List.flatten_cons, List.flatten_nil, List.append_nil, List.cons_append,
    List.nil_append]
  after_reads_simp
  simp only [StableHlo.TRef.ofBuf_toBuf]
  simp only [StableHlo.TRef.ofBuf, StableHlo.TRef.toBuf, id, cast_eq]
  pointwise [KD, LG]
  exact if_pos (place_lt k)

/-- The decay of the entering state for a query. -/
theorem tab_qd (c : Dev nD) (h : Fin 8) (k l : Fin 128) : (V m c main_v50 : FVec Ideal S8x128x128 .f32) (ix3 h k l) = QD k h := by
  simp only [V, hostOps0, hostOps0_1, hostOps0_2, hostOps0_3, hostOps0_4, List.flatten_cons, List.flatten_nil, List.append_nil, List.cons_append,
    List.nil_append]
  after_reads_simp
  pointwise [QD, LG]

/-- The decay between two places. -/
theorem tab_dec (c : Dev nD) (h : Fin 8) (i k : Fin 128) : (V m c main_v25 : FVec Ideal S8x128x128 .f32) (ix3 h i k) = DEC h i k := by
  simp only [V, hostOps0, hostOps0_1, hostOps0_2, hostOps0_3, hostOps0_4, List.flatten_cons, List.flatten_nil, List.append_nil, List.cons_append,
    List.nil_append]
  after_reads_simp
  simp only [StableHlo.TRef.ofBuf_toBuf]
  simp only [StableHlo.TRef.ofBuf, StableHlo.TRef.toBuf, id, cast_eq]
  pointwise [DEC, LG]

end Cert.KernelIdeal.Ret

end
-- ==== Proof.RetRun.lean ====
/- The run of the retention reference: what its loop leaves is the chunk step iterated from the initial state. -/
module

public import proofs.«01_k».proof.Proof.Gen.ReferenceIdeal.Run
public import proofs.«01_k».proof.Proof.Gen.ReferenceIdeal.Step

@[expose] public section

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State init)

variable {F : FTy → Type} [FloatOps F]

/-- The buffers before trip `j` hold the state `s` and the trip's number. -/
structure Carries (V : Valuation τ sig (Elt F)) (s : State F) (j : ℕ) : Prop where
  queries : V (Proc.devRef .tc main_v11_0) = s.main_v11_0
  keys : V (Proc.devRef .tc main_v11_1) = s.main_v11_1
  values : V (Proc.devRef .tc main_v11_2) = s.main_v11_2
  trip : V (Proc.devRef .tc main_v11_3) = constantI S_ 32 (BitVec.ofNat 32 j)
  state : V (Proc.devRef .tc main_v11_4) = s.main_v11_4
  outs : V (Proc.devRef .tc main_v11_5) = s.main_v11_5

variable {V : Valuation τ sig (Elt F)} {s : State F} {j : ℕ}

theorem q_chunk (h : Carries V s j) : res_main_while0b_v44 V = Step.b5 j s := by
  unfold res_main_while0b_v44; rw [h.queries, h.trip]; rfl

theorem k_chunk (h : Carries V s j) : res_main_while0b_v45 V = Step.b11 j s := by
  unfold res_main_while0b_v45; rw [h.keys, h.trip]; rfl

theorem v_chunk (h : Carries V s j) : res_main_while0b_v46 V = Step.b17 j s := by
  unfold res_main_while0b_v46; rw [h.values, h.trip]; rfl

theorem log_chunk : res_main_while0b_v55 V = Step.b29 j s := by
  unfold res_main_while0b_v55; rfl

theorem place_chunk : res_main_while0b_v56 V = Step.b30 j s := by
  unfold res_main_while0b_v56; rfl

theorem diff_chunk : res_main_while0b_v61 V = Step.b35 j s := by
  unfold res_main_while0b_v61; rw [place_chunk (j := j) (s := s)]; rfl

set_option maxRecDepth 8192 in
theorem new_state (h : Carries V s j) : Value.step_main_v11_4 V = Step.b94 j s := by
  unfold Value.step_main_v11_4
  rw [k_chunk h, v_chunk h, log_chunk (j := j) (s := s), place_chunk (j := j) (s := s), h.state]
  rfl

set_option maxRecDepth 8192 in
theorem new_outs (h : Carries V s j) : Value.step_main_v11_5 V = Step.b100 j s := by
  unfold Value.step_main_v11_5
  rw [q_chunk h, k_chunk h, v_chunk h, diff_chunk (j := j) (s := s), log_chunk (j := j) (s := s), place_chunk (j := j) (s := s), h.state, h.outs, h.trip]
  rfl

theorem new_trip (h : Carries V s j) : step_main_v11_3 V = constantI S_ 32 (BitVec.ofNat 32 (j + 1)) := by
  unfold step_main_v11_3
  rw [h.trip]
  funext i
  show BitVec.ofNat 32 j + 1#32 = BitVec.ofNat 32 (j + 1)
  simp only [BitVec.ofNat_add]

/-- A trip carries on. -/
theorem Carries.next (h : Carries V s j) : Carries (STEP V) (Step.step j s) (j + 1) where
  queries := (STEP_main_v11_0 V).trans h.queries
  keys := (STEP_main_v11_1 V).trans h.keys
  values := (STEP_main_v11_2 V).trans h.values
  trip := (STEP_main_v11_3 V).trans (new_trip h)
  state := (STEP_main_v11_4 V).trans (new_state h)
  outs := (STEP_main_v11_5 V).trans (new_outs h)

variable (m : (ℓ : Loc nD τ sig) → Buf (Elt F) ℓ) (c : Dev nD)

set_option maxRecDepth 65536 in
set_option maxHeartbeats 300000 in
/-- What stands in the buffers when the loop begins. -/
theorem carries_start : Carries (entryContents preI m c) (init (m ((c.tc : Thread nD τ).loc main_arg0))) 0 := by
  constructor <;> (simp only [entryContents, afterL_cons, afterL_nil]; after_reads_simp) <;> rfl

/-- What stands in the buffers before the `k`-th trip, for any sequence of states that goes on by the chunk step. -/
theorem carries_iter (it : ℕ → State F) (h0 : it 0 = init (m ((c.tc : Thread nD τ).loc main_arg0))) (hs : ∀ n, it (n + 1) = Step.step n (it n)) :
    ∀ k, Carries (STEP^[k] (entryContents preI m c)) (it k) k
  | 0 => h0 ▸ carries_start m c
  | k + 1 => by
    rw [Function.iterate_succ_apply', hs k]
    exact (carries_iter it h0 hs k).next

set_option maxRecDepth 8192 in
/-- The first result, of the state that the loop leaves. -/
theorem out_of (h : Carries V s j) (x0 : (⟨S9216x5120, .f32⟩ : BufTy).Contents (Elt F)) (x1 x2 : (⟨S8x128, .f32⟩ : BufTy).Contents (Elt F))
    (h0 : V (Proc.devRef .tc main_arg0) = x0) (h1 : V (Proc.devRef .tc main_arg1) = x1) (h2 : V (Proc.devRef .tc main_arg2) = x2) :
    out_main_v43 V = Step.R_main_v43 s x0 x1 x2 := by
  unfold out_main_v43 Step.R_main_v43
  rw [h.outs, h0, h1, h2]
  try rfl

/-- Every run of the reference ends with its two results read off the state after 32 chunks, and its arguments unchanged. -/
theorem run_states (ρ : Dev nD → PrngReg) (it : Dev nD → ℕ → State F) (h0 : ∀ c, it c 0 = init (m ((c.tc : Thread nD τ).loc main_arg0)))
    (hs : ∀ c n, it c (n + 1) = Step.step n (it c n)) :
    θ_run (defs (F := F)) (onTc (τ := τ) (main (F := F))) ⟨m, fun _ => 0, ρ⟩ fun r => ∀ c : Dev nD,
      r.2.mem ((c.tc : Thread nD τ).loc main_v43)
          = Step.R_main_v43 (it c 32) (m ((c.tc : Thread nD τ).loc main_arg0)) (m ((c.tc : Thread nD τ).loc main_arg1)) (m ((c.tc : Thread nD τ).loc main_arg2))
      ∧ r.2.mem ((c.tc : Thread nD τ).loc main_v11_4) = (it c 32).main_v11_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := carries_iter m c (it c) (h0 c) (hs c) 32
    ⟨(h c).1.trans (out_of hk _ _ _ (iter_main_arg0 m c 32) (iter_main_arg1 m c 32) (iter_main_arg2 m c 32)),
      (h c).2.1.trans hk.state, (h c).2.2⟩) (Value.run m ρ)

end Cert.ReferenceIdeal.Ret

end
-- ==== Proof.Ret.lean ====
/- Retention over the prompt: after every point the kernel's scratch is the reference's state after the same chunk, and its
   output block is the reference's output of that chunk; the two result arrays follow. -/
module

public import proofs.«01_k».proof.Defs
public import proofs.«01_k».proof.Proof.RetTables
public import proofs.«01_k».proof.Proof.RetRun

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen Cert.KernelIdeal.Value
open Cert.ReferenceIdeal.Ret (ST OUT GATED CD KD QD DEC refIter)

variable (m : (ℓ : Loc nD τ sig) → Buf (Elt Ideal) ℓ)

/-- The blocks' positions: batch row `t / 64`, head group `t / 32 % 2`, chunk `t % 32`. -/
theorem idx : ∀ t : Fin cfg0.N, win0_0.index t = ![t.val / 64 * 32 + t.val % 32, t.val / 32 % 2]
    ∧ win0_1.index t = ![t.val / 64 * 32 + t.val % 32, 2 + t.val / 32 % 2]
    ∧ win0_2.index t = ![t.val / 64 * 32 + t.val % 32, 4 + t.val / 32 % 2]
    ∧ win0_3.index t = ![t.val / 64 * 32 + t.val % 32, 6 + t.val / 32 % 2]
    ∧ win0_4.index t = ![t.val / 32 % 2, 0, 0] ∧ win0_5.index t = ![t.val / 32 % 2, 0, 0]
    ∧ win0_6.index t = ![t.val / 32 % 2, 0, 0] ∧ win0_7.index t = ![t.val / 32 % 2, 0, 0]
    ∧ win0_8.index t = ![t.val / 32 % 2, 0, 0] ∧ win0_9.index t = ![t.val / 32 % 2, 0, 0]
    ∧ win0_10.index t = ![t.val / 64 * 32 + t.val % 32, t.val / 32 % 2]
    ∧ win0_11.index t = ![t.val / 64, t.val / 32 % 2, 0, 0] :=
  (by decide +kernel : ∀ t : Fin grid0.N, _)

theorem pt_lt (t : Fin cfg0.N) : t.val < 128 := t.isLt

/-- A point's batch row, -/
def bat (t : Fin cfg0.N) : Fin 2 := ⟨t.val / 64, by have := pt_lt t; omega⟩

/-- its chunk, -/
def chk (t : Fin cfg0.N) : Fin 32 := ⟨t.val % 32, by omega⟩

/-- and the head its block's head `h` is. -/
def hd (t : Fin cfg0.N) (h : Fin 4) : Fin 8 := ⟨t.val / 32 % 2 * 4 + h.val, by omega⟩

/-- The argument the projections arrive in. -/
abbrev X (c : Dev nD) : FVec Ideal S9216x5120 .f32 := m ((c : Thread nD τ).loc main_arg0)

theorem blk_q (c : Dev nD) (t : Fin cfg0.N) (i : Fin 128) (h : Fin 4) (d : Fin 128) :
    (iblk m c 0 t : FVec Ideal S128x512 .f32) (ix2 i ⟨h.val * 128 + d.val, by omega⟩)
      = Cert.ReferenceIdeal.Step.A_main_v5 (F := Ideal) (X m c) (ix5 (chk t) (bat t) i (hd t h) d) := by
  have := pt_lt t
  rw [Cert.ReferenceIdeal.Ret.q_arg]
  simp only [bat, chk, hd]
  blk_point [iblk, V, idx t]

theorem blk_k (c : Dev nD) (t : Fin cfg0.N) (i : Fin 128) (h : Fin 4) (d : Fin 128) :
    (iblk m c 1 t : FVec Ideal S128x512 .f32) (ix2 i ⟨h.val * 128 + d.val, by omega⟩)
      = Cert.ReferenceIdeal.Step.A_main_v7 (F := Ideal) (X m c) (ix5 (chk t) (bat t) i (hd t h) d) := by
  have := pt_lt t
  rw [Cert.ReferenceIdeal.Ret.k_arg]
  simp only [bat, chk, hd]
  blk_point [iblk, V, idx t]

theorem blk_v (c : Dev nD) (t : Fin cfg0.N) (i : Fin 128) (h : Fin 4) (d : Fin 128) :
    (iblk m c 2 t : FVec Ideal S128x512 .f32) (ix2 i ⟨h.val * 128 + d.val, by omega⟩)
      = Cert.ReferenceIdeal.Step.A_main_v9 (F := Ideal) (X m c) (ix5 (chk t) (bat t) i (hd t h) d) := by
  have := pt_lt t
  rw [Cert.ReferenceIdeal.Ret.v_arg]
  simp only [bat, chk, hd]
  blk_point [iblk, V, idx t]

theorem blk_dec (c : Dev nD) (t : Fin cfg0.N) (h : Fin 4) (i k : Fin 128) :
    (iblk m c 4 t : FVec Ideal S4x128x128 .f32) (ix3 h i k) = DEC (hd t h) i k := by
  rw [← tab_dec m c (hd t h) i k]
  simp only [hd]
  blk_point [iblk, idx t]

theorem blk_qd (c : Dev nD) (t : Fin cfg0.N) (h : Fin 4) (i e : Fin 128) :
    (iblk m c 5 t : FVec Ideal S4x128x128 .f32) (ix3 h i e) = QD i (hd t h) := by
  rw [← tab_qd m c (hd t h) i e]
  simp only [hd]
  blk_point [iblk, idx t]

theorem blk_kd (c : Dev nD) (t : Fin cfg0.N) (h : Fin 4) (i d : Fin 128) :
    (iblk m c 6 t : FVec Ideal S4x128x128 .f32) (ix3 h i d) = KD i (hd t h) := by
  rw [← tab_kd m c (hd t h) i d]
  simp only [hd]
  blk_point [iblk, idx t]

theorem blk_cd (c : Dev nD) (t : Fin cfg0.N) (h : Fin 4) (e : Fin 128) :
    (iblk m c 7 t : FVec Ideal S4x1x128 .f32) (ix3 h 0 e) = CD (hd t h) := by
  rw [← tab_cd m c (hd t h) e]
  simp only [hd]
  blk_point [iblk, idx t]

/-- The LayerNorm's gain and bias as the kernel's host lays them out. -/
theorem blk_gg (c : Dev nD) (t : Fin cfg0.N) (h : Fin 4) (e : Fin 128) :
    (iblk m c 8 t : FVec Ideal S4x1x128 .f32) (ix3 h 0 e)
      = (m ((c : Thread nD τ).loc main_arg1) : FVec Ideal S8x128 .f32) (ix2 (hd t h) e) := by
  have hV : (V m c main_v56 : FVec Ideal S8x1x128 .f32) (ix3 (hd t h) 0 e)
      = (m ((c : Thread nD τ).loc main_arg1) : FVec Ideal S8x128 .f32) (ix2 (hd t h) e) := by
    simp only [V, hostOps0, hostOps0_1, hostOps0_2, hostOps0_3, hostOps0_4, List.flatten_cons, List.flatten_nil, List.append_nil, List.cons_append,
      List.nil_append]
    after_reads_simp
    pointwise
  rw [← hV]
  simp only [hd]
  blk_point [iblk, idx t]

theorem blk_gb (c : Dev nD) (t : Fin cfg0.N) (h : Fin 4) (e : Fin 128) :
    (iblk m c 9 t : FVec Ideal S4x1x128 .f32) (ix3 h 0 e)
      = (m ((c : Thread nD τ).loc main_arg2) : FVec Ideal S8x128 .f32) (ix2 (hd t h) e) := by
  have hV : (V m c main_v57 : FVec Ideal S8x1x128 .f32) (ix3 (hd t h) 0 e)
      = (m ((c : Thread nD τ).loc main_arg2) : FVec Ideal S8x128 .f32) (ix2 (hd t h) e) := by
    simp only [V, hostOps0, hostOps0_1, hostOps0_2, hostOps0_3, hostOps0_4, List.flatten_cons, List.flatten_nil, List.append_nil, List.cons_append,
      List.nil_append]
    after_reads_simp
    pointwise
  rw [← hV]
  simp only [hd]
  blk_point [iblk, idx t]

/-- A point's update of the state is the reference's. -/
theorem ks_eq (c : Dev nD) (t : Fin cfg0.N) (S : FVec Ideal S4x128x128 .f32)
    (hS : ∀ h d e, S (ix3 h d e) = ST (X m c) (chk t).val (bat t) (hd t h) d e) (h : Fin 4) (d e : Fin 128) :
    KS (iblk m c 1 t) (iblk m c 2 t) (iblk m c 6 t) (iblk m c 7 t) S h d e = ST (X m c) ((chk t).val + 1) (bat t) (hd t h) d e := by
  rw [KS, Cert.ReferenceIdeal.Ret.st_succ _ _ (chk t).isLt, hS, blk_cd]
  refine congrArg _ (Finset.sum_congr rfl fun i _ => ?_)
  rw [blk_k, blk_v, blk_kd]

/-- A point's output before its LayerNorm is the reference's. -/
theorem ko_eq (c : Dev nD) (t : Fin cfg0.N) (S : FVec Ideal S4x128x128 .f32)
    (hS : ∀ h d e, S (ix3 h d e) = ST (X m c) (chk t).val (bat t) (hd t h) d e) (h : Fin 4) (i e : Fin 128) :
    KO (iblk m c 0 t) (iblk m c 1 t) (iblk m c 2 t) (iblk m c 4 t) (iblk m c 5 t) S h i e = OUT (X m c) (chk t) (bat t) i (hd t h) e := by
  rw [KO, OUT, blk_qd]
  refine congrArg₂ (· + ·) ?_ ?_
  · refine Finset.sum_congr rfl fun j _ => ?_
    rw [blk_v, blk_dec, mul_comm]
    refine congrArg _ (congrArg (· * _) (Finset.sum_congr rfl fun d _ => ?_))
    rw [blk_q, blk_k]
  · refine congrArg (· * _) (Finset.sum_congr rfl fun d _ => ?_)
    rw [blk_q, hS, mul_comm]

theorem st_congr (x : FVec Ideal S9216x5120 .f32) {n n' : ℕ} {b b' : Fin 2} {h h' : Fin 8} (d e : Fin 128) (hn : n = n') (hb : b.val = b'.val)
    (hh : h.val = h'.val) : ST x n b h d e = ST x n' b' h' d e := by
  subst hn
  rw [Fin.ext hb, Fin.ext hh]

/-- After every point the scratch holds the reference's state after the point's chunk. -/
theorem scratch (c : Dev nD) : ∀ (n : ℕ) (hn : n < cfg0.N) (h : Fin 4) (d e : Fin 128),
    (outsAt0 m c n hn).2.2 (ix3 h d e) = ST (X m c) (n % 32 + 1) (bat ⟨n, hn⟩) (hd ⟨n, hn⟩ h) d e := by
  intro n
  induction n with
  | zero =>
    intro hn h d e
    rw [state_A m c ⟨0, hn⟩ rfl (show ¬0 % 32 = 31 by decide)]
    exact ks_eq m c ⟨0, hn⟩ _ (fun h d e => (Cert.ReferenceIdeal.Ret.st_zero _ _ _ _ _).symm) h d e
  | succ n ih =>
    intro hn h d e
    by_cases h0 : (n + 1) % 32 = 0
    · rw [state_A m c ⟨n + 1, hn⟩ h0 (by show ¬(n + 1) % 32 = 31; omega)]
      refine ks_eq m c ⟨n + 1, hn⟩ _ (fun h d e => ?_) h d e
      rw [show (chk ⟨n + 1, hn⟩).val = 0 from h0]
      exact (Cert.ReferenceIdeal.Ret.st_zero _ _ _ _ _).symm
    · have hS : ∀ h d e, (outsAt0 m c n (Nat.lt_of_succ_lt hn)).2.2 (ix3 h d e)
          = ST (X m c) (chk ⟨n + 1, hn⟩).val (bat ⟨n + 1, hn⟩) (hd ⟨n + 1, hn⟩ h) d e := fun h d e =>
        (ih (Nat.lt_of_succ_lt hn) h d e).trans (st_congr _ d e (by show n % 32 + 1 = (n + 1) % 32; omega)
          (by show n / 64 = (n + 1) / 64; omega) (by show n / 32 % 2 * 4 + h.val = (n + 1) / 32 % 2 * 4 + h.val; omega))
      by_cases h1 : (n + 1) % 32 = 31
      · rw [state_C m c ⟨n + 1, hn⟩ h0 h1]
        exact ks_eq m c ⟨n + 1, hn⟩ _ hS h d e
      · rw [state_B m c ⟨n + 1, hn⟩ h0 h1]
        exact ks_eq m c ⟨n + 1, hn⟩ _ hS h d e

/-- What a point that does not start a run finds in the scratch. -/
theorem entering (c : Dev nD) (t : Fin cfg0.N) (h0 : ¬t.val % 32 = 0) (h : Fin 4) (d e : Fin 128) :
    (outsAt0 m c (t.val - 1) (Nat.lt_of_le_of_lt (Nat.sub_le _ _) t.isLt)).2.2 (ix3 h d e)
      = ST (X m c) (chk t).val (bat t) (hd t h) d e :=
  (scratch m c (t.val - 1) _ h d e).trans (st_congr _ d e (by show (t.val - 1) % 32 + 1 = t.val % 32; omega)
    (by show (t.val - 1) / 64 = t.val / 64; omega) (by show (t.val - 1) / 32 % 2 * 4 + h.val = t.val / 32 % 2 * 4 + h.val; omega))

/-- A point's gated output. -/
theorem kg_eq (c : Dev nD) (t : Fin cfg0.N) (S : FVec Ideal S4x128x128 .f32)
    (hS : ∀ h d e, S (ix3 h d e) = ST (X m c) (chk t).val (bat t) (hd t h) d e) (h : Fin 4) (i e : Fin 128) :
    KG (iblk m c 0 t) (iblk m c 1 t) (iblk m c 2 t) (iblk m c 3 t) (iblk m c 4 t) (iblk m c 5 t) (iblk m c 8 t) (iblk m c 9 t) S h i e
      = GATED (fun y => OUT (X m c) (chk t) (bat t) i (hd t h) y) e
          ((m ((c : Thread nD τ).loc main_arg1) : FVec Ideal S8x128 .f32) (ix2 (hd t h) e))
          ((m ((c : Thread nD τ).loc main_arg2) : FVec Ideal S8x128 .f32) (ix2 (hd t h) e))
          ((iblk m c 3 t : FVec Ideal S128x512 .f32) (ix2 i ⟨h.val * 128 + e.val, by omega⟩)) := by
  rw [KG, blk_gg, blk_gb]
  refine congrArg (fun f => GATED f e _ _ _) (funext fun y => ?_)
  exact ko_eq m c t S hS h i y

/-- The output block at every point. -/
theorem out (c : Dev nD) (t : Fin cfg0.N) (h : Fin 4) (i e : Fin 128) :
    (outsAt0 m c t.val t.isLt).1 (ix2 i ⟨h.val * 128 + e.val, by omega⟩)
      = GATED (fun y => OUT (X m c) (chk t) (bat t) i (hd t h) y) e
          ((m ((c : Thread nD τ).loc main_arg1) : FVec Ideal S8x128 .f32) (ix2 (hd t h) e))
          ((m ((c : Thread nD τ).loc main_arg2) : FVec Ideal S8x128 .f32) (ix2 (hd t h) e))
          ((iblk m c 3 t : FVec Ideal S128x512 .f32) (ix2 i ⟨h.val * 128 + e.val, by omega⟩)) := by
  by_cases h0 : t.val % 32 = 0
  · rw [out_A m c t h0 (by omega)]
    refine kg_eq m c t _ (fun h d e => ?_) h i e
    rw [show (chk t).val = 0 from h0]
    exact (Cert.ReferenceIdeal.Ret.st_zero _ _ _ _ _).symm
  · by_cases h1 : t.val % 32 = 31
    · rw [out_C m c t h0 h1]
      exact kg_eq m c t _ (entering m c t h0) h i e
    · rw [out_B m c t h0 h1]
      exact kg_eq m c t _ (entering m c t h0) h i e

theorem lane_lt (h : Fin 4) (e : Fin 128) : h.val * 128 + e.val < 512 := by omega

/-- The reference's output at the place of a block's element. -/
theorem ref_place (x0 : FVec Ideal S9216x5120 .f32) (x1 x2 : FVec Ideal S8x128 .f32) (n : Fin 32) (b : Fin 2) (i : Fin 128) (h : Fin 8) (e : Fin 128) :
    Cert.ReferenceIdeal.Step.R_main_v43 (F := Ideal) (refIter x0 32) x0 x1 x2
        (ix2 ⟨b.val * 4096 + n.val * 128 + i.val, by omega⟩ ⟨h.val * 128 + e.val, by omega⟩)
      = GATED (fun y => OUT x0 n b i h y) e (x1 (ix2 h e)) (x2 (ix2 h e))
          (x0 (ix2 ⟨b.val * 4096 + n.val * 128 + i.val, by omega⟩ ⟨3072 + (h.val * 128 + e.val), by omega⟩)) := by
  rw [Cert.ReferenceIdeal.Ret.out_at]
  have e1 : (⟨(b.val * 4096 + n.val * 128 + i.val) % 4096 / 128, by omega⟩ : Fin 32) = n := Fin.ext (by show (b.val * 4096 + n.val * 128 + i.val) % 4096 / 128 = n.val; omega)
  have e2 : (⟨(b.val * 4096 + n.val * 128 + i.val) / 4096, by omega⟩ : Fin 2) = b := Fin.ext (by show (b.val * 4096 + n.val * 128 + i.val) / 4096 = b.val; omega)
  have e3 : (⟨(b.val * 4096 + n.val * 128 + i.val) % 4096 % 128, by omega⟩ : Fin 128) = i := Fin.ext (by show (b.val * 4096 + n.val * 128 + i.val) % 4096 % 128 = i.val; omega)
  have e4 : (⟨(h.val * 128 + e.val) / 128, by omega⟩ : Fin 8) = h := Fin.ext (by show (h.val * 128 + e.val) / 128 = h.val; omega)
  have e5 : (⟨(h.val * 128 + e.val) % 128, by omega⟩ : Fin 128) = e := Fin.ext (by show (h.val * 128 + e.val) % 128 = e.val; omega)
  simp only [e1, e2, e3, e4, e5]

/-- The output array after the run is the reference's. -/
theorem final_out (c : Dev nD) : (dats m 0 c).arrAt 10 cfg0.N
    = Cert.ReferenceIdeal.Step.R_main_v43 (F := Ideal) (refIter (X m c) 32) (X m c) (m ((c : Thread nD τ).loc main_arg1))
        (m ((c : Thread nD τ).loc main_arg2)) := by
  refine (dats m 0 c).arrAt_eq_of_covers 10 _ (by decide +kernel) fun t hf y => ?_
  have ht := pt_lt t
  have hy0 : (y 0).val < 128 := (y 0).isLt
  have hy1 : (y 1).val < 512 := (y 1).isLt
  obtain ⟨h, e, i, hy⟩ : ∃ (h : Fin 4) (e : Fin 128) (i : Fin 128), y = ix2 i ⟨h.val * 128 + e.val, lane_lt h e⟩ := by
    refine ⟨⟨(y 1).val / 128, by omega⟩, ⟨(y 1).val % 128, by omega⟩, ⟨(y 0).val, hy0⟩, ?_⟩
    funext a
    match a with
    | 0 => rfl
    | 1 => exact Fin.ext (by show (y 1).val = (y 1).val / 128 * 128 + (y 1).val % 128; omega)
  rw [show ((cfg0.win 10).blk t).view.emb y
      = ix2 ⟨(bat t).val * 4096 + (chk t).val * 128 + i.val, by omega⟩ ⟨(hd t h).val * 128 + e.val, by omega⟩ by
    rw [hy]
    simp only [bat, chk, hd]
    blk_ext [idx t]]
  rw [ref_place]
  blk_simp
  rw [after0_10, hy]
  refine (out m c t h i e).trans (congrArg (GATED _ e _ _) ?_)
  simp only [bat, chk, hd]
  blk_point [iblk, V, idx t]

/-- The states' array after the run is the reference's last state. -/
theorem final_state (c : Dev nD) : (dats m 0 c).arrAt 11 cfg0.N = (refIter (X m c) 32).main_v11_4 := by
  refine (dats m 0 c).arrAt_eq_of_covers 11 _ (by decide +kernel) fun t hf y => ?_
  have ht := pt_lt t
  have h1 : t.val % 32 = 31 := (flush0_11 t).mp hf
  obtain ⟨h, d, e, hy⟩ : ∃ (h : Fin 4) (d e : Fin 128), y = ix4 0 h d e := by
    refine ⟨y 1, y 2, y 3, ?_⟩
    funext a
    match a with
    | 0 => exact Subsingleton.elim (α := Fin 1) _ _
    | 1 => rfl
    | 2 => rfl
    | 3 => rfl
  rw [show ((cfg0.win 11).blk t).view.emb y = ix4 (bat t) (hd t h) d e by
    rw [hy]
    simp only [bat, hd]
    blk_ext [idx t]]
  blk_simp
  rw [after0_11, hy]
  refine (stored_C m c t (by omega) h1 h d e).trans ((scratch m c t.val t.isLt h d e).trans ?_)
  exact st_congr _ d e (by show t.val % 32 + 1 = 32; omega) rfl rfl

end Cert.KernelIdeal.Ret

namespace Cert.Proof

/-- At `Ideal` the retention kernel's results and the reference's agree. -/
theorem ret_algebraic : Cert.algebraic_KernelIdeal_ReferenceIdeal := by
  pair_intro
  · run_from Cert.KernelIdeal.Value.run_blocks m g
  · refine (θ_run Cert.ReferenceIdeal.defs _ _).mono (fun r h c => ⟨(h c).1.trans ?_, (h c).2.1.trans ?_, (h c).2.2⟩)
      (Cert.ReferenceIdeal.Ret.run_states (F := Ideal) m' g'
        (fun c => Cert.ReferenceIdeal.Ret.refIter (m' (c.tc.loc Cert.ReferenceIdeal.main_arg0))) (fun _ => rfl) (fun _ _ => rfl))
    · obtain ⟨h0, h1, h2⟩ := hagree c
      rw [Cert.KernelIdeal.Ret.final_out m c, h0, h1, h2]
    · obtain ⟨h0, h1, h2⟩ := hagree c
      rw [Cert.KernelIdeal.Ret.final_state m c, h0]

end Cert.Proof

end
-- ==== Proof.FfnBlocks.lean ====
/- The FFN half step, block by block: what the two scratches of the kernel hold.
   A row block of `x` is cast to bf16 at the first of its eleven column tiles and held; over the reals the cast is the
   identity. The second scratch is zeroed there and gathers the eleven tiles' contributions to the down product. -/
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Kernel2Ideal.Value

variable (m : (ℓ : Loc nD τ sig) → Buf (Elt Ideal) ℓ)

/-- The blocks' positions at every point: row block `t / 11`, tile `t % 11` of the hidden axis, layer 1, half 1. -/
theorem idx : ∀ t : Fin cfg0.N, win0_0.index t = ![t.val / 11, 0] ∧ win0_1.index t = ![1, 1, 0, t.val % 11]
    ∧ win0_2.index t = ![1, 1, 0, t.val % 11] ∧ win0_3.index t = ![1, 1, t.val % 11, 0]
    ∧ win0_4.index t = ![0, 0] ∧ win0_5.index t = ![0, 0] ∧ win0_6.index t = ![t.val / 11, 0] :=
  (by decide +kernel : ∀ t : Fin grid0.N, _)

/-- The first scratch at every point holds the bf16 row block of the point's run. -/
theorem held_run (c : Dev nD) (t : Fin cfg0.N) (j : S768x2048.Idx) :
    (outsAt0 m c t.val t.isLt).2.1 j = k0_pay1 (F := Ideal) (iblk m c 0 ⟨11 * (t.val / 11), Pipeline.run_start_lt t⟩) j :=
  Pipeline.eq_of_write_hold_apply (fun n h => (outsAt0 m c n h).2.1) 11 (fun t j => k0_pay1 (F := Ideal) (iblk m c 0 t) j)
    (fun t h j => by rw [outsAt0_A m c t h (by omega)]; frame_out)
    (fun t h j => by
      by_cases h1 : t.val % 11 = 10
      · rw [outsAt0_C m c t h h1]; rfl
      · rw [outsAt0_B m c t h h1]; rfl) t j

/-- What a point that does not start a run finds in the first scratch: its own row block. -/
theorem held (c : Dev nD) (t : Fin cfg0.N) (h : ¬t.val % 11 = 0) :
    (outsAt0 m c (t.val - 1) (Nat.lt_of_le_of_lt (Nat.sub_le _ _) t.isLt)).2.1 = k0_pay1 (F := Ideal) (iblk m c 0 t) := by
  funext j
  rw [held_run m c ⟨t.val - 1, Nat.lt_of_le_of_lt (Nat.sub_le _ _) t.isLt⟩ j]
  pointwise [k0_pay1]
  blk_point [iblk, V, idx t, idx ⟨11 * ((t.val - 1) / 11), Pipeline.run_start_lt (⟨t.val - 1, Nat.lt_of_le_of_lt (Nat.sub_le _ _) t.isLt⟩ : Fin cfg0.N)⟩]

/-- One tile's contribution to the down product: the tile's step on a zero accumulator. -/
def part (c : Dev nD) (t : Fin cfg0.N) (j : S768x2048.Idx) : EReal :=
  k0_pay3 (F := Ideal) (k0_pay1 (iblk m c 0 t)) (iblk m c 1 t) (iblk m c 2 t) (fun _ => (0 : EReal)) (iblk m c 3 t) j

/-- The accumulating step adds its contribution to what the accumulator held. -/
theorem step_add (xb : Vec Ideal S768x2048 .bf16) (wg wu : Vec Ideal S1x1x2048x512 .bf16) (acc : Vec Ideal S768x2048 .f32)
    (wd : Vec Ideal S1x1x512x2048 .bf16) (j : S768x2048.Idx) :
    k0_pay3 (F := Ideal) xb wg wu acc wd j = acc j + k0_pay3 (F := Ideal) xb wg wu (fun _ => (0 : EReal)) wd j := by
  pointwise [k0_pay3]

/-- The zero fill. -/
theorem zero_fill (j : S768x2048.Idx) : k0_pay2 (F := Ideal) j = 0 := by pointwise [k0_pay2]

/-- At a run's last point the second scratch holds the sum of the eleven tiles' contributions. -/
theorem acc (c : Dev nD) (t : Fin cfg0.N) (h : t.val % 11 = 10) (j : S768x2048.Idx) :
    (outsAt0 m c t.val t.isLt).2.2 j
      = ∑ s : Fin 11, part m c ⟨11 * (t.val / 11) + s.val, Pipeline.run_point_lt_of_flush t h s⟩ j := by
  rw [Pipeline.eq_sum_fin_of_reset_step_apply_of_flush (fun n h => (outsAt0 m c n h).2.2) 11 (fun _ => (0 : EReal))
    (fun p j => part m c p j)
    (fun t h j => by
      rw [outsAt0_A m c t h (by omega)]
      frame_open
      simp (disch := decide) only [↓ View.readCov_skip, ↓ View.readCov_cons_toLoadRect, ↓ View.readCov_fill]
      frame_out
      rw [step_add, zero_fill]; rfl)
    (fun t h j => by
      by_cases h1 : t.val % 11 = 10
      · rw [outsAt0_C m c t h h1]; frame_out; simp only [read_unread_whole]; rw [step_add, held m c t h]; rfl
      · rw [outsAt0_B m c t h h1]; frame_out; simp only [read_unread_whole]; rw [step_add, held m c t h]; rfl)
    t h j]
  exact zero_add _

/-- What a run's last point leaves in the result's block: the residual and LayerNorm of the finished accumulator. -/
theorem out (c : Dev nD) (t : Fin cfg0.N) (h : t.val % 11 = 10) :
    (outsAt0 m c t.val t.isLt).1
      = k0_pay4 (F := Ideal) (iblk m c 0 t) (outsAt0 m c t.val t.isLt).2.2 (iblk m c 4 t) (iblk m c 5 t) := by
  rw [outsAt0_C m c t (by omega) h]
  frame_open
  simp (disch := decide) only [↓ View.readCov_skip, ↓ View.readCov_cons_toLoadRect, ↓ View.readCov_fill]
  frame_out

end Cert.Kernel2Ideal.Ffn

end
-- ==== Proof.Ffn.lean ====
/- The FFN half step: the kernel's result array is the reference's.
   The eleven tiles' contributions are the down product's single contraction over the hidden axis; the residual and the
   LayerNorm are the same arithmetic row by row. -/
module

public import proofs.«01_k».proof.Defs
public import proofs.«01_k».proof.Proof.FfnBlocks
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Kernel2Ideal.Value
open Cert.Reference2Ideal.Read

variable (m : (ℓ : Loc nD τ sig) → Buf (Elt Ideal) ℓ)

/-- At a run's last point the accumulator is the reference's down product on the run's rows. -/
theorem acc_eq (c : Dev nD) (t : Fin cfg0.N) (h : t.val % 11 = 10) (j : S768x2048.Idx) :
    (outsAt0 m c t.val t.isLt).2.2 j
      = val_main_v14 (F := Ideal) (m ((c : Thread nD τ).loc main_arg0)) (m ((c : Thread nD τ).loc main_arg1))
          (m ((c : Thread nD τ).loc main_arg2)) (m ((c : Thread nD τ).loc main_arg3)) (((cfg0.win 6).blk t).view.emb j) := by
  rw [acc m c t h j]
  unfold part
  pointwise [k0_pay3, k0_pay1, val_main_v14, val_main_v13, val_main_v12, val_main_v11, val_main_v10, val_main_v5, val_main_v4,
    val_main_v3, val_main_v2, val_main_v1, val_main_v0, val_main_call0_v5, val_main_call0_v4, val_main_call0_cst_0,
    val_main_call0_v3, val_main_call0_v2, val_main_call0_cst, val_main_call0_v1, val_main_call0_v0]
  simp only [Ideal.logistic]
  refine Fin.sum_mul_add_congr fun s k hl => ?_
  blk_point [iblk, V, idx t, idx ⟨11 * (t.val / 11) + s.val, Pipeline.run_point_lt_of_flush t h s⟩]

/-- The result array after the run is the reference's. -/
theorem final (c : Dev nD) : (dats m 0 c).arrAt 6 cfg0.N
    = val_main_v43 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t hf y => ?_
  have h : t.val % 11 = 10 := (flush0_6 t).mp hf
  blk_simp
  rw [after0_6, out m c t h, funext (acc_eq m c t h)]
  pointwise [k0_pay4, val_main_v43, val_main_v42, val_main_v41, val_main_v40, val_main_v39, val_main_v38, val_main_v37, val_main_v36,
    val_main_v35, val_main_v34, val_main_v33, val_main_cst_5, val_main_v32, val_main_v31, val_main_v30, val_main_v29, val_main_cst_4,
    val_main_v28, val_main_v27, val_main_cst_3, val_main_v26, val_main_v25, val_main_v24, val_main_v23, val_main_v22, val_main_cst_2,
    val_main_v21, val_main_v20, val_main_cst_1, val_main_v19, val_main_v18, val_main_v17, val_main_cst_0, val_main_v16, val_main_v15,
    val_main_cst, val_main_v9, val_main_v8, val_main_v7, val_main_v6]
  blk_point [iblk, V, idx t]

end Cert.Kernel2Ideal.Ffn

namespace Cert.Proof

/-- At `Ideal` the FFN kernel's result and the reference's agree. -/
theorem ffn_algebraic : Cert.algebraic_Kernel2Ideal_Reference2Ideal := by
  pair_intro
  · run_from Cert.Kernel2Ideal.Value.run_blocks m g
  · run_from Cert.Reference2Ideal.Value.run m' g'
    rw [Cert.Reference2Ideal.Read.val_main_v43_eq m' c, Cert.Kernel2Ideal.Ffn.final m c]
    obtain ⟨h0, h1, h2, h3, h4, h5⟩ := hagree c
    rw [h0, h1, h2, h3, h4, h5]

end Cert.Proof

end
-- ==== Proof.SbInProj.lean ====
/- The SB layer's input projection: the tiled kernel's result array is one product `x · w`.
   A row block of `x` is cast to bf16 at the first of its six column tiles and held in scratch for the other five; over
   the reals the cast is the identity, so every tile is the product's own tile. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.SbIn

open Cert.Kernel3Ideal Cert.Kernel3Ideal.Gen Cert.Kernel3Ideal.Value

variable (m : (ℓ : Loc nD τ sig) → Buf (Elt Ideal) ℓ)

/-- The reference's term: the product of `x` with the layer's weight. -/
abbrev REF (X : FVec Ideal S9216x2048 .f32) (Wt : FVec Ideal S1x2048x3072 .f32) : FVec Ideal S9216x3072 .f32 :=
  Host.dotGeneral Cert.Reference3Ideal.dot_S9216x2048_S2048x3072_S9216x3072_1_0_0_1_n_n none X
    (shapeCast _ Wt Cert.Reference3Ideal.Gen.shapeCasts_S1x2048x3072_S2048x3072)

/-- The blocks' positions at every point: row block `t / 6`, column tile `t % 6`. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The scratch holds the row block of `x` at every point of its run. -/
theorem scratch (c : Dev nD) (t : Fin cfg0.N) (j : S1024x2048.Idx) :
    (outsAt0 m c t.val t.isLt).2 j = k0_pay1 (F := Ideal) (iblk m c 0 ⟨6 * (t.val / 6), Pipeline.run_start_lt t⟩) j :=
  Pipeline.eq_of_write_hold_apply (fun n h => (outsAt0 m c n h).2) 6 (fun t j => k0_pay1 (F := Ideal) (iblk m c 0 t) j)
    (fun t h j => by rw [outsAt0_A m c t h]; frame_out)
    (fun t h j => by rw [outsAt0_B m c t h]; rfl) t j

/-- What a point leaves in the result's block: the scratch's row block times the weight's column tile. -/
theorem out (c : Dev nD) (t : Fin cfg0.N) :
    (outsAt0 m c t.val t.isLt).1 = k0_pay2 (F := Ideal) (outsAt0 m c t.val t.isLt).2 (iblk m c 1 t) := by
  by_cases h0 : t.val % 6 = 0
  · rw [outsAt0_A m c t h0]
    frame_open
    simp (disch := decide) only [↓ View.readCov_skip, ↓ View.readCov_cons_toLoadRect, ↓ View.readCov_fill]
    frame_out
  · rw [outsAt0_B m c t h0]
    frame_out
    simp only [read_unread_whole, sout0_B_0]

/-- The result array after the run is the reference's product. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, funext (scratch m c t)]
  pointwise [k0_pay2, k0_pay1, REF]
  blk_point [iblk, V, idx t, idx ⟨6 * (t.val / 6), Pipeline.run_start_lt t⟩]

end Cert.Kernel3Ideal.SbIn

namespace Cert.Proof

/-- At `Ideal` the projection kernel's result and the reference's agree. -/
theorem sbIn_algebraic : Cert.algebraic_Kernel3Ideal_Reference3Ideal := by
  pair_intro
  · run_from Cert.Kernel3Ideal.Value.run_blocks m g
  · run_from Cert.Reference3Ideal.Value.run m' g'
    exact (Cert.Kernel3Ideal.SbIn.final m c).symm

end Cert.Proof

end
-- ==== Proof.EvRef.lean ====
/- The even layer's input projection as the reference computes it, read by row and column: the product's columns, the
   rotated queries and keys (the keys scaled), the values and gates as they are, and the two compressed parts normalized. -/
module

public import proofs.«01_k».proof.Proof.Gen.Reference4Ideal.Run
public import proofs.«01_k».proof.Proof.Gen.Reference4Ideal.Read
public import Idealize.ShloMosaic.Lib.Pointwise
public import Idealize.ShloMosaic.Lib.IdealHost

@[expose] public section

set_option maxRecDepth 16384

noncomputable section

open Idealize.ShloMosaic Idealize.ShloMosaic.TcCoe

namespace Cert.Reference4Ideal.Ev

open Cert.Reference4Ideal Cert.Reference4Ideal.Read

/-- A row's position: the prompt's rows count through each sequence, the sample's go on from the cached past. -/
def POS (r : Fin 9216) : BitVec 32 :=
  if r.val < 8192 then BitVec.ofNat 32 (r.val % 4096) else IntOp.addi (8192#32) (BitVec.ofNat 32 ((r.val - 8192) % 8))

/-- The exponents of the frequencies: evenly spaced points of the unit interval, the last one its end. -/
def EXPO (e : Fin 64) : EReal :=
  if e.val < 63 then
    0 * (1 - Ideal.div (FloatOps.sitofp (F := Ideal) FTy.f32 (BitVec.ofNat 32 e.val)) (Ideal.ofBits FTy.f32 1115422720#32))
      + 1 * Ideal.div (FloatOps.sitofp (F := Ideal) FTy.f32 (BitVec.ofNat 32 e.val)) (Ideal.ofBits FTy.f32 1115422720#32)
  else 1

/-- The frequencies of the queries and keys. -/
def FRQ (e : Fin 64) : EReal := Ideal.div 1 (Ideal.pow (Ideal.ofBits FTy.f32 1176256512#32) (EXPO e))

/-- The angle of a row at a frequency. -/
def ANG (r : Fin 9216) (e : Fin 64) : EReal := FloatOps.sitofp (F := Ideal) FTy.f32 (POS r) * FRQ e

/-- The product of a row with a column of the layer's weight. -/
def PROD (X : FVec Ideal S9216x2048 .f32) (Wt : FVec Ideal S1x2048x5184 .f32) (r : Fin 9216) (q : Fin 5184) : EReal :=
  ∑ k : Fin 2048, X (ix2 r k) * Wt (ix3 0 k q)

/-- A head rotated by its row's angles. -/
def ROT (P : Fin 128 → EReal) (A : Fin 64 → EReal) (e : Fin 128) : EReal :=
  if h : e.val < 64 then P ⟨e.val, by omega⟩ * Ideal.cos (A ⟨e.val, h⟩) - P ⟨64 + e.val, by omega⟩ * Ideal.sin (A ⟨e.val, h⟩)
  else P ⟨e.val - 64, by omega⟩ * Ideal.sin (A ⟨e.val - 64, by omega⟩)
    + P ⟨64 + (e.val - 64), by omega⟩ * Ideal.cos (A ⟨e.val - 64, by omega⟩)

/-- A compressed part normalized by its root mean square and scaled. -/
def RMSN (P : Fin 512 → EReal) (g : FVec Ideal S1x512 .f32) (e : Fin 512) : EReal :=
  P e * Ideal.rsqrt (Ideal.div (∑ k : Fin 512, P k * P k) (Ideal.ofBits FTy.f32 1140850688#32) + Ideal.ofBits FTy.f32 925353388#32)
    * g (ix2 0 e)

/-- The array by row and column. -/
def VAL (X : FVec Ideal S9216x2048 .f32) (Wt : FVec Ideal S1x2048x5184 .f32) (gq gkv : FVec Ideal S1x512 .f32) (r : Fin 9216) (q : Fin 5120) :
    EReal :=
  if h0 : q.val < 1024 then ROT (fun e => PROD X Wt r ⟨q.val / 128 * 128 + e.val, by omega⟩) (ANG r) ⟨q.val % 128, by omega⟩
  else if h1 : q.val - 1024 < 1024 then
    ROT (fun e => PROD X Wt r ⟨1024 + ((q.val - 1024) / 128 * 128 + e.val), by omega⟩) (ANG r) ⟨(q.val - 1024) % 128, by omega⟩
      * Ideal.ofBits FTy.f32 1035273459#32
  else if h2 : q.val - 1024 - 1024 < 1024 then PROD X Wt r ⟨2048 + (q.val - 1024 - 1024), by omega⟩
  else if h3 : q.val - 1024 - 1024 - 1024 < 1024 then PROD X Wt r ⟨3072 + (q.val - 1024 - 1024 - 1024), by omega⟩
  else if h4 : q.val - 1024 - 1024 - 1024 - 1024 < 512 then
    RMSN (fun e => PROD X Wt r ⟨4096 + e.val, by omega⟩) gq ⟨q.val - 1024 - 1024 - 1024 - 1024, h4⟩
  else RMSN (fun e => PROD X Wt r ⟨4608 + e.val, by omega⟩) gkv ⟨q.val - 1024 - 1024 - 1024 - 1024 - 512, by omega⟩

variable (X : FVec Ideal S9216x2048 .f32) (Wt : FVec Ideal S1x2048x5184 .f32) (gq gkv : FVec Ideal S1x512 .f32)

/-! ## The prompt's rows -/

/-- The prompt's rows of the product. -/
theorem prod_prompt (b : Fin 2) (u : Fin 4096) (q : Fin 5184) (r : Fin 9216) (hr : b.val * 4096 + u.val = r.val) :
    val_main_v8 (F := Ideal) X Wt (ix3 b u q) = PROD X Wt r q := by
  have hr : (⟨b.val * 4096 + u.val, by omega⟩ : Fin 9216) = r := Fin.ext hr
  pointwise [val_main_v8, val_main_v5, val_main_v1, val_main_v0]
  simp only [PROD, hr]

/-- The prompt's angles. -/
theorem ang_prompt (u : Fin 4096) (e : Fin 64) :
    val_main_v26 (F := Ideal) (ix2 u e) = FloatOps.sitofp (F := Ideal) FTy.f32 (BitVec.ofNat 32 u.val) * FRQ e := by
  pointwise [val_main_v26, val_main_v25, val_main_v24, val_main_v23, val_main_v22, val_main_v21, val_main_v20, val_main_v19, val_main_v18,
    val_main_v17, val_main_v16, val_main_cst, val_main_cst_0, val_main_cst_1, val_main_cst_2, val_main_v4, val_main_call0_v0,
    val_main_call0_v1, val_main_call0_v4, val_main_call0_v5, val_main_call0_v6, val_main_call0_v7, val_main_call0_v8, val_main_call0_v9,
    val_main_call0_v10, val_main_call0_v11, val_main_call0_v12, val_main_call0_v13, val_main_call0_v14, val_main_call0_v15,
    val_main_call0_v16, val_main_call0_cst_0, val_main_call0_cst_1, FRQ, EXPO]
  simp only [id]
  pointwise []
  simp only [dite_eq_ite]

/-- The prompt's rotated queries, by head and lane. -/
theorem rotq_prompt (b : Fin 2) (u : Fin 4096) (h : Fin 8) (e : Fin 128) (r : Fin 9216) (hr : b.val * 4096 + u.val = r.val) (A : Fin 64 → EReal)
    (hA : ∀ e, val_main_v26 (F := Ideal) (ix2 u e) = A e) :
    val_main_v47 (F := Ideal) X Wt (ix4 b u h e) = ROT (fun e => PROD X Wt r ⟨h.val * 128 + e.val, by omega⟩) A e := by
  have hP : ∀ q, val_main_v8 (F := Ideal) X Wt (ix3 b u q) = PROD X Wt r q := fun q => prod_prompt X Wt b u q r hr
  clear hr
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v29, val_main_v28, val_main_v27, val_main_v9]
  simp only [hA, hP, ROT]

/-- The prompt's rotated and scaled keys, by head and lane. -/
theorem rotk_prompt (b : Fin 2) (u : Fin 4096) (h : Fin 8) (e : Fin 128) (r : Fin 9216) (hr : b.val * 4096 + u.val = r.val) (A : Fin 64 → EReal)
    (hA : ∀ e, val_main_v26 (F := Ideal) (ix2 u e) = A e) :
    val_main_v69 (F := Ideal) X Wt (ix4 b u h e)
      = ROT (fun e => PROD X Wt r ⟨1024 + (h.val * 128 + e.val), by omega⟩) A e * Ideal.ofBits FTy.f32 1035273459#32 := by
  have hP : ∀ q, val_main_v8 (F := Ideal) X Wt (ix3 b u q) = PROD X Wt r q := fun q => prod_prompt X Wt b u q r hr
  clear hr
  pointwise [val_main_v69, val_main_v68, val_main_cst_3, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v48, val_main_v27, val_main_v10]
  simp only [hA, hP, ROT]

/-- The prompt's normalized compressed queries. -/
theorem rmsq_prompt (b : Fin 2) (u : Fin 4096) (e : Fin 512) (r : Fin 9216) (hr : b.val * 4096 + u.val = r.val) :
    val_main_v82 (F := Ideal) X Wt gq (ix3 b u e) = RMSN (fun e => PROD X Wt r ⟨4096 + e.val, by omega⟩) gq e := by
  have hP : ∀ q, val_main_v8 (F := Ideal) X Wt (ix3 b u q) = PROD X Wt r q := fun q => prod_prompt X Wt b u q r hr
  clear hr
  pointwise [val_main_v82, val_main_v81, val_main_v80, val_main_v79, val_main_v78, val_main_v77, val_main_v76, val_main_v75, val_main_v74,
    val_main_v73, val_main_v72, val_main_v71, val_main_v70, val_main_cst_4, val_main_cst_5, val_main_cst_6, val_main_v13, val_main_v6]
  simp only [hP, RMSN]

/-- The prompt's normalized compressed keys and values. -/
theorem rmskv_prompt (b : Fin 2) (u : Fin 4096) (e : Fin 512) (r : Fin 9216) (hr : b.val * 4096 + u.val = r.val) :
    val_main_v95 (F := Ideal) X Wt gkv (ix3 b u e) = RMSN (fun e => PROD X Wt r ⟨4608 + e.val, by omega⟩) gkv e := by
  have hP : ∀ q, val_main_v8 (F := Ideal) X Wt (ix3 b u q) = PROD X Wt r q := fun q => prod_prompt X Wt b u q r hr
  clear hr
  pointwise [val_main_v95, val_main_v94, val_main_v93, val_main_v92, val_main_v91, val_main_v90, val_main_v89, val_main_v88, val_main_v87,
    val_main_v86, val_main_v85, val_main_v84, val_main_v83, val_main_cst_7, val_main_cst_8, val_main_cst_9, val_main_v14, val_main_v7]
  simp only [hP, RMSN]

/-- The prompt's rows of the array. -/
theorem val_prompt (r : Fin 9216) (hr : r.val < 8192) (q : Fin 5120) :
    val_main_v102 (F := Ideal) X Wt gq gkv (ix2 ⟨r.val, hr⟩ q) = VAL X Wt gq gkv r q := by
  have hd : (⟨r.val / 4096, by omega⟩ : Fin 2).val * 4096 + (⟨r.val % 4096, by omega⟩ : Fin 4096).val = r.val := by
    show r.val / 4096 * 4096 + r.val % 4096 = r.val; omega
  have hA : ∀ e, val_main_v26 (F := Ideal) (ix2 ⟨r.val % 4096, by omega⟩ e) = ANG r e := fun e => by
    rw [ang_prompt, ANG, POS, if_pos hr]
  pointwise [val_main_v102, val_main_v101, val_main_v100, val_main_v99, val_main_v98, val_main_v97, val_main_v96, val_main_v12, val_main_v11]
  exact dite_congr rfl (fun h0 => rotq_prompt X Wt _ _ ⟨q.val / 128, by omega⟩ ⟨q.val % 128, by omega⟩ r hd _ hA) fun h0 =>
    dite_congr rfl (fun h1 => rotk_prompt X Wt _ _ ⟨(q.val - 1024) / 128, by omega⟩ ⟨(q.val - 1024) % 128, by omega⟩ r hd _ hA) fun h1 =>
    dite_congr rfl (fun h2 => prod_prompt X Wt _ _ _ r hd) fun h2 =>
    dite_congr rfl (fun h3 => prod_prompt X Wt _ _ _ r hd) fun h3 =>
    dite_congr rfl (fun h4 => rmsq_prompt X Wt gq _ _ _ r hd) fun h4 => rmskv_prompt X Wt gkv _ _ _ r hd

/-! ## The sample's rows -/

/-- The sample's rows of the product. -/
theorem prod_sample (b : Fin 128) (u : Fin 8) (q : Fin 5184) (r : Fin 9216) (hr : 8192 + (b.val * 8 + u.val) = r.val) :
    val_main_v109 (F := Ideal) X Wt (ix3 b u q) = PROD X Wt r q := by
  have hr : (⟨8192 + (b.val * 8 + u.val), by omega⟩ : Fin 9216) = r := Fin.ext hr
  pointwise [val_main_v109, val_main_v106, val_main_v3, val_main_v2]
  simp only [PROD, hr]

/-- The sample's angles. -/
theorem ang_sample (u : Fin 8) (e : Fin 64) :
    val_main_v127 (F := Ideal) (ix2 u e) = FloatOps.sitofp (F := Ideal) FTy.f32 (IntOp.addi (8192#32) (BitVec.ofNat 32 u.val)) * FRQ e := by
  pointwise [val_main_v127, val_main_v126, val_main_v125, val_main_v124, val_main_v123, val_main_v122, val_main_v121, val_main_v120, val_main_v119,
    val_main_v118, val_main_v117, val_main_cst_10, val_main_cst_11, val_main_cst_12, val_main_cst_13, val_main_v105, val_main_v104,
    val_main_v103, val_main_c, val_main_call1_v0,
    val_main_call1_v1, val_main_call1_v4, val_main_call1_v5, val_main_call1_v6, val_main_call1_v7, val_main_call1_v8, val_main_call1_v9,
    val_main_call1_v10, val_main_call1_v11, val_main_call1_v12, val_main_call1_v13, val_main_call1_v14, val_main_call1_v15,
    val_main_call1_v16, val_main_call1_cst_0, val_main_call1_cst_1, FRQ, EXPO]
  simp only [id]
  pointwise []
  simp only [dite_eq_ite]

/-- The sample's rotated queries, by head and lane. -/
theorem rotq_sample (b : Fin 128) (u : Fin 8) (h : Fin 8) (e : Fin 128) (r : Fin 9216) (hr : 8192 + (b.val * 8 + u.val) = r.val) (A : Fin 64 → EReal)
    (hA : ∀ e, val_main_v127 (F := Ideal) (ix2 u e) = A e) :
    val_main_v148 (F := Ideal) X Wt (ix4 b u h e) = ROT (fun e => PROD X Wt r ⟨h.val * 128 + e.val, by omega⟩) A e := by
  have hP : ∀ q, val_main_v109 (F := Ideal) X Wt (ix3 b u q) = PROD X Wt r q := fun q => prod_sample X Wt b u q r hr
  clear hr
  pointwise [val_main_v148, val_main_v147, val_main_v146, val_main_v145, val_main_v144, val_main_v143, val_main_v142, val_main_v141, val_main_v140,
    val_main_v139, val_main_v138, val_main_v137, val_main_v136, val_main_v135, val_main_v134, val_main_v133, val_main_v132, val_main_v131,
    val_main_v130, val_main_v129, val_main_v128, val_main_v110]
  simp only [hA, hP, ROT]

/-- The sample's rotated and scaled keys, by head and lane. -/
theorem rotk_sample (b : Fin 128) (u : Fin 8) (h : Fin 8) (e : Fin 128) (r : Fin 9216) (hr : 8192 + (b.val * 8 + u.val) = r.val) (A : Fin 64 → EReal)
    (hA : ∀ e, val_main_v127 (F := Ideal) (ix2 u e) = A e) :
    val_main_v170 (F := Ideal) X Wt (ix4 b u h e)
      = ROT (fun e => PROD X Wt r ⟨1024 + (h.val * 128 + e.val), by omega⟩) A e * Ideal.ofBits FTy.f32 1035273459#32 := by
  have hP : ∀ q, val_main_v109 (F := Ideal) X Wt (ix3 b u q) = PROD X Wt r q := fun q => prod_sample X Wt b u q r hr
  clear hr
  pointwise [val_main_v170, val_main_v169, val_main_cst_14, val_main_v168, val_main_v167, val_main_v166, val_main_v165, val_main_v164, val_main_v163,
    val_main_v162, val_main_v161, val_main_v160, val_main_v159, val_main_v158, val_main_v157, val_main_v156, val_main_v155, val_main_v154,
    val_main_v153, val_main_v152, val_main_v151, val_main_v150, val_main_v149, val_main_v128, val_main_v111]
  simp only [hA, hP, ROT]

/-- The sample's normalized compressed queries. -/
theorem rmsq_sample (b : Fin 128) (u : Fin 8) (e : Fin 512) (r : Fin 9216) (hr : 8192 + (b.val * 8 + u.val) = r.val) :
    val_main_v183 (F := Ideal) X Wt gq (ix3 b u e) = RMSN (fun e => PROD X Wt r ⟨4096 + e.val, by omega⟩) gq e := by
  have hP : ∀ q, val_main_v109 (F := Ideal) X Wt (ix3 b u q) = PROD X Wt r q := fun q => prod_sample X Wt b u q r hr
  clear hr
  pointwise [val_main_v183, val_main_v182, val_main_v181, val_main_v180, val_main_v179, val_main_v178, val_main_v177, val_main_v176, val_main_v175,
    val_main_v174, val_main_v173, val_main_v172, val_main_v171, val_main_cst_15, val_main_cst_16, val_main_cst_17, val_main_v114, val_main_v107]
  simp only [hP, RMSN]

/-- The sample's normalized compressed keys and values. -/
theorem rmskv_sample (b : Fin 128) (u : Fin 8) (e : Fin 512) (r : Fin 9216) (hr : 8192 + (b.val * 8 + u.val) = r.val) :
    val_main_v196 (F := Ideal) X Wt gkv (ix3 b u e) = RMSN (fun e => PROD X Wt r ⟨4608 + e.val, by omega⟩) gkv e := by
  have hP : ∀ q, val_main_v109 (F := Ideal) X Wt (ix3 b u q) = PROD X Wt r q := fun q => prod_sample X Wt b u q r hr
  clear hr
  pointwise [val_main_v196, val_main_v195, val_main_v194, val_main_v193, val_main_v192, val_main_v191, val_main_v190, val_main_v189, val_main_v188,
    val_main_v187, val_main_v186, val_main_v185, val_main_v184, val_main_cst_18, val_main_cst_19, val_main_cst_20, val_main_v115, val_main_v108]
  simp only [hP, RMSN]

/-- The sample's angles at a row. -/
theorem ang_row (u : Fin 8) (r : Fin 9216) (hr : ¬r.val < 8192) (hu : u.val = (r.val - 8192) % 8) (e : Fin 64) :
    val_main_v127 (F := Ideal) (ix2 u e) = ANG r e := by
  rw [ang_sample, ANG, POS, if_neg hr, hu]

/-- The sample's rows of the array. -/
theorem val_sample (s : Fin 1024) (r : Fin 9216) (hd : 8192 + (s.val / 8 * 8 + s.val % 8) = r.val) (A : Fin 64 → EReal) (hr : A = ANG r)
    (hA : ∀ e, val_main_v127 (F := Ideal) (ix2 ⟨s.val % 8, by omega⟩ e) = A e) (q : Fin 5120) :
    val_main_v203 (F := Ideal) X Wt gq gkv (ix2 s q) = VAL X Wt gq gkv r q := by
  unfold VAL
  rw [← hr]
  clear hr
  pointwise [val_main_v203, val_main_v202, val_main_v201, val_main_v200, val_main_v199, val_main_v198, val_main_v197, val_main_v113, val_main_v112]
  exact dite_congr rfl (fun h0 => rotq_sample X Wt _ _ ⟨q.val / 128, by omega⟩ ⟨q.val % 128, by omega⟩ r hd _ hA) fun h0 =>
    dite_congr rfl (fun h1 => rotk_sample X Wt _ _ ⟨(q.val - 1024) / 128, by omega⟩ ⟨(q.val - 1024) % 128, by omega⟩ r hd _ hA) fun h1 =>
    dite_congr rfl (fun h2 => prod_sample X Wt _ _ _ r hd) fun h2 =>
    dite_congr rfl (fun h3 => prod_sample X Wt _ _ _ r hd) fun h3 =>
    dite_congr rfl (fun h4 => rmsq_sample X Wt gq _ _ _ r hd) fun h4 => rmskv_sample X Wt gkv _ _ _ r hd

/-- The reference's array by row and column. -/
theorem ref_val (r : Fin 9216) (q : Fin 5120) : val_main_v204 (F := Ideal) X Wt gq gkv (ix2 r q) = VAL X Wt gq gkv r q := by
  have hs : ∀ s : Fin 1024, ¬r.val < 8192 → s.val = r.val - 8192 → val_main_v203 (F := Ideal) X Wt gq gkv (ix2 s q) = VAL X Wt gq gkv r q :=
    fun s hr hv => by
      have hd : 8192 + (s.val / 8 * 8 + s.val % 8) = r.val := by omega
      exact val_sample X Wt gq gkv s r hd _ rfl (fun e => ang_row _ r hr (congrArg (· % 8) hv) e) q
  pointwise [val_main_v204]
  by_cases hr : r.val < 8192
  · rw [dif_pos hr]
    exact val_prompt X Wt gq gkv r hr q
  · rw [dif_neg hr]
    exact hs _ hr (Fin.val_mk _)

end Cert.Reference4Ideal.Ev

end
-- ==== Proof.Ev.lean ====
/- The even layer's input projection: the tiled kernel's result array is the reference's.
   A row block of `x` is cast to bf16 at the first of its ten column tiles and held in scratch for the other nine. Over
   the reals the cast is the identity, so every tile is the product's own columns, rotated, scaled, normalized or left
   as they are, by the tile. -/
module

public import proofs.«01_k».proof.Defs
public import proofs.«01_k».proof.Proof.Gen.Kernel4Ideal.Value
public import proofs.«01_k».proof.Proof.EvRef
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel4Ideal.Ev

open Cert.Kernel4Ideal Cert.Kernel4Ideal.Gen Cert.Kernel4Ideal.Value
open Cert.Reference4Ideal.Ev (POS EXPO FRQ ANG PROD ROT RMSN VAL)

variable (m : (ℓ : Loc nD τ sig) → Buf (Elt Ideal) ℓ)

/-- The kernel's rotation of a head: the head times one table plus its swapped halves times the other. -/
def KROT (P : Fin 128 → EReal) (cr sr : FVec Ideal S1024x128 .f32) (p : Fin 1024) (e : Fin 128) : EReal :=
  P e * cr (ix2 p e) + P ⟨(e.val + 128 - 64) % 128, by omega⟩ * sr (ix2 p e)

/-- The blocks' positions at every point: row block `t / 10`, column tile `t % 10`. -/
theorem idx : ∀ t : Fin cfg0.N, win0_0.index t = ![t.val / 10, 0] ∧ win0_1.index t = ![0, t.val % 10]
    ∧ win0_2.index t = ![t.val / 10, 0] ∧ win0_3.index t = ![t.val / 10, 0] ∧ win0_4.index t = ![0, 0] ∧ win0_5.index t = ![0, 0]
    ∧ win0_6.index t = ![t.val / 10, t.val % 10] :=
  (by decide +kernel : ∀ t : Fin grid0.N, _)

theorem pt_lt (t : Fin cfg0.N) : t.val < 90 := t.isLt

/-- The scratch is held over every point but the first of its run. -/
theorem hold (c : Dev nD) (t : Fin cfg0.N) (h : ¬t.val % 10 = 0) :
    (outsAt0 m c t.val t.isLt).2 = (outsAt0 m c (t.val - 1) (Nat.lt_of_le_of_lt (Nat.sub_le _ _) t.isLt)).2 := by
  have h9 : t.val % 10 < 10 := Nat.mod_lt _ (by decide)
  by_cases h1 : t.val % 10 ≤ 1
  · rw [outsAt0_B m c t h h1 (by omega) (by omega) (by omega) (by omega)]; rfl
  by_cases h2 : t.val % 10 ≤ 3
  · rw [outsAt0_C m c t h h1 (by omega) (by omega) (by omega) (by omega)]; rfl
  by_cases h3 : t.val % 10 ≤ 7
  · rw [outsAt0_D m c t h h1 (by omega) (by omega) (by omega) (by omega)]; rfl
  by_cases h4 : t.val % 10 = 8
  · rw [outsAt0_E m c t h h1 (by omega) (by omega) h4 (by omega)]; rfl
  · rw [outsAt0_F m c t h h1 (by omega) (by omega) h4 (by omega)]; rfl

/-- The scratch holds the row block of `x` at every point of its run. -/
theorem scratch (c : Dev nD) (t : Fin cfg0.N) (j : S1024x2048.Idx) :
    (outsAt0 m c t.val t.isLt).2 j = k0_pay1 (F := Ideal) (iblk m c 0 ⟨10 * (t.val / 10), Pipeline.run_start_lt t⟩) j :=
  Pipeline.eq_of_write_hold_apply (fun n h => (outsAt0 m c n h).2) 10 (fun t j => k0_pay1 (F := Ideal) (iblk m c 0 t) j)
    (fun t h j => by rw [outsAt0_A m c t h (by omega) (by omega) (by omega) (by omega) (by omega)]; frame_out)
    (fun t h j => congrFun (hold m c t h) j) t j

/-- The first column tile: rotated queries. -/
theorem out_A (c : Dev nD) (t : Fin cfg0.N) (h0 : t.val % 10 = 0) (h : Fin 4) (p : Fin 1024) (e : Fin 128) :
    (outsAt0 m c t.val t.isLt).1 (ix2 p ⟨h.val * 128 + e.val, by omega⟩)
      = KROT (fun e => k0_pay2 (F := Ideal) (outsAt0 m c t.val t.isLt).2 (iblk m c 1 t) (ix2 p ⟨h.val * 128 + e.val, by omega⟩))
          (iblk m c 2 t) (iblk m c 3 t) p e := by
  have hs : (outsAt0 m c t.val t.isLt).2 = k0_pay1 (F := Ideal) (iblk m c 0 t) := by
    rw [outsAt0_A m c t h0 (by omega) (by omega) (by omega) (by omega) (by omega)]; frame_out
  rw [hs]
  rw [outsAt0_A m c t h0 (by omega) (by omega) (by omega) (by omega) (by omega)]
  clear hs
  frame_open
  simp (disch := decide) only [↓ View.readCov_skip, ↓ View.readCov_cons_toLoadRect, ↓ View.readCov_fill]
  frame_out
  generalize k0_pay1 (F := Ideal) (iblk m c 0 t) = xb
  generalize iblk m c 1 t = w
  generalize iblk m c 2 t = cr
  generalize iblk m c 3 t = sr
  clear h0
  canon_tiles x h
  all_goals
    have hl : h.val * 128 + e.val = _ := h1
    obtain rfl : p = x 0 := Fin.ext h0
    have he : e.val = (x 1).val := by omega
    obtain rfl : e = x 1 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KROT]
    try simp only [Fin.val_zero, Nat.zero_mul, Nat.zero_add]
    try rfl

/-- The second column tile: rotated queries. -/
theorem out_B (c : Dev nD) (t : Fin cfg0.N) (h0 : ¬t.val % 10 = 0) (h1 : t.val % 10 ≤ 1) (h : Fin 4) (p : Fin 1024) (e : Fin 128) :
    (outsAt0 m c t.val t.isLt).1 (ix2 p ⟨h.val * 128 + e.val, by omega⟩)
      = KROT (fun e => k0_pay2 (F := Ideal) (outsAt0 m c t.val t.isLt).2 (iblk m c 1 t) (ix2 p ⟨h.val * 128 + e.val, by omega⟩))
          (iblk m c 2 t) (iblk m c 3 t) p e := by
  rw [hold m c t h0]
  rw [outsAt0_B m c t h0 h1 (by omega) (by omega) (by omega) (by omega)]
  frame_out
  try simp only [read_unread_whole]
  generalize (outsAt0 m c (t.val - 1) (Nat.lt_of_le_of_lt (Nat.sub_le _ _) t.isLt)).2 = xb
  generalize iblk m c 1 t = w
  generalize iblk m c 2 t = cr
  generalize iblk m c 3 t = sr
  clear h0 h1
  canon_tiles x h
  all_goals
    have hl : h.val * 128 + e.val = _ := h1
    obtain rfl : p = x 0 := Fin.ext h0
    have he : e.val = (x 1).val := by omega
    obtain rfl : e = x 1 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KROT]
    try simp only [Fin.val_zero, Nat.zero_mul, Nat.zero_add]
    try rfl

/-- The next two column tiles: rotated and scaled keys. -/
theorem out_C (c : Dev nD) (t : Fin cfg0.N) (h1 : ¬t.val % 10 ≤ 1) (h2 : t.val % 10 ≤ 3) (h : Fin 4) (p : Fin 1024) (e : Fin 128) :
    (outsAt0 m c t.val t.isLt).1 (ix2 p ⟨h.val * 128 + e.val, by omega⟩)
      = KROT (fun e => k0_pay2 (F := Ideal) (outsAt0 m c t.val t.isLt).2 (iblk m c 1 t) (ix2 p ⟨h.val * 128 + e.val, by omega⟩))
          (iblk m c 2 t) (iblk m c 3 t) p e * Ideal.ofBits FTy.f32 1035273459#32 := by
  rw [hold m c t (by omega)]
  rw [outsAt0_C m c t (by omega) h1 (by omega) (by omega) (by omega) (by omega)]
  frame_out
  try simp only [read_unread_whole]
  generalize (outsAt0 m c (t.val - 1) (Nat.lt_of_le_of_lt (Nat.sub_le _ _) t.isLt)).2 = xb
  generalize iblk m c 1 t = w
  generalize iblk m c 2 t = cr
  generalize iblk m c 3 t = sr
  clear h1 h2
  canon_tiles x h
  all_goals
    have hl : h.val * 128 + e.val = _ := h1
    obtain rfl : p = x 0 := Fin.ext h0
    have he : e.val = (x 1).val := by omega
    obtain rfl : e = x 1 := Fin.ext he
    first
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KROT]
    try simp only [Fin.val_zero, Nat.zero_mul, Nat.zero_add]
    try rfl

/-- The four column tiles of values and gates: the product as it is. -/
theorem out_D (c : Dev nD) (t : Fin cfg0.N) (h2 : ¬t.val % 10 ≤ 3) (h3 : t.val % 10 ≤ 7) :
    (outsAt0 m c t.val t.isLt).1 = k0_pay2 (F := Ideal) (outsAt0 m c t.val t.isLt).2 (iblk m c 1 t) := by
  rw [outsAt0_D m c t (by omega) (by omega) (by omega) (by omega) (by omega) (by omega)]
  frame_out
  simp only [read_unread_whole, sout0_D_0]

/-- The compressed queries' tile. -/
theorem out_E (c : Dev nD) (t : Fin cfg0.N) (h4 : t.val % 10 = 8) :
    (outsAt0 m c t.val t.isLt).1 = k0_pay9 (F := Ideal) (outsAt0 m c t.val t.isLt).2 (iblk m c 1 t) (iblk m c 4 t) := by
  rw [outsAt0_E m c t (by omega) (by omega) (by omega) (by omega) h4 (by omega)]
  frame_out
  simp only [read_unread_whole, sout0_E_0]

/-- The compressed keys' and values' tile. -/
theorem out_F (c : Dev nD) (t : Fin cfg0.N) (h5 : t.val % 10 = 9) :
    (outsAt0 m c t.val t.isLt).1 = k0_pay10 (F := Ideal) (outsAt0 m c t.val t.isLt).2 (iblk m c 1 t) (iblk m c 5 t) := by
  rw [outsAt0_F m c t (by omega) (by omega) (by omega) (by omega) (by omega) h5]
  frame_out
  simp only [read_unread_whole, sout0_F_0]

/-! ## The tables the host computes -/

/-- The positions of the prompt's rows, then of the sample's. -/
def catPos : (⟨S8192, .i32⟩ : BufTy).Contents (Elt Ideal) → (⟨S1024, .i32⟩ : BufTy).Contents (Elt Ideal) → (⟨S9216, .i32⟩ : BufTy).Contents (Elt Ideal) :=
  fun a b => concatenate S9216 0 [⟨S8192, a⟩, ⟨S1024, b⟩] concatenates_S8192_S1024_S9216_d0

theorem catPos_eq : (fun (a : (⟨S8192, .i32⟩ : BufTy).Contents (Elt Ideal)) (b : (⟨S1024, .i32⟩ : BufTy).Contents (Elt Ideal)) =>
  concatenate S9216 0 [⟨S8192, a⟩, ⟨S1024, b⟩] concatenates_S8192_S1024_S9216_d0) = catPos := rfl

/-- The exponents, then the end of the interval. -/
def catLin : (⟨S63, .f32⟩ : BufTy).Contents (Elt Ideal) → (⟨S1, .f32⟩ : BufTy).Contents (Elt Ideal) → (⟨S64, .f32⟩ : BufTy).Contents (Elt Ideal) :=
  fun a b => concatenate S64 0 [⟨S63, a⟩, ⟨S1, b⟩] concatenates_S63_S1_S64_d0

theorem catLin_eq : (fun (a : (⟨S63, .f32⟩ : BufTy).Contents (Elt Ideal)) (b : (⟨S1, .f32⟩ : BufTy).Contents (Elt Ideal)) =>
  concatenate S64 0 [⟨S63, a⟩, ⟨S1, b⟩] concatenates_S63_S1_S64_d0) = catLin := rfl

/-- A table: two half tables side by side. -/
def catTab : (⟨S9216x64, .f32⟩ : BufTy).Contents (Elt Ideal) → (⟨S9216x64, .f32⟩ : BufTy).Contents (Elt Ideal) → (⟨S9216x128, .f32⟩ : BufTy).Contents (Elt Ideal) :=
  fun a b => concatenate S9216x128 1 [⟨S9216x64, a⟩, ⟨S9216x64, b⟩] concatenates_S9216x64_S9216x64_S9216x128_d1

theorem catTab_eq : (fun (a b : (⟨S9216x64, .f32⟩ : BufTy).Contents (Elt Ideal)) =>
  concatenate S9216x128 1 [⟨S9216x64, a⟩, ⟨S9216x64, b⟩] concatenates_S9216x64_S9216x64_S9216x128_d1) = catTab := rfl

/-- The cosine table at a row and lane. -/
theorem tab_cos (c : Dev nD) (r : Fin 9216) (e : Fin 128) : (V m c main_v24 : FVec Ideal S9216x128 .f32) (ix2 r e)
    = if h : e.val < 64 then Ideal.cos (ANG r ⟨e.val, h⟩) else Ideal.cos (ANG r ⟨e.val - 64, by omega⟩) := by
  simp only [V, hostOps0, hostOps0_1, hostOps0_2, List.flatten_cons, List.flatten_nil, List.append_nil, List.cons_append,
    List.nil_append, catPos_eq, catLin_eq, catTab_eq]
  after_reads_simp
  simp only [StableHlo.TRef.ofBuf_toBuf]
  simp only [StableHlo.TRef.ofBuf, StableHlo.TRef.toBuf, id, cast_eq]
  pointwise [catPos, catLin, catTab, ANG, POS, FRQ, EXPO]
  simp only [dite_eq_ite]

/-- The sine table at a row and lane: its first half is negated. -/
theorem tab_sin (c : Dev nD) (r : Fin 9216) (e : Fin 128) : (V m c main_v26 : FVec Ideal S9216x128 .f32) (ix2 r e)
    = if h : e.val < 64 then -Ideal.sin (ANG r ⟨e.val, h⟩) else Ideal.sin (ANG r ⟨e.val - 64, by omega⟩) := by
  simp only [V, hostOps0, hostOps0_1, hostOps0_2, List.flatten_cons, List.flatten_nil, List.append_nil, List.cons_append,
    List.nil_append, catPos_eq, catLin_eq, catTab_eq]
  after_reads_simp
  simp only [StableHlo.TRef.ofBuf_toBuf]
  simp only [StableHlo.TRef.ofBuf, StableHlo.TRef.toBuf, id, cast_eq]
  pointwise [catPos, catLin, catTab, ANG, POS, FRQ, EXPO]
  simp only [dite_eq_ite]

/-- The weight's columns. -/
theorem tab_w (c : Dev nD) (k : Fin 2048) (q : Fin 5120) : (V m c main_v50 : FVec Ideal S2048x5120 .bf16) (ix2 k q)
    = (m ((c : Thread nD τ).loc main_arg1) : FVec Ideal S1x2048x5184 .f32) (ix3 0 k ⟨q.val, by omega⟩) := by
  simp only [V, hostOps0, hostOps0_1, hostOps0_2, List.flatten_cons, List.flatten_nil, List.append_nil, List.cons_append,
    List.nil_append, catPos_eq, catLin_eq, catTab_eq]
  after_reads_simp
  pointwise []

/-- The compressed queries' weights. -/
theorem tab_gq (c : Dev nD) (e : Fin 512) : (V m c main_v53 : FVec Ideal S1x512 .f32) (ix2 0 e)
    = (m ((c : Thread nD τ).loc main_arg2) : FVec Ideal S1x512 .f32) (ix2 0 e) := by
  simp only [V, hostOps0, hostOps0_1, hostOps0_2, List.flatten_cons, List.flatten_nil, List.append_nil, List.cons_append,
    List.nil_append, catPos_eq, catLin_eq, catTab_eq]
  after_reads_simp
  pointwise []

/-- The compressed keys' and values' weights. -/
theorem tab_gkv (c : Dev nD) (e : Fin 512) : (V m c main_v54 : FVec Ideal S1x512 .f32) (ix2 0 e)
    = (m ((c : Thread nD τ).loc main_arg3) : FVec Ideal S1x512 .f32) (ix2 0 e) := by
  simp only [V, hostOps0, hostOps0_1, hostOps0_2, List.flatten_cons, List.flatten_nil, List.append_nil, List.cons_append,
    List.nil_append, catPos_eq, catLin_eq, catTab_eq]
  after_reads_simp
  pointwise []

/-! ## A point's blocks -/

/-- The row of the array that a point's block row is. -/
abbrev row (t : Fin cfg0.N) (p : Fin 1024) : Fin 9216 := ⟨t.val / 10 * 1024 + p.val, by have := pt_lt t; omega⟩

/-- The column of the array that a point's block column is. -/
abbrev col (t : Fin cfg0.N) (j : Fin 512) : Fin 5120 := ⟨t.val % 10 * 512 + j.val, by omega⟩

theorem blk_x (c : Dev nD) (t : Fin cfg0.N) (p : Fin 1024) (k : Fin 2048) : (iblk m c 0 t : FVec Ideal S1024x2048 .f32) (ix2 p k)
    = (m ((c : Thread nD τ).loc main_arg0) : FVec Ideal S9216x2048 .f32) (ix2 (row t p) k) := by
  have := pt_lt t
  simp only [row]
  blk_point [iblk, V, idx t]

theorem blk_w (c : Dev nD) (t : Fin cfg0.N) (k : Fin 2048) (j : Fin 512) : (iblk m c 1 t : FVec Ideal S2048x512 .bf16) (ix2 k j)
    = (V m c main_v50 : FVec Ideal S2048x5120 .bf16) (ix2 k (col t j)) := by
  have := pt_lt t
  simp only [col]
  blk_point [iblk, idx t]

theorem blk_cos (c : Dev nD) (t : Fin cfg0.N) (p : Fin 1024) (e : Fin 128) : (iblk m c 2 t : FVec Ideal S1024x128 .f32) (ix2 p e)
    = (V m c main_v24 : FVec Ideal S9216x128 .f32) (ix2 (row t p) e) := by
  have := pt_lt t
  simp only [row]
  blk_point [iblk, idx t]

theorem blk_sin (c : Dev nD) (t : Fin cfg0.N) (p : Fin 1024) (e : Fin 128) : (iblk m c 3 t : FVec Ideal S1024x128 .f32) (ix2 p e)
    = (V m c main_v26 : FVec Ideal S9216x128 .f32) (ix2 (row t p) e) := by
  have := pt_lt t
  simp only [row]
  blk_point [iblk, idx t]

theorem blk_gq (c : Dev nD) (t : Fin cfg0.N) (e : Fin 512) : (iblk m c 4 t : FVec Ideal S1x512 .f32) (ix2 0 e)
    = (m ((c : Thread nD τ).loc main_arg2) : FVec Ideal S1x512 .f32) (ix2 0 e) := by
  refine Eq.trans ?_ (tab_gq m c e)
  blk_point [iblk, idx t]

theorem blk_gkv (c : Dev nD) (t : Fin cfg0.N) (e : Fin 512) : (iblk m c 5 t : FVec Ideal S1x512 .f32) (ix2 0 e)
    = (m ((c : Thread nD τ).loc main_arg3) : FVec Ideal S1x512 .f32) (ix2 0 e) := by
  refine Eq.trans ?_ (tab_gkv m c e)
  blk_point [iblk, idx t]

/-! ## A point's values -/

/-- A tile's product, over its blocks. -/
theorem pay2 (x : FVec Ideal S1024x2048 .f32) (w : FVec Ideal S2048x512 .bf16) (p : Fin 1024) (j : Fin 512) :
    k0_pay2 (F := Ideal) (k0_pay1 (F := Ideal) x) w (ix2 p j) = ∑ k : Fin 2048, x (ix2 p k) * w (ix2 k j) := by
  pointwise [k0_pay2, k0_pay1]

/-- A tile's product is columns of the reference's. -/
theorem acc_eq (c : Dev nD) (t : Fin cfg0.N) (p : Fin 1024) (j : Fin 512) (q : Fin 5184) (hq : q.val = t.val % 10 * 512 + j.val) :
    k0_pay2 (F := Ideal) (outsAt0 m c t.val t.isLt).2 (iblk m c 1 t) (ix2 p j)
      = PROD (m ((c : Thread nD τ).loc main_arg0)) (m ((c : Thread nD τ).loc main_arg1)) (row t p) q := by
  have hr : row ⟨10 * (t.val / 10), Pipeline.run_start_lt t⟩ p = row t p :=
    Fin.ext (by show 10 * (t.val / 10) / 10 * 1024 + p.val = t.val / 10 * 1024 + p.val; omega)
  have e1 : q = ⟨(col t j).val, by have := (col t j).isLt; omega⟩ := Fin.ext hq
  rw [funext (scratch m c t)]
  refine (pay2 _ _ p j).trans (Finset.sum_congr rfl fun k _ => ?_)
  refine congrArg₂ (· * ·) ((blk_x m c _ p k).trans ?_) ((blk_w m c t k j).trans ((tab_w m c k (col t j)).trans ?_))
  · exact congrArg (fun r => (m ((c : Thread nD τ).loc main_arg0) : FVec Ideal S9216x2048 .f32) (ix2 r k)) hr
  · exact congrArg (fun q => (m ((c : Thread nD τ).loc main_arg1) : FVec Ideal S1x2048x5184 .f32) (ix3 0 k q)) e1.symm

/-- The kernel's rotation, with the angles' tables, is the reference's. -/
theorem rot_eq (P : Fin 128 → EReal) (A : Fin 64 → EReal) (cr sr : FVec Ideal S1024x128 .f32) (p : Fin 1024) (e : Fin 128)
    (hc : cr (ix2 p e) = if h : e.val < 64 then Ideal.cos (A ⟨e.val, h⟩) else Ideal.cos (A ⟨e.val - 64, by omega⟩))
    (hs : sr (ix2 p e) = if h : e.val < 64 then -Ideal.sin (A ⟨e.val, h⟩) else Ideal.sin (A ⟨e.val - 64, by omega⟩)) :
    KROT P cr sr p e = ROT P A e := by
  unfold KROT ROT
  rw [hc, hs]
  by_cases h : e.val < 64
  · have e1 : (⟨(e.val + 128 - 64) % 128, by omega⟩ : Fin 128) = ⟨64 + e.val, by omega⟩ :=
      Fin.ext (by show (e.val + 128 - 64) % 128 = 64 + e.val; omega)
    rw [dif_pos h, dif_pos h, dif_pos h, e1, mul_neg (α := EReal), ← sub_eq_add_neg]
  · have e1 : (⟨(e.val + 128 - 64) % 128, by omega⟩ : Fin 128) = ⟨e.val - 64, by omega⟩ :=
      Fin.ext (by show (e.val + 128 - 64) % 128 = e.val - 64; omega)
    have e2 : (⟨64 + (e.val - 64), by omega⟩ : Fin 128) = e := Fin.ext (by show 64 + (e.val - 64) = e.val; omega)
    rw [dif_neg h, dif_neg h, dif_neg h, e1, e2, add_comm]

/-- The compressed queries' normalization, over a tile's product. -/
theorem rmsq (xb : FVec Ideal S1024x2048 .bf16) (w : FVec Ideal S2048x512 .bf16) (g : FVec Ideal S1x512 .f32) (p : Fin 1024) (e : Fin 512) :
    k0_pay9 (F := Ideal) xb w g (ix2 p e) = RMSN (fun e => k0_pay2 (F := Ideal) xb w (ix2 p e)) g e := by
  pointwise [k0_pay9, RMSN]

/-- The compressed keys' and values' normalization, over a tile's product. -/
theorem rmskv (xb : FVec Ideal S1024x2048 .bf16) (w : FVec Ideal S2048x512 .bf16) (g : FVec Ideal S1x512 .f32) (p : Fin 1024) (e : Fin 512) :
    k0_pay10 (F := Ideal) xb w g (ix2 p e) = RMSN (fun e => k0_pay2 (F := Ideal) xb w (ix2 p e)) g e := by
  pointwise [k0_pay10, RMSN]

/-- A normalization depends on its product and its weight's one row. -/
theorem rms_congr (P Q : Fin 512 → EReal) (g g' : FVec Ideal S1x512 .f32) (e e' : Fin 512) (hP : P = Q) (hg : g (ix2 0 e) = g' (ix2 0 e)) (he : e = e') :
    RMSN P g e = RMSN Q g' e' := by
  subst hP he
  exact congrArg (_ * ·) hg

/-- The kernel's rotated head at a point is the reference's. -/
theorem rot_pt (c : Dev nD) (t : Fin cfg0.N) (h : Fin 4) (p : Fin 1024) (e : Fin 128) :
    KROT (fun e => k0_pay2 (F := Ideal) (outsAt0 m c t.val t.isLt).2 (iblk m c 1 t) (ix2 p ⟨h.val * 128 + e.val, by omega⟩))
          (iblk m c 2 t) (iblk m c 3 t) p e
      = ROT (fun e => PROD (m ((c : Thread nD τ).loc main_arg0)) (m ((c : Thread nD τ).loc main_arg1)) (row t p)
          ⟨t.val % 10 * 512 + (h.val * 128 + e.val), by omega⟩) (ANG (row t p)) e := by
  refine (rot_eq _ (ANG (row t p)) _ _ p e ((blk_cos m c t p e).trans (tab_cos m c (row t p) e))
    ((blk_sin m c t p e).trans (tab_sin m c (row t p) e))).trans ?_
  exact congrArg (fun P => ROT P (ANG (row t p)) e) (funext fun e => acc_eq m c t p _ _ rfl)

/-- The queries' tiles hold the reference's rotated heads. -/
theorem out_AB (c : Dev nD) (t : Fin cfg0.N) (h1 : t.val % 10 ≤ 1) (h : Fin 4) (p : Fin 1024) (e : Fin 128) :
    (outsAt0 m c t.val t.isLt).1 (ix2 p ⟨h.val * 128 + e.val, by omega⟩)
      = ROT (fun e => PROD (m ((c : Thread nD τ).loc main_arg0)) (m ((c : Thread nD τ).loc main_arg1)) (row t p)
          ⟨t.val % 10 * 512 + (h.val * 128 + e.val), by omega⟩) (ANG (row t p)) e := by
  by_cases h0 : t.val % 10 = 0
  · exact (out_A m c t h0 h p e).trans (rot_pt m c t h p e)
  · exact (out_B m c t h0 h1 h p e).trans (rot_pt m c t h p e)

/-- A rotation depends on its head and lane. -/
theorem rot_congr (P Q : Fin 128 → EReal) (A : Fin 64 → EReal) (e e' : Fin 128) (hP : P = Q) (he : e = e') : ROT P A e = ROT Q A e' := by
  subst hP he; rfl

/-- What a point stores is the reference's value. -/
theorem point (c : Dev nD) (t : Fin cfg0.N) (p : Fin 1024) (j : Fin 512) :
    (outsAt0 m c t.val t.isLt).1 (ix2 p j)
      = VAL (m ((c : Thread nD τ).loc main_arg0)) (m ((c : Thread nD τ).loc main_arg1)) (m ((c : Thread nD τ).loc main_arg2))
          (m ((c : Thread nD τ).loc main_arg3)) (row t p) (col t j) := by
  have h9 : t.val % 10 < 10 := Nat.mod_lt _ (by decide)
  have hcol : (col t j).val = t.val % 10 * 512 + j.val := rfl
  have hjl := j.isLt
  obtain ⟨h, e, hj⟩ : ∃ (h : Fin 4) (e : Fin 128), j = ⟨h.val * 128 + e.val, by omega⟩ :=
    ⟨⟨j.val / 128, by omega⟩, ⟨j.val % 128, by omega⟩, Fin.ext (by show j.val = j.val / 128 * 128 + j.val % 128; omega)⟩
  have hv : j.val = h.val * 128 + e.val := congrArg Fin.val hj
  have hel := e.isLt
  unfold VAL
  by_cases h1 : t.val % 10 ≤ 1
  · rw [dif_pos (show (col t j).val < 1024 by omega)]
    refine (congrArg (fun j => (outsAt0 m c t.val t.isLt).1 (ix2 p j)) hj).trans ((out_AB m c t h1 h p e).trans
      (rot_congr _ _ _ _ _ (funext fun e' => congrArg (PROD _ _ _) (Fin.ext ?_)) (Fin.ext ?_)))
    · show t.val % 10 * 512 + (h.val * 128 + e'.val) = (col t j).val / 128 * 128 + e'.val; omega
    · show e.val = (col t j).val % 128; omega
  rw [dif_neg (show ¬(col t j).val < 1024 by omega)]
  by_cases h2 : t.val % 10 ≤ 3
  · rw [dif_pos (show (col t j).val - 1024 < 1024 by omega)]
    refine (congrArg (fun j => (outsAt0 m c t.val t.isLt).1 (ix2 p j)) hj).trans ((out_C m c t h1 h2 h p e).trans
      (congrArg (· * _) ((rot_pt m c t h p e).trans
        (rot_congr _ _ _ _ _ (funext fun e' => congrArg (PROD _ _ _) (Fin.ext ?_)) (Fin.ext ?_)))))
    · show t.val % 10 * 512 + (h.val * 128 + e'.val) = 1024 + (((col t j).val - 1024) / 128 * 128 + e'.val); omega
    · show e.val = ((col t j).val - 1024) % 128; omega
  rw [dif_neg (show ¬(col t j).val - 1024 < 1024 by omega)]
  by_cases h3 : t.val % 10 ≤ 7
  · refine (congrFun (out_D m c t h2 h3) _).trans ?_
    by_cases h4 : t.val % 10 ≤ 5
    · rw [dif_pos (show (col t j).val - 1024 - 1024 < 1024 by omega)]
      exact acc_eq m c t p j _ (by show 2048 + ((col t j).val - 1024 - 1024) = _; omega)
    · rw [dif_neg (show ¬(col t j).val - 1024 - 1024 < 1024 by omega), dif_pos (show (col t j).val - 1024 - 1024 - 1024 < 1024 by omega)]
      exact acc_eq m c t p j _ (by show 3072 + ((col t j).val - 1024 - 1024 - 1024) = _; omega)
  rw [dif_neg (show ¬(col t j).val - 1024 - 1024 < 1024 by omega), dif_neg (show ¬(col t j).val - 1024 - 1024 - 1024 < 1024 by omega)]
  by_cases h4 : t.val % 10 = 8
  · rw [dif_pos (show (col t j).val - 1024 - 1024 - 1024 - 1024 < 512 by omega)]
    refine (congrFun (out_E m c t h4) _).trans ((rmsq _ _ _ p j).trans
      (rms_congr _ _ _ _ _ _ (funext fun e' => acc_eq m c t p e' _ ?_) (blk_gq m c t j) (Fin.ext ?_)))
    · show 4096 + e'.val = _; omega
    · show j.val = (col t j).val - 1024 - 1024 - 1024 - 1024; omega
  · rw [dif_neg (show ¬(col t j).val - 1024 - 1024 - 1024 - 1024 < 512 by omega)]
    refine (congrFun (out_F m c t (by omega)) _).trans ((rmskv _ _ _ p j).trans
      (rms_congr _ _ _ _ _ _ (funext fun e' => acc_eq m c t p e' _ ?_) (blk_gkv m c t j) (Fin.ext ?_)))
    · show 4608 + e'.val = _; omega
    · show j.val = (col t j).val - 1024 - 1024 - 1024 - 1024 - 512; omega

/-- The result array after the run is the reference's. -/
theorem final (c : Dev nD) : (dats m 0 c).arrAt 6 cfg0.N
    = Cert.Reference4Ideal.Read.val_main_v204 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  have ht := pt_lt t
  obtain ⟨p, j, hy⟩ : ∃ (p : Fin 1024) (j : Fin 512), y = ix2 p j := by
    refine ⟨y 0, y 1, ?_⟩
    funext a
    match a with
    | 0 => rfl
    | 1 => rfl
  rw [show ((cfg0.win 6).blk t).view.emb y = ix2 (row t p) (col t j) by
    rw [hy]
    simp only [row, col]
    blk_ext [idx t]]
  blk_simp
  rw [after0_6, hy, Cert.Reference4Ideal.Ev.ref_val]
  exact point m c t p j

end Cert.Kernel4Ideal.Ev

namespace Cert.Proof

/-- At `Ideal` the even layer's input projection kernel's result and the reference's agree. -/
theorem ev_algebraic : Cert.algebraic_Kernel4Ideal_Reference4Ideal := by
  pair_intro
  · run_from Cert.Kernel4Ideal.Value.run_blocks m g
  · run_from Cert.Reference4Ideal.Value.run m' g'
    refine (Cert.Reference4Ideal.Read.val_main_v204_eq (StableHlo.launchContents m' c)).trans ?_
    rw [Cert.Kernel4Ideal.Ev.final m c]
    obtain ⟨h0, h1, h2, h3⟩ := hagree c
    rw [← h0, ← h1, ← h2, ← h3]

end Cert.Proof

end
-- ==== Proof.Kpe.lean ====
/- The rotary key part's projection: the tiled kernel's result array is the reference's rotated product, padded with zeros. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel5Ideal.Kpe

open Cert.Kernel5Ideal Cert.Kernel5Ideal.Gen Cert.Kernel5Ideal.Value

variable (m : (ℓ : Loc nD τ sig) → Buf (Elt Ideal) ℓ)

/-- The positions of the prompt's rows, then of the sample's. -/
def catPos : (⟨S8192, .i32⟩ : BufTy).Contents (Elt Ideal) → (⟨S1024, .i32⟩ : BufTy).Contents (Elt Ideal) → (⟨S9216, .i32⟩ : BufTy).Contents (Elt Ideal) :=
  fun a b => concatenate S9216 0 [⟨S8192, a⟩, ⟨S1024, b⟩] concatenates_S8192_S1024_S9216_d0

theorem catPos_eq : (fun (a : (⟨S8192, .i32⟩ : BufTy).Contents (Elt Ideal)) (b : (⟨S1024, .i32⟩ : BufTy).Contents (Elt Ideal)) =>
  concatenate S9216 0 [⟨S8192, a⟩, ⟨S1024, b⟩] concatenates_S8192_S1024_S9216_d0) = catPos := rfl

/-- A table: two half tables and the padding lanes. -/
def catTab (a b : FVec Ideal S9216x32 .f32) (z : FVec Ideal S9216x64 .f32) : FVec Ideal S9216x128 .f32 :=
  concatenate S9216x128 1 [⟨S9216x32, a⟩, ⟨S9216x32, b⟩, ⟨S9216x64, z⟩] concatenates_S9216x32_S9216x32_S9216x64_S9216x128_d1

/-- A weight's halves side by side. -/
def catHalf (a b : (⟨S2048x32, .f32⟩ : BufTy).Contents (Elt Ideal)) : (⟨S2048x64, .f32⟩ : BufTy).Contents (Elt Ideal) :=
  concatenate S2048x64 1 [⟨S2048x32, a⟩, ⟨S2048x32, b⟩] concatenates_S2048x32_S2048x32_S2048x64_d1

/-- The weight beside its swapped halves. -/
def catW (a b : (⟨S2048x64, .f32⟩ : BufTy).Contents (Elt Ideal)) : (⟨S2048x128, .f32⟩ : BufTy).Contents (Elt Ideal) :=
  concatenate S2048x128 1 [⟨S2048x64, a⟩, ⟨S2048x64, b⟩] concatenates_S2048x64_S2048x64_S2048x128_d1

theorem catHalf_eq : (fun (a b : (⟨S2048x32, .f32⟩ : BufTy).Contents (Elt Ideal)) =>
  concatenate S2048x64 1 [⟨S2048x32, a⟩, ⟨S2048x32, b⟩] concatenates_S2048x32_S2048x32_S2048x64_d1) = catHalf := rfl
theorem catW_eq : (fun (a b : (⟨S2048x64, .f32⟩ : BufTy).Contents (Elt Ideal)) =>
  concatenate S2048x128 1 [⟨S2048x64, a⟩, ⟨S2048x64, b⟩] concatenates_S2048x64_S2048x64_S2048x128_d1) = catW := rfl

theorem catCos_eq : (fun u : (i : Fin 3) → (![main_v42, main_v42, main_v44] i).ty.Contents (Elt Ideal) =>
  (concatenate S9216x128 1 [⟨S9216x32, (u 0 : (⟨S9216x32, .f32⟩ : BufTy).Contents (Elt Ideal))⟩, ⟨S9216x32, (u 1 : (⟨S9216x32, .f32⟩ : BufTy).Contents (Elt Ideal))⟩, ⟨S9216x64, (u 2 : (⟨S9216x64, .f32⟩ : BufTy).Contents (Elt Ideal))⟩] concatenates_S9216x32_S9216x32_S9216x64_S9216x128_d1 : (⟨S9216x128, .f32⟩ : BufTy).Contents (Elt Ideal))) = fun u => catTab (u 0) (u 1) (u 2) := rfl
theorem catSin_eq : (fun u : (i : Fin 3) → (![main_v46, main_v43, main_v44] i).ty.Contents (Elt Ideal) =>
  (concatenate S9216x128 1 [⟨S9216x32, (u 0 : (⟨S9216x32, .f32⟩ : BufTy).Contents (Elt Ideal))⟩, ⟨S9216x32, (u 1 : (⟨S9216x32, .f32⟩ : BufTy).Contents (Elt Ideal))⟩, ⟨S9216x64, (u 2 : (⟨S9216x64, .f32⟩ : BufTy).Contents (Elt Ideal))⟩] concatenates_S9216x32_S9216x32_S9216x64_S9216x128_d1 : (⟨S9216x128, .f32⟩ : BufTy).Contents (Elt Ideal))) = fun u => catTab (u 0) (u 1) (u 2) := rfl

/-- A row's position: the prompt's rows count through each sequence, the sample's go on from the cached past. -/
def POS (r : Fin 9216) : BitVec 32 :=
  if r.val < 8192 then BitVec.ofNat 32 (r.val % 4096) else IntOp.addi (8192#32) (BitVec.ofNat 32 ((r.val - 8192) % 8))

/-- The frequencies of the rotary part. -/
def FRQ (e : Fin 32) : EReal :=
  Ideal.div 1 (Ideal.pow (Ideal.ofBits FTy.f32 1176256512#32)
    (Ideal.div (Ideal.ofBits FTy.f32 1073741824#32 * FloatOps.sitofp (F := Ideal) FTy.f32 (BitVec.ofNat 32 e.val))
      (Ideal.ofBits FTy.f32 1115684864#32)))

/-- The angle of a row at a frequency. -/
def ANG (r : Fin 9216) (e : Fin 32) : EReal := FloatOps.sitofp (F := Ideal) FTy.f32 (POS r) * FRQ e

/-- The product of a row with a column of the layer's weight. -/
def PROD (X : FVec Ideal S9216x2048 .f32) (Wt : FVec Ideal S1x2048x5184 .f32) (r : Fin 9216) (q : Fin 5184) : EReal :=
  ∑ k : Fin 2048, X (ix2 r k) * Wt (ix3 0 k q)

/-! ## The tables the host computes -/

theorem tab_w (c : Dev nD) (r : Fin 2048) (e : Fin 128) : (V m c main_v54 : FVec Ideal S2048x128 .bf16) (ix2 r e)
    = if h : e.val < 64 then (m ((c : Thread nD τ).loc main_arg1) : FVec Ideal S1x2048x5184 .f32) (ix3 0 r ⟨5120 + e.val, by omega⟩)
      else if h1 : e.val - 64 < 32 then
        (m ((c : Thread nD τ).loc main_arg1) : FVec Ideal S1x2048x5184 .f32) (ix3 0 r ⟨5120 + (32 + (e.val - 64)), by omega⟩)
      else (m ((c : Thread nD τ).loc main_arg1) : FVec Ideal S1x2048x5184 .f32) (ix3 0 r ⟨5120 + (e.val - 64 - 32), by omega⟩) := by
  simp only [V, hostOps0, hostOps0_1, hostOps0_2, List.flatten_cons, List.flatten_nil, List.append_nil, List.cons_append,
    List.nil_append, catHalf_eq, catW_eq]
  after_reads_simp
  pointwise [catHalf, catW]

theorem tab_cos (c : Dev nD) (r : Fin 9216) (e : Fin 128) : (V m c main_v45 : FVec Ideal S9216x128 .f32) (ix2 r e)
    = if h : e.val < 32 then Ideal.cos (ANG r ⟨e.val, h⟩)
      else if h : e.val - 32 < 32 then Ideal.cos (ANG r ⟨e.val - 32, h⟩) else 0 := by
  simp only [V, hostOps0, hostOps0_1, hostOps0_2, List.flatten_cons, List.flatten_nil, List.append_nil, List.cons_append,
    List.nil_append, catPos_eq, catCos_eq]
  after_reads_simp
  dsimp only [Matrix.cons_val_zero, Matrix.cons_val_one, Matrix.cons_val]
  after_reads_simp
  pointwise [catPos, catTab, ANG, POS, FRQ]
  rfl

theorem tab_sin (c : Dev nD) (r : Fin 9216) (e : Fin 128) : (V m c main_v47 : FVec Ideal S9216x128 .f32) (ix2 r e)
    = if h : e.val < 32 then -Ideal.sin (ANG r ⟨e.val, h⟩)
      else if h : e.val - 32 < 32 then Ideal.sin (ANG r ⟨e.val - 32, h⟩) else 0 := by
  simp only [V, hostOps0, hostOps0_1, hostOps0_2, List.flatten_cons, List.flatten_nil, List.append_nil, List.cons_append,
    List.nil_append, catPos_eq, catSin_eq]
  after_reads_simp
  dsimp only [Matrix.cons_val_zero, Matrix.cons_val_one, Matrix.cons_val]
  after_reads_simp
  pointwise [catPos, catTab, ANG, POS, FRQ]
  rfl

/-! ## The reference -/

section Ref
open Cert.Reference5Ideal.Read

/-- The prompt's angles. -/
theorem ang_prompt (r : Fin 9216) (h : r.val < 8192) (e : Fin 32) :
    val_main_v24 (F := Ideal) (ix2 ⟨r.val % 4096, by omega⟩ e) = ANG r e := by
  pointwise [val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v4, val_main_cst, val_main_cst_0, val_main_cst_1, val_main_cst_2,
    val_main_cst_3]
  simp only [ANG, POS, FRQ, if_pos h]

/-- The sample's angles at a place of a sequence. -/
theorem ang_place (u : Fin 8) (e : Fin 32) : val_main_v67 (F := Ideal) (ix2 u e)
    = FloatOps.sitofp (F := Ideal) FTy.f32 (IntOp.addi (8192#32) (BitVec.ofNat 32 u.val)) * FRQ e := by
  pointwise [val_main_v67, val_main_v66, val_main_v65, val_main_v64,
    val_main_v63, val_main_v62, val_main_v61, val_main_v60, val_main_v59, val_main_v58, val_main_v57, val_main_v56, val_main_v55,
    val_main_v54, val_main_v53, val_main_v52, val_main_v51, val_main_v47, val_main_v46, val_main_c, val_main_v45, val_main_cst_4,
    val_main_cst_5, val_main_cst_6, val_main_cst_7, val_main_cst_8, FRQ]

/-- The sample's angles. -/
theorem ang_sample (r : Fin 9216) (h : ¬r.val < 8192) (e : Fin 32) :
    val_main_v67 (F := Ideal) (ix2 ⟨(r.val - 8192) % 8, by omega⟩ e) = ANG r e := by
  rw [ang_place, ANG, POS, if_neg h]

/-- The prompt's rotated product. -/
theorem ref_prompt (X : FVec Ideal S9216x2048 .f32) (Wt : FVec Ideal S1x2048x5184 .f32) (r : Fin 9216) (h : r.val < 8192) (e : Fin 64) :
    val_main_v43 (F := Ideal) X Wt (ix3 ⟨r.val / 4096, by omega⟩ ⟨r.val % 4096, by omega⟩ e)
      = if h : e.val < 32 then PROD X Wt r ⟨5120 + e.val, by omega⟩ * Ideal.cos (ANG r ⟨e.val, h⟩)
            - PROD X Wt r ⟨5120 + (32 + e.val), by omega⟩ * Ideal.sin (ANG r ⟨e.val, h⟩)
        else PROD X Wt r ⟨5120 + (e.val - 32), by omega⟩ * Ideal.sin (ANG r ⟨e.val - 32, by omega⟩)
            + PROD X Wt r ⟨5120 + (32 + (e.val - 32)), by omega⟩ * Ideal.cos (ANG r ⟨e.val - 32, by omega⟩) := by
  have hr : (⟨r.val / 4096 * 4096 + r.val % 4096, by omega⟩ : Fin 9216) = r := Fin.ext (by show r.val / 4096 * 4096 + r.val % 4096 = r.val; omega)
  pointwise [val_main_v43, val_main_v42, val_main_v41, val_main_v38, val_main_v35, val_main_v34, val_main_v31, val_main_v28, val_main_v27,
    val_main_v7, val_main_v6, val_main_v5, val_main_v1, val_main_v0, val_main_v30, val_main_v33, val_main_v37, val_main_v40, val_main_v29,
    val_main_v32, val_main_v36, val_main_v39, val_main_v26, val_main_v25]
  simp only [ang_prompt r h, PROD, hr]

/-- The sample's rows of the product. -/
theorem prod_sample (X : FVec Ideal S9216x2048 .f32) (Wt : FVec Ideal S1x2048x5184 .f32) (b : Fin 128) (u : Fin 8) (q : Fin 5184)
    (r : Fin 9216) (hr : 8192 + (b.val * 8 + u.val) = r.val) : val_main_v49 (F := Ideal) X Wt (ix3 b u q) = PROD X Wt r q := by
  have hr : (⟨8192 + (b.val * 8 + u.val), by omega⟩ : Fin 9216) = r := Fin.ext hr
  pointwise [val_main_v49, val_main_v48, val_main_v3, val_main_v2]
  simp only [PROD, hr]

/-- The sample's rotated product. -/
theorem ref_sample (X : FVec Ideal S9216x2048 .f32) (Wt : FVec Ideal S1x2048x5184 .f32) (r : Fin 9216) (h : ¬r.val < 8192) (e : Fin 64) :
    val_main_v86 (F := Ideal) X Wt (ix3 ⟨(r.val - 8192) / 8, by omega⟩ ⟨(r.val - 8192) % 8, by omega⟩ e)
      = if h : e.val < 32 then PROD X Wt r ⟨5120 + e.val, by omega⟩ * Ideal.cos (ANG r ⟨e.val, h⟩)
            - PROD X Wt r ⟨5120 + (32 + e.val), by omega⟩ * Ideal.sin (ANG r ⟨e.val, h⟩)
        else PROD X Wt r ⟨5120 + (e.val - 32), by omega⟩ * Ideal.sin (ANG r ⟨e.val - 32, by omega⟩)
            + PROD X Wt r ⟨5120 + (32 + (e.val - 32)), by omega⟩ * Ideal.cos (ANG r ⟨e.val - 32, by omega⟩) := by
  have hr : 8192 + ((r.val - 8192) / 8 * 8 + (r.val - 8192) % 8) = r.val := by omega
  generalize hb : (⟨(r.val - 8192) / 8, by omega⟩ : Fin 128) = b
  generalize hu : (⟨(r.val - 8192) % 8, by omega⟩ : Fin 8) = u
  have hA : ∀ e, val_main_v67 (F := Ideal) (ix2 u e) = ANG r e := fun e => by rw [← hu]; exact ang_sample r h e
  have hr' : 8192 + (b.val * 8 + u.val) = r.val := by rw [← hb, ← hu]; exact hr
  have hP : ∀ q, val_main_v49 (F := Ideal) X Wt (ix3 b u q) = PROD X Wt r q := fun q => prod_sample X Wt b u q r hr'
  clear hb hu hr hr'
  pointwise [val_main_v86, val_main_v85, val_main_v84, val_main_v81, val_main_v78, val_main_v77, val_main_v74, val_main_v71, val_main_v70,
    val_main_v50, val_main_v73, val_main_v76, val_main_v80, val_main_v83, val_main_v72,
    val_main_v75, val_main_v79, val_main_v82, val_main_v69, val_main_v68]
  simp only [hA, hP]

/-- The reference's array by row and lane. -/
theorem ref_val (X : FVec Ideal S9216x2048 .f32) (Wt : FVec Ideal S1x2048x5184 .f32) (r : Fin 9216) (e : Fin 128) :
    val_main_v90 (F := Ideal) X Wt (ix2 r e)
      = if h : e.val < 64 then
          if h : e.val < 32 then PROD X Wt r ⟨5120 + e.val, by omega⟩ * Ideal.cos (ANG r ⟨e.val, h⟩)
            - PROD X Wt r ⟨5120 + (32 + e.val), by omega⟩ * Ideal.sin (ANG r ⟨e.val, h⟩)
          else PROD X Wt r ⟨5120 + (e.val - 32), by omega⟩ * Ideal.sin (ANG r ⟨e.val - 32, by omega⟩)
            + PROD X Wt r ⟨5120 + (32 + (e.val - 32)), by omega⟩ * Ideal.cos (ANG r ⟨e.val - 32, by omega⟩)
        else 0 := by
  pointwise [val_main_v90, val_main_v88, val_main_v44, val_main_v87, val_main_v89, val_main_cst_9]
  by_cases he : e.val < 64
  · rw [dif_pos he, dif_pos he]
    by_cases hr : r.val < 8192
    · rw [dif_pos hr]
      exact ref_prompt X Wt r hr ⟨e.val, he⟩
    · rw [dif_neg hr]
      exact ref_sample X Wt r hr ⟨e.val, he⟩
  · rw [dif_neg he, dif_neg he]

end Ref

/-! ## The kernel -/

/-- The blocks' positions at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem pt_lt (t : Fin cfg0.N) : t.val < 18 := t.isLt

/-- The row of the array that a point's block row is. -/
abbrev row (t : Fin cfg0.N) (p : Fin 512) : Fin 9216 := ⟨t.val * 512 + p.val, by have := pt_lt t; omega⟩

theorem blk_x (c : Dev nD) (t : Fin cfg0.N) (p : Fin 512) (k : Fin 2048) : (iblk m c 0 t : FVec Ideal S512x2048 .f32) (ix2 p k)
    = (m ((c : Thread nD τ).loc main_arg0) : FVec Ideal S9216x2048 .f32) (ix2 (row t p) k) := by
  have := pt_lt t
  simp only [row]
  blk_point [iblk, V, idx t]

theorem blk_w (c : Dev nD) (t : Fin cfg0.N) (k : Fin 2048) (e : Fin 128) : (iblk m c 1 t : FVec Ideal S2048x128 .bf16) (ix2 k e)
    = (V m c main_v54 : FVec Ideal S2048x128 .bf16) (ix2 k e) := by
  blk_point [iblk, idx t]

theorem blk_cos (c : Dev nD) (t : Fin cfg0.N) (p : Fin 512) (e : Fin 128) : (iblk m c 2 t : FVec Ideal S512x128 .f32) (ix2 p e)
    = (V m c main_v45 : FVec Ideal S9216x128 .f32) (ix2 (row t p) e) := by
  have := pt_lt t
  simp only [row]
  blk_point [iblk, idx t]

theorem blk_sin (c : Dev nD) (t : Fin cfg0.N) (p : Fin 512) (e : Fin 128) : (iblk m c 3 t : FVec Ideal S512x128 .f32) (ix2 p e)
    = (V m c main_v47 : FVec Ideal S9216x128 .f32) (ix2 (row t p) e) := by
  have := pt_lt t
  simp only [row]
  blk_point [iblk, idx t]

/-- What a point stores, over its blocks. -/
theorem out (x0 : Vec Ideal S512x2048 .f32) (x1 : Vec Ideal S2048x128 .bf16) (x2 x3 : Vec Ideal S512x128 .f32) (p : Fin 512) (e : Fin 128) :
    out0_4 (F := Ideal) x0 x1 x2 x3 (ix2 p e)
      = (∑ k : Fin 2048, x0 (ix2 p k) * x1 (ix2 k e)) * x2 (ix2 p e)
        + (∑ k : Fin 2048, x0 (ix2 p k) * x1 (ix2 k ⟨(e.val + 128 - 64) % 128, by omega⟩)) * x3 (ix2 p e) := by
  frame_out
  pointwise [k0_pay1]

/-- A block's product is a column of the reference's, given which column of the layer's weight the block's column is. -/
theorem prod_eq (c : Dev nD) (t : Fin cfg0.N) (p : Fin 512) (e : Fin 128) (q : Fin 5184)
    (h : ∀ k : Fin 2048, (V m c main_v54 : FVec Ideal S2048x128 .bf16) (ix2 k e)
      = (m ((c : Thread nD τ).loc main_arg1) : FVec Ideal S1x2048x5184 .f32) (ix3 0 k q)) :
    ∑ k : Fin 2048, (show EReal from iblk m c 0 t (ix2 p k)) * (show EReal from iblk m c 1 t (ix2 k e))
      = PROD (m ((c : Thread nD τ).loc main_arg0)) (m ((c : Thread nD τ).loc main_arg1)) (row t p) q :=
  Finset.sum_congr rfl fun k _ => congrArg₂ (· * ·) (blk_x m c t p k) ((blk_w m c t k e).trans (h k))

/-- The weight's column at a lane below 64. -/
theorem col (c : Dev nD) (e : Fin 128) (q : Fin 5184) (h : e.val < 64) (hq : q.val = 5120 + e.val) (k : Fin 2048) :
    (V m c main_v54 : FVec Ideal S2048x128 .bf16) (ix2 k e)
      = (m ((c : Thread nD τ).loc main_arg1) : FVec Ideal S1x2048x5184 .f32) (ix3 0 k q) := by
  have e1 : q = ⟨5120 + e.val, by omega⟩ := Fin.ext hq
  rw [tab_w, dif_pos h, e1]

/-- The weight's column at the first lanes of the swapped halves. -/
theorem col_lo (c : Dev nD) (e : Fin 128) (q : Fin 5184) (h0 : 64 ≤ e.val) (h : e.val < 96) (hq : q.val + 32 = 5120 + e.val) (k : Fin 2048) :
    (V m c main_v54 : FVec Ideal S2048x128 .bf16) (ix2 k e)
      = (m ((c : Thread nD τ).loc main_arg1) : FVec Ideal S1x2048x5184 .f32) (ix3 0 k q) := by
  have e1 : q = ⟨5120 + (32 + (e.val - 64)), by omega⟩ := Fin.ext (by show q.val = 5120 + (32 + (e.val - 64)); omega)
  rw [tab_w, dif_neg (by omega), dif_pos (by omega)]
  exact congrArg _ (congrArg (ix3 0 k) e1.symm)

/-- The weight's column at the last lanes of the swapped halves. -/
theorem col_hi (c : Dev nD) (e : Fin 128) (q : Fin 5184) (h : 96 ≤ e.val) (hq : q.val + 96 = 5120 + e.val) (k : Fin 2048) :
    (V m c main_v54 : FVec Ideal S2048x128 .bf16) (ix2 k e)
      = (m ((c : Thread nD τ).loc main_arg1) : FVec Ideal S1x2048x5184 .f32) (ix3 0 k q) := by
  have e1 : q = ⟨5120 + (e.val - 64 - 32), by omega⟩ := Fin.ext (by show q.val = 5120 + (e.val - 64 - 32); omega)
  rw [tab_w, dif_neg (by omega), dif_neg (by omega)]
  exact congrArg _ (congrArg (ix3 0 k) e1.symm)

/-- What a point stores is the reference's value. -/
theorem point (c : Dev nD) (t : Fin cfg0.N) (p : Fin 512) (e : Fin 128) :
    out0_4 (F := Ideal) (iblk m c 0 t) (iblk m c 1 t) (iblk m c 2 t) (iblk m c 3 t) (ix2 p e)
      = Cert.Reference5Ideal.Read.val_main_v90 (F := Ideal) (m ((c : Thread nD τ).loc main_arg0)) (m ((c : Thread nD τ).loc main_arg1))
          (ix2 (row t p) e) := by
  rw [ref_val]
  refine (out _ _ _ _ p e).trans ?_
  by_cases h1 : e.val < 32
  · rw [dif_pos (show e.val < 64 by omega), dif_pos h1]
    refine (congrArg₂ (· + ·)
      (congrArg₂ (· * ·) (prod_eq m c t p e ⟨5120 + e.val, by omega⟩ (col m c e _ (by omega) rfl)) ((blk_cos m c t p e).trans ((tab_cos m c (row t p) e).trans (dif_pos h1))))
      (congrArg₂ (· * ·) (prod_eq m c t p ⟨(e.val + 128 - 64) % 128, by omega⟩ ⟨5120 + (32 + e.val), by omega⟩
          (col_lo m c _ _ (by show 64 ≤ (e.val + 128 - 64) % 128; omega) (by show (e.val + 128 - 64) % 128 < 96; omega)
            (by show 5120 + (32 + e.val) + 32 = 5120 + (e.val + 128 - 64) % 128; omega)))
        ((blk_sin m c t p e).trans ((tab_sin m c (row t p) e).trans (dif_pos h1))))).trans ?_
    rw [sub_eq_add_neg]
    exact congrArg (_ + ·) (mul_neg (α := EReal) _ _)
  · by_cases h2 : e.val < 64
    · rw [dif_pos h2, dif_neg h1]
      have h5 : e.val - 32 < 32 := by omega
      refine (congrArg₂ (· + ·)
        (congrArg₂ (· * ·) (prod_eq m c t p e ⟨5120 + (32 + (e.val - 32)), by omega⟩ (col m c e _ h2 (by show 5120 + (32 + (e.val - 32)) = 5120 + e.val; omega)))
          ((blk_cos m c t p e).trans ((tab_cos m c (row t p) e).trans ((dif_neg h1).trans (dif_pos h5)))))
        (congrArg₂ (· * ·) (prod_eq m c t p ⟨(e.val + 128 - 64) % 128, by omega⟩ ⟨5120 + (e.val - 32), by omega⟩
            (col_hi m c _ _ (by show 96 ≤ (e.val + 128 - 64) % 128; omega)
              (by show 5120 + (e.val - 32) + 96 = 5120 + (e.val + 128 - 64) % 128; omega)))
          ((blk_sin m c t p e).trans ((tab_sin m c (row t p) e).trans ((dif_neg h1).trans (dif_pos h5)))))).trans ?_
      exact add_comm _ _
    · rw [dif_neg h2]
      have h5 : ¬e.val - 32 < 32 := by omega
      refine (congrArg₂ (· + ·)
        (congrArg (_ * ·) ((blk_cos m c t p e).trans ((tab_cos m c (row t p) e).trans ((dif_neg h1).trans (dif_neg h5)))))
        (congrArg (_ * ·) ((blk_sin m c t p e).trans ((tab_sin m c (row t p) e).trans ((dif_neg h1).trans (dif_neg h5)))))).trans ?_
      show _ * (0 : EReal) + _ * (0 : EReal) = 0
      rw [mul_zero, mul_zero, add_zero]

/-- The result array after the run is the reference's. -/
theorem final (c : Dev nD) : (dats m 0 c).arrAt 4 cfg0.N
    = Cert.Reference5Ideal.Read.val_main_v90 (F := Ideal) (m ((c : Thread nD τ).loc main_arg0)) (m ((c : Thread nD τ).loc main_arg1)) := by
  refine (dats m 0 c).arrAt_eq_of_covers 4 _ (by decide +kernel) fun t hf y => ?_
  have ht := pt_lt t
  obtain ⟨p, e, hy⟩ : ∃ (p : Fin 512) (e : Fin 128), y = ix2 p e := by
    refine ⟨y 0, y 1, ?_⟩
    funext a
    match a with
    | 0 => rfl
    | 1 => rfl
  rw [show ((cfg0.win 4).blk t).view.emb y = ix2 (row t p) e by
    rw [hy]
    simp only [row]
    blk_ext [idx t]]
  blk_simp
  rw [after0_4, hy]
  exact point m c t p e

end Cert.Kernel5Ideal.Kpe

namespace Cert.Proof

/-- At `Ideal` the rotary key part's kernel result and the reference's agree. -/
theorem kpe_algebraic : Cert.algebraic_Kernel5Ideal_Reference5Ideal := by
  pair_intro
  · run_from Cert.Kernel5Ideal.Value.run_blocks m g
  · run_from Cert.Reference5Ideal.Value.run m' g'
    rw [Cert.Reference5Ideal.Read.val_main_v90_eq m' c, Cert.Kernel5Ideal.Kpe.final m c]
    obtain ⟨h0, h1⟩ := hagree c
    rw [h0, h1]

end Cert.Proof

end
-- ==== Proof.OutOdd.lean ====
/- The output projection after the stick-breaking attention, with its residual and LayerNorm: the tiled kernel picks the
   prompt's or the sample's block of the attention output by the row block's number; the reference joins the two products. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel7Ideal.Out

open Cert.Kernel7Ideal Cert.Kernel7Ideal.Gen Cert.Kernel7Ideal.Value
open Cert.Reference7Ideal.Read

variable (m : (ℓ : Loc nD τ sig) → Buf (Elt Ideal) ℓ)

/-- The LayerNorm of a row at one lane, with its gain and bias there. -/
def NORM (y : Fin 2048 → EReal) (e : Fin 2048) (g b : EReal) : EReal :=
  (y e - Ideal.div (∑ x : Fin 2048, y x) (Ideal.ofBits FTy.f32 0x45000000#32))
      * Ideal.rsqrt (Ideal.div (∑ x : Fin 2048, (y x - Ideal.div (∑ z : Fin 2048, y z) (Ideal.ofBits FTy.f32 0x45000000#32))
          * (y x - Ideal.div (∑ z : Fin 2048, y z) (Ideal.ofBits FTy.f32 0x45000000#32))) (Ideal.ofBits FTy.f32 0x45000000#32)
        + Ideal.ofBits FTy.f32 0x3727C5AC#32) * g + b

/-- The number of a row block below 16 means a prompt block. -/
theorem is_prompt : ∀ n : Fin 18, (Scalar.cmpi .slt (BitVec.ofNat 32 n.val) 16#32 = 1#1) ↔ n.val < 16 := by
  decide

/-- The choice between a prompt's block and a sample's. -/
theorem pick {α : Type} (n : Fin 18) (i : ℕ) (hi : i = n.val) (p s : α) :
    Scalar.select (Scalar.cmpi .slt (BitVec.ofNat 32 i) 16#32) p s = if n.val < 16 then p else s := by
  subst hi
  unfold Scalar.select
  by_cases h : n.val < 16
  · rw [if_pos h]; exact if_pos ((is_prompt n).mpr h)
  · rw [if_neg h]; exact if_neg (fun h' => h ((is_prompt n).mp h'))

/-- What a point stores, when the block it picks is `a`. -/
theorem out (i : grid0.Coords) (p s a : FVec Ideal S512x2048 .f32) (w : FVec Ideal S2048x2048 .bf16) (x : FVec Ideal S512x2048 .f32)
    (g b : FVec Ideal S1x2048 .f32) (h : Scalar.select (Scalar.cmpi .slt (BitVec.ofNat 32 (i 0).val) 16#32) p s = a) (r : Fin 512) (e : Fin 2048) :
    out0_6 (F := Ideal) i p s w x g b (ix2 r e)
      = NORM (fun y => Ideal.ofBits FTy.f32 0x3FB504F3#32 * x (ix2 r y) + ∑ k : Fin 2048, a (ix2 r k) * w (ix2 k y)) e (g (ix2 0 e)) (b (ix2 0 e)) := by
  frame_out
  unfold k0_pay1
  simp only [h]
  pointwise [NORM]

/-- The reference's result at an index. -/
theorem ref_val (x0 : FVec Ideal S8192x2048 .f32) (x1 : FVec Ideal S1024x2048 .f32) (x2 : FVec Ideal S9216x2048 .f32)
    (x3 : FVec Ideal S1x2048x2048 .f32) (x4 x5 : FVec Ideal S2x3x2048 .f32) (r : Fin 9216) (e : Fin 2048) :
    val_main_v35 (F := Ideal) x0 x1 x2 x3 x4 x5 (ix2 r e)
      = NORM (fun y => Ideal.ofBits FTy.f32 0x3FB504F3#32 * x2 (ix2 r y) + val_main_v4 (F := Ideal) x0 x1 x3 (ix2 r y)) e
          (x4 (ix3 1 1 e)) (x5 (ix3 1 1 e)) := by
  generalize hv : val_main_v4 (F := Ideal) x0 x1 x3 = v
  pointwise [val_main_v35, val_main_v34, val_main_v33, val_main_v32, val_main_v31, val_main_v30, val_main_v29, val_main_v28, val_main_v27,
    val_main_v26, val_main_v25, val_main_cst_4, val_main_v24, val_main_v23, val_main_v22, val_main_v21, val_main_cst_3, val_main_v20,
    val_main_v19, val_main_cst_2, val_main_v18, val_main_v17, val_main_v16, val_main_v15, val_main_v14, val_main_cst_1, val_main_v13,
    val_main_v12, val_main_cst_0, val_main_v11, val_main_v10, val_main_v9, val_main_v8, val_main_v7, val_main_v6, val_main_v5,
    val_main_cst, NORM, hv]

/-- The reference's product at a row of the prompt. -/
theorem mix_prompt (x0 : FVec Ideal S8192x2048 .f32) (x1 : FVec Ideal S1024x2048 .f32) (x3 : FVec Ideal S1x2048x2048 .f32)
    (r : Fin 9216) (s : Fin 8192) (hr : r.val = s.val) (e : Fin 2048) :
    val_main_v4 (F := Ideal) x0 x1 x3 (ix2 r e) = ∑ k : Fin 2048, x0 (ix2 s k) * x3 (ix3 0 k e) := by
  have hs : r.val < 8192 := by omega
  have es : ∀ h, (⟨r.val, h⟩ : Fin 8192) = s := fun h => Fin.ext hr
  pointwise [val_main_v4, val_main_v3, val_main_v2, val_main_v1, val_main_v0]
  simp only [hs, dite_true, es]

/-- The reference's product at a row of the sample. -/
theorem mix_sample (x0 : FVec Ideal S8192x2048 .f32) (x1 : FVec Ideal S1024x2048 .f32) (x3 : FVec Ideal S1x2048x2048 .f32)
    (r : Fin 9216) (s : Fin 1024) (hr : r.val = 8192 + s.val) (e : Fin 2048) :
    val_main_v4 (F := Ideal) x0 x1 x3 (ix2 r e) = ∑ k : Fin 2048, x1 (ix2 s k) * x3 (ix3 0 k e) := by
  have hs : ¬r.val < 8192 := by omega
  have es : ∀ h, (⟨r.val - 8192, h⟩ : Fin 1024) = s := fun h => Fin.ext (by show r.val - 8192 = s.val; omega)
  pointwise [val_main_v4, val_main_v3, val_main_v2, val_main_v1, val_main_v0]
  simp only [hs, dite_false, es]

/-- The blocks' positions: the prompt's last block stays while the sample's blocks go by, and the sample's first while the prompt's do. -/
theorem idx : ∀ t : Fin cfg0.N, win0_0.index t = ![min t.val 15, 0] ∧ win0_1.index t = ![t.val - 16, 0] ∧ win0_2.index t = ![0, 0]
    ∧ win0_3.index t = ![t.val, 0] ∧ win0_4.index t = ![0, 0] ∧ win0_5.index t = ![0, 0] ∧ win0_6.index t = ![t.val, 0]
    ∧ (grid0.coords t 0).val = t.val :=
  (by decide +kernel : ∀ t : Fin grid0.N, _)

theorem pt_lt (t : Fin cfg0.N) : t.val < 18 := t.isLt

/-- The row of the array that a point's block row is. -/
abbrev row (t : Fin cfg0.N) (r : Fin 512) : Fin 9216 := ⟨t.val * 512 + r.val, by have := pt_lt t; omega⟩

theorem blk_x (c : Dev nD) (t : Fin cfg0.N) (r : Fin 512) (k : Fin 2048) : (iblk m c 3 t : FVec Ideal S512x2048 .f32) (ix2 r k)
    = (m ((c : Thread nD τ).loc main_arg2) : FVec Ideal S9216x2048 .f32) (ix2 (row t r) k) := by
  have := pt_lt t
  simp only [row]
  blk_point [iblk, V, idx t]

theorem blk_w (c : Dev nD) (t : Fin cfg0.N) (k e : Fin 2048) : (iblk m c 2 t : FVec Ideal S2048x2048 .bf16) (ix2 k e)
    = (m ((c : Thread nD τ).loc main_arg3) : FVec Ideal S1x2048x2048 .f32) (ix3 0 k e) := by
  blk_point [iblk, V, idx t]

theorem blk_g (c : Dev nD) (t : Fin cfg0.N) (e : Fin 2048) : (iblk m c 4 t : FVec Ideal S1x2048 .f32) (ix2 0 e)
    = (m ((c : Thread nD τ).loc main_arg4) : FVec Ideal S2x3x2048 .f32) (ix3 1 1 e) := by
  blk_point [iblk, V, idx t]

theorem blk_b (c : Dev nD) (t : Fin cfg0.N) (e : Fin 2048) : (iblk m c 5 t : FVec Ideal S1x2048 .f32) (ix2 0 e)
    = (m ((c : Thread nD τ).loc main_arg5) : FVec Ideal S2x3x2048 .f32) (ix3 1 1 e) := by
  blk_point [iblk, V, idx t]

/-- A point's product, over the block it picks, is the reference's. -/
theorem mix_eq (c : Dev nD) (t : Fin cfg0.N) (a : FVec Ideal S512x2048 .f32)
    (h : Scalar.select (Scalar.cmpi .slt (BitVec.ofNat 32 (grid0.coords t 0).val) 16#32) (iblk m c 0 t) (iblk m c 1 t) = a) (r : Fin 512) (e : Fin 2048) :
    ∑ k : Fin 2048, a (ix2 r k) * (show EReal from iblk m c 2 t (ix2 k e))
      = val_main_v4 (F := Ideal) (m ((c : Thread nD τ).loc main_arg0)) (m ((c : Thread nD τ).loc main_arg1))
          (m ((c : Thread nD τ).loc main_arg3)) (ix2 (row t r) e) := by
  have ht := pt_lt t
  have ha := h.symm.trans (pick ⟨t.val, ht⟩ _ (idx t).2.2.2.2.2.2.2 _ _)
  by_cases hp : t.val < 16
  · refine (Finset.sum_congr rfl fun k _ => congrArg₂ (· * ·) ((congrFun (ha.trans (if_pos hp)) (ix2 r k)).trans ?_) (blk_w m c t k e)).trans
      (mix_prompt _ _ _ (row t r) ⟨t.val * 512 + r.val, by omega⟩ rfl e).symm
    have hm : min t.val 15 = t.val := by omega
    blk_point [iblk, V, idx t, hm]
  · refine (Finset.sum_congr rfl fun k _ => congrArg₂ (· * ·) ((congrFun (ha.trans (if_neg hp)) (ix2 r k)).trans ?_) (blk_w m c t k e)).trans
      (mix_sample _ _ _ (row t r) ⟨(t.val - 16) * 512 + r.val, by omega⟩
        (by show t.val * 512 + r.val = 8192 + ((t.val - 16) * 512 + r.val); omega) e).symm
    blk_point [iblk, V, idx t]

/-- The result array after the run is the reference's. -/
theorem final (c : Dev nD) : (dats m 0 c).arrAt 6 cfg0.N
    = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := pt_lt t
  obtain ⟨r, e, hy⟩ : ∃ (r : Fin 512) (e : Fin 2048), y = ix2 r e := by
    refine ⟨y 0, y 1, ?_⟩
    funext a
    match a with
    | 0 => rfl
    | 1 => rfl
  rw [show ((cfg0.win 6).blk t).view.emb y = ix2 (row t r) e by
    rw [hy]
    simp only [row]
    blk_ext [idx t]]
  blk_simp
  rw [after0_6, hy, ref_val]
  refine (out _ _ _ _ _ _ _ _ rfl r e).trans ?_
  rw [blk_g, blk_b]
  refine congrArg (fun f => NORM f e _ _) (funext fun y => congrArg₂ (· + ·) (congrArg (_ * ·) (blk_x m c t r y)) ?_)
  exact mix_eq m c t _ rfl r y

end Cert.Kernel7Ideal.Out

namespace Cert.Proof

/-- At `Ideal` the odd layer's output projection and the reference's agree. -/
theorem out_odd_algebraic : Cert.algebraic_Kernel7Ideal_Reference7Ideal := by
  pair_intro
  · run_from Cert.Kernel7Ideal.Value.run_blocks m g
  · run_from Cert.Reference7Ideal.Value.run m' g'
    rw [Cert.Reference7Ideal.Read.val_main_v35_eq m' c, Cert.Kernel7Ideal.Out.final m c]
    obtain ⟨h0, h1, h2, h3, h4, h5⟩ := hagree c
    rw [h0, h1, h2, h3, h4, h5]

end Cert.Proof

end
-- ==== Proof.OutEven.lean ====
/- The output projection after the retention and the latent attention, with its residual and LayerNorm: the kernel adds
   the products of the two halves of the weights; the reference lays the two inputs side by side and takes one product. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.OutOdd
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Kernel8Ideal.Out

open Cert.Kernel8Ideal Cert.Kernel8Ideal.Gen Cert.Kernel8Ideal.Value
open Cert.Reference8Ideal.Read
open Cert.Kernel7Ideal.Out (NORM pick)

variable (m : (ℓ : Loc nD τ sig) → Buf (Elt Ideal) ℓ)

/-- What a point stores, when the blocks it picks are `a` and `b`. -/
theorem out (i : grid0.Coords) (p q s u a b : FVec Ideal S512x1024 .f32) (w z : FVec Ideal S1024x2048 .bf16) (x : FVec Ideal S512x2048 .f32)
    (gg bb : FVec Ideal S1x2048 .f32) (h : Scalar.select (Scalar.cmpi .slt (BitVec.ofNat 32 (i 0).val) 16#32) p s = a)
    (l : Scalar.select (Scalar.cmpi .slt (BitVec.ofNat 32 (i 0).val) 16#32) q u = b) (r : Fin 512) (e : Fin 2048) :
    out0_9 (F := Ideal) i p q s u w z x gg bb (ix2 r e)
      = NORM (fun y => Ideal.ofBits FTy.f32 0x3FB504F3#32 * x (ix2 r y)
            + (∑ k : Fin 1024, a (ix2 r k) * w (ix2 k y) + ∑ k : Fin 1024, b (ix2 r k) * z (ix2 k y))) e
          (gg (ix2 0 e)) (bb (ix2 0 e)) := by
  frame_out
  unfold k0_pay1 k0_pay2 k0_pay3 k0_pay5 k0_pay4
  simp only [h, l]
  pointwise [NORM]

/-- The reference's result at an index. -/
theorem ref_val (x0 : FVec Ideal S8192x1024 .f32) (x1 : FVec Ideal S1024x1024 .f32) (x2 : FVec Ideal S8192x1024 .f32)
    (x3 : FVec Ideal S1024x1024 .f32) (x4 : FVec Ideal S9216x2048 .f32)
    (x5 : FVec Ideal S1x2048x2048 .f32) (x6 x7 : FVec Ideal S2x3x2048 .f32) (r : Fin 9216) (e : Fin 2048) :
    val_main_v37 (F := Ideal) x0 x1 x2 x3 x4 x5 x6 x7 (ix2 r e)
      = NORM (fun y => Ideal.ofBits FTy.f32 0x3FB504F3#32 * x4 (ix2 r y) + val_main_v8 (F := Ideal) x0 x1 x2 x3 x5 (ix2 r y)) e
          (x6 (ix3 0 1 e)) (x7 (ix3 0 1 e)) := by
  generalize hv : val_main_v8 (F := Ideal) x0 x1 x2 x3 x5 = v
  pointwise [val_main_v37, val_main_v36, val_main_v35, val_main_v34, val_main_v33, val_main_v32, val_main_v31, val_main_v30, val_main_v29,
    val_main_v28, val_main_v27, val_main_cst_4, val_main_v26, val_main_v25, val_main_v24, val_main_v23, val_main_cst_3, val_main_v22,
    val_main_v21, val_main_cst_2, val_main_v20, val_main_v19, val_main_v18, val_main_v17, val_main_v16, val_main_cst_1, val_main_v15,
    val_main_v14, val_main_cst_0, val_main_v13, val_main_v12, val_main_v11, val_main_v10, val_main_v9, val_main_v7, val_main_v6,
    val_main_cst, NORM, hv]

/-- The reference's product at a row of the prompt. -/
theorem mix_prompt (x0 : FVec Ideal S8192x1024 .f32) (x1 : FVec Ideal S1024x1024 .f32) (x2 : FVec Ideal S8192x1024 .f32)
    (x3 : FVec Ideal S1024x1024 .f32) (x5 : FVec Ideal S1x2048x2048 .f32)
    (r : Fin 9216) (s : Fin 8192) (hr : r.val = s.val) (e : Fin 2048) :
    val_main_v8 (F := Ideal) x0 x1 x2 x3 x5 (ix2 r e)
      = ∑ k : Fin 1024, x0 (ix2 s k) * x5 (ix3 0 ⟨k.val, by omega⟩ e)
        + ∑ k : Fin 1024, x2 (ix2 s k) * x5 (ix3 0 ⟨1024 + k.val, by omega⟩ e) := by
  have hs : r.val < 8192 := by omega
  have es : ∀ h, (⟨r.val, h⟩ : Fin 8192) = s := fun h => Fin.ext hr
  pointwise [val_main_v8, val_main_v5, val_main_v4, val_main_v3, val_main_v2, val_main_v1, val_main_v0]
  simp only [hs, dite_true, es]

/-- The reference's product at a row of the sample. -/
theorem mix_sample (x0 : FVec Ideal S8192x1024 .f32) (x1 : FVec Ideal S1024x1024 .f32) (x2 : FVec Ideal S8192x1024 .f32)
    (x3 : FVec Ideal S1024x1024 .f32) (x5 : FVec Ideal S1x2048x2048 .f32)
    (r : Fin 9216) (s : Fin 1024) (hr : r.val = 8192 + s.val) (e : Fin 2048) :
    val_main_v8 (F := Ideal) x0 x1 x2 x3 x5 (ix2 r e)
      = ∑ k : Fin 1024, x1 (ix2 s k) * x5 (ix3 0 ⟨k.val, by omega⟩ e)
        + ∑ k : Fin 1024, x3 (ix2 s k) * x5 (ix3 0 ⟨1024 + k.val, by omega⟩ e) := by
  have hs : ¬r.val < 8192 := by omega
  have es : ∀ h, (⟨r.val - 8192, h⟩ : Fin 1024) = s := fun h => Fin.ext (by show r.val - 8192 = s.val; omega)
  pointwise [val_main_v8, val_main_v5, val_main_v4, val_main_v3, val_main_v2, val_main_v1, val_main_v0]
  simp only [hs, dite_false, es]

/-- The blocks' positions: the prompt's last block stays while the sample's blocks go by, and the sample's first while the prompt's do. -/
theorem idx : ∀ t : Fin cfg0.N, win0_0.index t = ![min t.val 15, 0] ∧ win0_1.index t = ![min t.val 15, 0] ∧ win0_2.index t = ![t.val - 16, 0]
    ∧ win0_3.index t = ![t.val - 16, 0] ∧ win0_4.index t = ![0, 0] ∧ win0_5.index t = ![0, 0] ∧ win0_6.index t = ![t.val, 0]
    ∧ win0_7.index t = ![0, 0] ∧ win0_8.index t = ![0, 0] ∧ win0_9.index t = ![t.val, 0]
    ∧ (grid0.coords t 0).val = t.val :=
  (by decide +kernel : ∀ t : Fin grid0.N, _)

theorem pt_lt (t : Fin cfg0.N) : t.val < 18 := t.isLt

/-- The row of the array that a point's block row is. -/
abbrev row (t : Fin cfg0.N) (r : Fin 512) : Fin 9216 := ⟨t.val * 512 + r.val, by have := pt_lt t; omega⟩

theorem blk_x (c : Dev nD) (t : Fin cfg0.N) (r : Fin 512) (k : Fin 2048) : (iblk m c 6 t : FVec Ideal S512x2048 .f32) (ix2 r k)
    = (m ((c : Thread nD τ).loc main_arg4) : FVec Ideal S9216x2048 .f32) (ix2 (row t r) k) := by
  have := pt_lt t
  simp only [row]
  blk_point [iblk, V, idx t]

theorem blk_w (c : Dev nD) (t : Fin cfg0.N) (k : Fin 1024) (e : Fin 2048) : (iblk m c 4 t : FVec Ideal S1024x2048 .bf16) (ix2 k e)
    = (m ((c : Thread nD τ).loc main_arg5) : FVec Ideal S1x2048x2048 .f32) (ix3 0 ⟨k.val, by omega⟩ e) := by
  blk_point [iblk, V, idx t]

theorem blk_z (c : Dev nD) (t : Fin cfg0.N) (k : Fin 1024) (e : Fin 2048) : (iblk m c 5 t : FVec Ideal S1024x2048 .bf16) (ix2 k e)
    = (m ((c : Thread nD τ).loc main_arg5) : FVec Ideal S1x2048x2048 .f32) (ix3 0 ⟨1024 + k.val, by omega⟩ e) := by
  blk_point [iblk, V, idx t]

theorem blk_g (c : Dev nD) (t : Fin cfg0.N) (e : Fin 2048) : (iblk m c 7 t : FVec Ideal S1x2048 .f32) (ix2 0 e)
    = (m ((c : Thread nD τ).loc main_arg6) : FVec Ideal S2x3x2048 .f32) (ix3 0 1 e) := by
  blk_point [iblk, V, idx t]

theorem blk_b (c : Dev nD) (t : Fin cfg0.N) (e : Fin 2048) : (iblk m c 8 t : FVec Ideal S1x2048 .f32) (ix2 0 e)
    = (m ((c : Thread nD τ).loc main_arg7) : FVec Ideal S2x3x2048 .f32) (ix3 0 1 e) := by
  blk_point [iblk, V, idx t]

/-- A point's products, over the blocks it picks, are the reference's. -/
theorem mix_eq (c : Dev nD) (t : Fin cfg0.N) (a b : FVec Ideal S512x1024 .f32)
    (h : Scalar.select (Scalar.cmpi .slt (BitVec.ofNat 32 (grid0.coords t 0).val) 16#32) (iblk m c 0 t) (iblk m c 2 t) = a)
    (l : Scalar.select (Scalar.cmpi .slt (BitVec.ofNat 32 (grid0.coords t 0).val) 16#32) (iblk m c 1 t) (iblk m c 3 t) = b)
    (r : Fin 512) (e : Fin 2048) :
    ∑ k : Fin 1024, a (ix2 r k) * (show EReal from iblk m c 4 t (ix2 k e)) + ∑ k : Fin 1024, b (ix2 r k) * (show EReal from iblk m c 5 t (ix2 k e))
      = val_main_v8 (F := Ideal) (m ((c : Thread nD τ).loc main_arg0)) (m ((c : Thread nD τ).loc main_arg1))
          (m ((c : Thread nD τ).loc main_arg2)) (m ((c : Thread nD τ).loc main_arg3))
          (m ((c : Thread nD τ).loc main_arg5)) (ix2 (row t r) e) := by
  have ht := pt_lt t
  have ha := h.symm.trans (pick ⟨t.val, ht⟩ _ (idx t).2.2.2.2.2.2.2.2.2.2 _ _)
  have hb := l.symm.trans (pick ⟨t.val, ht⟩ _ (idx t).2.2.2.2.2.2.2.2.2.2 _ _)
  by_cases hp : t.val < 16
  · have hm : min t.val 15 = t.val := by omega
    refine (congrArg₂ (· + ·)
      (Finset.sum_congr rfl fun k _ => congrArg₂ (· * ·) ((congrFun (ha.trans (if_pos hp)) (ix2 r k)).trans ?_) (blk_w m c t k e))
      (Finset.sum_congr rfl fun k _ => congrArg₂ (· * ·) ((congrFun (hb.trans (if_pos hp)) (ix2 r k)).trans ?_) (blk_z m c t k e))).trans
      (mix_prompt _ _ _ _ _ (row t r) ⟨t.val * 512 + r.val, by omega⟩ rfl e).symm
    all_goals blk_point [iblk, V, idx t, hm]
  · refine (congrArg₂ (· + ·)
      (Finset.sum_congr rfl fun k _ => congrArg₂ (· * ·) ((congrFun (ha.trans (if_neg hp)) (ix2 r k)).trans ?_) (blk_w m c t k e))
      (Finset.sum_congr rfl fun k _ => congrArg₂ (· * ·) ((congrFun (hb.trans (if_neg hp)) (ix2 r k)).trans ?_) (blk_z m c t k e))).trans
      (mix_sample _ _ _ _ _ (row t r) ⟨(t.val - 16) * 512 + r.val, by omega⟩
        (by show t.val * 512 + r.val = 8192 + ((t.val - 16) * 512 + r.val); omega) e).symm
    all_goals blk_point [iblk, V, idx t]

/-- The result array after the run is the reference's. -/
theorem final (c : Dev nD) : (dats m 0 c).arrAt 9 cfg0.N
    = val_main_v37 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 9 _ (by decide +kernel) fun t hf y => ?_
  have ht := pt_lt t
  obtain ⟨r, e, hy⟩ : ∃ (r : Fin 512) (e : Fin 2048), y = ix2 r e := by
    refine ⟨y 0, y 1, ?_⟩
    funext a
    match a with
    | 0 => rfl
    | 1 => rfl
  rw [show ((cfg0.win 9).blk t).view.emb y = ix2 (row t r) e by
    rw [hy]
    simp only [row]
    blk_ext [idx t]]
  blk_simp
  rw [after0_9, hy, ref_val]
  refine (out _ _ _ _ _ _ _ _ _ _ _ _ rfl rfl r e).trans ?_
  rw [blk_g, blk_b]
  refine congrArg (fun f => NORM f e _ _) (funext fun y => congrArg₂ (· + ·) (congrArg (_ * ·) (blk_x m c t r y)) ?_)
  exact mix_eq m c t _ _ rfl rfl r y

end Cert.Kernel8Ideal.Out

namespace Cert.Proof

/-- At `Ideal` the even layer's output projection and the reference's agree. -/
theorem out_even_algebraic : Cert.algebraic_Kernel8Ideal_Reference8Ideal := by
  pair_intro
  · run_from Cert.Kernel8Ideal.Value.run_blocks m g
  · run_from Cert.Reference8Ideal.Value.run m' g'
    rw [Cert.Reference8Ideal.Read.val_main_v37_eq m' c, Cert.Kernel8Ideal.Out.final m c]
    obtain ⟨h0, h1, h2, h3, h4, h5, h6, h7⟩ := hagree c
    rw [h0, h1, h2, h3, h4, h5, h6, h7]

end Cert.Proof

end
-- ==== Proof.RetSampleKernel.lean ====
/- One point of the retention over the sample, read at an index: the eight places of a sequence stand above 120 rows of
   zeros, of which nothing remains. -/
module

public import proofs.«01_k».proof.Proof.Gen.Kernel6Ideal.Value
public import proofs.«01_k».proof.Proof.RetRef
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Ret

open Cert.Kernel6Ideal Cert.Kernel6Ideal.Gen Cert.Kernel6Ideal.Value
open Cert.ReferenceIdeal.Ret (GATED)

/-- A row of the padded chunk. -/
abbrev wide (i : Fin 8) : Fin 128 := ⟨i.val, by omega⟩

/-- What a point makes of a sequence's state. -/
def KS (k v : FVec Ideal S8x1024 .f32) (kd : FVec Ideal S8x128x128 .f32) (cd : FVec Ideal S8x1x128 .f32) (S : FVec Ideal S1x8x128x128 .f32)
    (h : Fin 8) (d e : Fin 128) : EReal :=
  S (ix4 0 h d e) * cd (ix3 h 0 e)
    + ∑ i : Fin 8, k (ix2 i ⟨h.val * 128 + d.val, by omega⟩) * kd (ix3 h (wide i) d) * v (ix2 i ⟨h.val * 128 + e.val, by omega⟩)

/-- A point's output before its LayerNorm. -/
def KO (q k v : FVec Ideal S8x1024 .f32) (dec qd : FVec Ideal S8x128x128 .f32) (S : FVec Ideal S1x8x128x128 .f32) (h i : Fin 8) (e : Fin 128) : EReal :=
  (∑ j : Fin 8, (∑ d : Fin 128, q (ix2 i ⟨h.val * 128 + d.val, by omega⟩) * k (ix2 j ⟨h.val * 128 + d.val, by omega⟩)) * dec (ix3 h (wide i) (wide j))
      * v (ix2 j ⟨h.val * 128 + e.val, by omega⟩))
    + (∑ d : Fin 128, q (ix2 i ⟨h.val * 128 + d.val, by omega⟩) * S (ix4 0 h d e)) * qd (ix3 h (wide i) e)

/-- A point's output. -/
def KG (q k v g : FVec Ideal S8x1024 .f32) (S : FVec Ideal S1x8x128x128 .f32) (dec qd : FVec Ideal S8x128x128 .f32) (gg gb : FVec Ideal S8x1x128 .f32)
    (h i : Fin 8) (e : Fin 128) : EReal :=
  GATED (fun y => KO q k v dec qd S h i y) e (gg (ix3 h 0 e)) (gb (ix3 h 0 e)) (g (ix2 i ⟨h.val * 128 + e.val, by omega⟩))

/-- The state a point stores. -/
theorem state (q k v g : FVec Ideal S8x1024 .f32) (S : FVec Ideal S1x8x128x128 .f32) (dec qd kd : FVec Ideal S8x128x128 .f32)
    (cd gg gb : FVec Ideal S8x1x128 .f32) (h : Fin 8) (d e : Fin 128) :
    out0_12 (F := Ideal) q k v g S dec qd kd cd gg gb (ix4 0 h d e) = KS k v kd cd S h d e := by
  unfold_out out0_12
  canon_tiles x h
  all_goals
    have hh : h.val = _ := h1
    obtain rfl : d = x 2 := Fin.ext h2
    obtain rfl : e = x 3 := Fin.ext h3
    first
      | (have hv : h.val = 7 := by omega); obtain rfl : h = 7 := Fin.ext hv
      | (have hv : h.val = 6 := by omega); obtain rfl : h = 6 := Fin.ext hv
      | (have hv : h.val = 5 := by omega); obtain rfl : h = 5 := Fin.ext hv
      | (have hv : h.val = 4 := by omega); obtain rfl : h = 4 := Fin.ext hv
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KS]
    simp only [mul_zero, zero_mul, Finset.sum_const_zero, add_zero]
    try simp only [Fin.val_zero, Nat.zero_mul, Nat.zero_add]
    try rfl

set_option maxHeartbeats 2000000 in
/-- The output block a point stores. -/
theorem out (q k v g : FVec Ideal S8x1024 .f32) (S : FVec Ideal S1x8x128x128 .f32) (dec qd kd : FVec Ideal S8x128x128 .f32)
    (cd gg gb : FVec Ideal S8x1x128 .f32) (h i : Fin 8) (e : Fin 128) :
    out0_11 (F := Ideal) q k v g S dec qd kd cd gg gb (ix2 i ⟨h.val * 128 + e.val, by omega⟩) = KG q k v g S dec qd gg gb h i e := by
  unfold_out out0_11
  canon_tiles x h
  all_goals
    have hl : h.val * 128 + e.val = _ := h1
    obtain rfl : i = x 0 := Fin.ext h0
    have he : e.val = (x 1).val := by omega
    obtain rfl : e = x 1 := Fin.ext he
    first
      | (have hv : h.val = 7 := by omega); obtain rfl : h = 7 := Fin.ext hv
      | (have hv : h.val = 6 := by omega); obtain rfl : h = 6 := Fin.ext hv
      | (have hv : h.val = 5 := by omega); obtain rfl : h = 5 := Fin.ext hv
      | (have hv : h.val = 4 := by omega); obtain rfl : h = 4 := Fin.ext hv
      | (have hv : h.val = 3 := by omega); obtain rfl : h = 3 := Fin.ext hv
      | (have hv : h.val = 2 := by omega); obtain rfl : h = 2 := Fin.ext hv
      | (have hv : h.val = 1 := by omega); obtain rfl : h = 1 := Fin.ext hv
      | (have hv : h.val = 0 := by omega); obtain rfl : h = 0 := Fin.ext hv
    open_payloads
    pointwise [KG, KO, GATED]
    simp only [Ideal.logistic]
    simp only [mul_zero, zero_mul, Finset.sum_const_zero, add_zero]
    try simp only [Fin.val_zero, Nat.zero_mul, Nat.zero_add]
    try rfl

end Cert.Kernel6Ideal.Ret

end
-- ==== Proof.RetSampleRef.lean ====
/- Retention over the sample, the reference: one chunk of eight places for each sequence, read at an index. -/
module

public import proofs.«01_k».proof.Defs
public import proofs.«01_k».proof.Proof.Gen.Reference6Ideal.Run
public import proofs.«01_k».proof.Proof.Gen.Reference6Ideal.Read
public import proofs.«01_k».proof.Proof.RetRef
public import Idealize.ShloMosaic.Lib.Pipeline.ValueKit
public import Idealize.ShloMosaic.Lib.Pipeline.Covers
public import Idealize.ShloMosaic.Lib.Pipeline.ReadBack
public import Idealize.ShloMosaic.Lib.Claim
public import Idealize.ShloMosaic.Lib.Pointwise
public import Idealize.ShloMosaic.Lib.StableHlo.RunRead
public import Idealize.ShloMosaic.Lib.IdealHost

@[expose] public section

set_option maxRecDepth 16384

noncomputable section

open Idealize.ShloMosaic Idealize.ShloMosaic.TcCoe Idealize.SL.Sem

namespace Cert.Reference6Ideal.Ret

open Cert.Reference6Ideal Cert.Reference6Ideal.Gen Cert.Reference6Ideal.Read
open Cert.ReferenceIdeal.Ret (LG GATED)

/-- How much a state is decayed over a chunk of eight, by head. -/
def CD (h : Fin 8) : EReal := Ideal.exp (Ideal.ofBits FTy.f32 0x41000000#32 * LG h)

/-- How much a key is decayed to the end of a chunk of eight. -/
def KD (k : Fin 8) (h : Fin 8) : EReal :=
  Ideal.exp ((Ideal.ofBits FTy.f32 0x40E00000#32 - FloatOps.sitofp (F := Ideal) FTy.f32 (BitVec.ofNat 32 k.val)) * LG h)

/-- How much the entering state is decayed for a query. -/
def QD (i : Fin 8) (h : Fin 8) : EReal :=
  Ideal.exp ((FloatOps.sitofp (F := Ideal) FTy.f32 (BitVec.ofNat 32 i.val) + 1) * LG h)

/-- The decay between two places, zero for a key after the query. -/
def DEC (h : Fin 8) (i k : Fin 8) : EReal :=
  if (0 : EReal) ≤ FloatOps.sitofp (F := Ideal) FTy.f32 (BitVec.ofNat 32 i.val) - FloatOps.sitofp (F := Ideal) FTy.f32 (BitVec.ofNat 32 k.val) then
    Ideal.exp (max (FloatOps.sitofp (F := Ideal) FTy.f32 (BitVec.ofNat 32 i.val) - FloatOps.sitofp (F := Ideal) FTy.f32 (BitVec.ofNat 32 k.val)) (0 : EReal)
      * LG h)
  else 0

/-- The state a sequence leaves, from the state it enters with and its keys and values. -/
def STATE (k v : Fin 8 → Fin 128 → EReal) (s : EReal) (h : Fin 8) (d e : Fin 128) : EReal :=
  s * CD h + ∑ i : Fin 8, k i d * KD i h * v i e

/-- A sequence's output at a head, before its LayerNorm. -/
def OUT (q k v : Fin 8 → Fin 128 → EReal) (s : Fin 128 → Fin 128 → EReal) (h : Fin 8) (i : Fin 8) (e : Fin 128) : EReal :=
  (∑ j : Fin 8, v j e * ((∑ d : Fin 128, q i d * k j d) * DEC h i j)) + (∑ d : Fin 128, s d e * q i d) * QD i h

/-- The row of the projections' array that a sequence's place is. -/
abbrev row (b : Fin 128) (i : Fin 8) : Fin 9216 := ⟨8192 + (b.val * 8 + i.val), by omega⟩

/-- A sequence's queries, -/
def Q (x : FVec Ideal S9216x5120 .f32) (b : Fin 128) (h : Fin 8) (i : Fin 8) (d : Fin 128) : EReal := x (ix2 (row b i) ⟨h.val * 128 + d.val, by omega⟩)

/-- its keys, -/
def K (x : FVec Ideal S9216x5120 .f32) (b : Fin 128) (h : Fin 8) (i : Fin 8) (d : Fin 128) : EReal := x (ix2 (row b i) ⟨1024 + (h.val * 128 + d.val), by omega⟩)

/-- and its values. -/
def W (x : FVec Ideal S9216x5120 .f32) (b : Fin 128) (h : Fin 8) (i : Fin 8) (d : Fin 128) : EReal := x (ix2 (row b i) ⟨2048 + (h.val * 128 + d.val), by omega⟩)

theorem ref_q (x : FVec Ideal S9216x5120 .f32) (b : Fin 128) (i h : Fin 8) (d : Fin 128) : val_main_v1 (F := Ideal) x (ix4 b i h d) = Q x b h i d := by
  pointwise [val_main_v1, val_main_v0, Q]
  blk_ext

theorem ref_k (x : FVec Ideal S9216x5120 .f32) (b : Fin 128) (i h : Fin 8) (d : Fin 128) : val_main_v3 (F := Ideal) x (ix4 b i h d) = K x b h i d := by
  pointwise [val_main_v3, val_main_v2, K]
  blk_ext

theorem ref_w (x : FVec Ideal S9216x5120 .f32) (b : Fin 128) (i h : Fin 8) (d : Fin 128) : val_main_v5 (F := Ideal) x (ix4 b i h d) = W x b h i d := by
  pointwise [val_main_v5, val_main_v4, W]
  blk_ext

theorem ref_lg (h : Fin 8) : val_main_v15 (F := Ideal) (ix1 h) = LG h := by
  pointwise [val_main_v15, val_main_v14, val_main_v13, val_main_cst_1, val_main_v12, val_main_v11, val_main_v10, val_main_cst_0, val_main_v9,
    val_main_v8, val_main_cst, val_main_v7, LG]

theorem ref_cd (h : Fin 8) : val_main_v63 (F := Ideal) (ix1 h) = CD h := by
  pointwise [val_main_v63, val_main_v62, val_main_v61, val_main_cst_7]
  simp only [ref_lg, CD]

theorem ref_kd (k h : Fin 8) : val_main_v60 (F := Ideal) (ix2 k h) = KD k h := by
  pointwise [val_main_v60, val_main_v59, val_main_v58, val_main_v57, val_main_v56, val_main_v55, val_main_v54, val_main_v53, val_main_cst_6, val_main_v16]
  simp only [ref_lg, KD]

theorem ref_qd (i h : Fin 8) : val_main_v46 (F := Ideal) (ix2 i h) = QD i h := by
  pointwise [val_main_v46, val_main_v45, val_main_v44, val_main_v43, val_main_v42, val_main_v41, val_main_v40, val_main_v39, val_main_cst_5, val_main_v16]
  simp only [ref_lg, QD]

theorem ref_dec (h i k : Fin 8) : val_main_v32 (F := Ideal) (ix3 h i k) = DEC h i k := by
  pointwise [val_main_v32, val_main_call0_v2, val_main_call0_v1, val_main_call0_v0, val_main_cst_4, val_main_v31, val_main_v30, val_main_v29,
    val_main_v28, val_main_v27, val_main_v26, val_main_v25, val_main_v24, val_main_cst_3, val_main_v23, val_main_v22, val_main_cst_2, val_main_v21,
    val_main_v20, val_main_v19, val_main_v18, val_main_v17, val_main_v16]
  simp only [ref_lg, DEC, id]
  pointwise

/-- The states' array after the chunk. -/
theorem ref_state (x0 : FVec Ideal S9216x5120 .f32) (x1 : FVec Ideal S1x128x8x128x128 .f32) (b : Fin 128) (h : Fin 8) (d e : Fin 128) :
    val_main_v71 (F := Ideal) x0 x1 (ix4 b h d e) = STATE (K x0 b h) (W x0 b h) (x1 (ix5 0 b h d e)) h d e := by
  pointwise [val_main_v71, val_main_v70, val_main_v69, val_main_v68, val_main_v67, val_main_v66, val_main_v65, val_main_v64, val_main_v6]
  simp only [ref_k, ref_w, ref_cd, ref_kd, STATE]

/-- The chunk's output. -/
theorem ref_out (x0 : FVec Ideal S9216x5120 .f32) (x1 : FVec Ideal S1x128x8x128x128 .f32) (b : Fin 128) (i h : Fin 8) (e : Fin 128) :
    val_main_v52 (F := Ideal) x0 x1 (ix4 b i h e) = OUT (Q x0 b h) (K x0 b h) (W x0 b h) (fun d e => x1 (ix5 0 b h d e)) h i e := by
  pointwise [val_main_v52, val_main_v51, val_main_v50, val_main_v49, val_main_v48, val_main_v47, val_main_v38, val_main_v37, val_main_v36,
    val_main_v35, val_main_v34, val_main_v33, val_main_v6]
  simp only [ref_q, ref_k, ref_w, ref_dec, ref_qd, OUT]

/-- What the LayerNorm and the gate make of the chunk's output. -/
theorem ref_gated (x0 : FVec Ideal S9216x5120 .f32) (x1 : FVec Ideal S1x128x8x128x128 .f32) (x2 x3 : FVec Ideal S8x128 .f32) (r : Fin 1024) (l : Fin 1024) :
    val_main_v101 (F := Ideal) x0 x1 x2 x3 (ix2 r l)
      = GATED (fun e => val_main_v52 (F := Ideal) x0 x1 (ix4 ⟨r.val / 8, by omega⟩ ⟨r.val % 8, by omega⟩ ⟨l.val / 128, by omega⟩ e))
        ⟨l.val % 128, by omega⟩ (x2 (ix2 ⟨l.val / 128, by omega⟩ ⟨l.val % 128, by omega⟩)) (x3 (ix2 ⟨l.val / 128, by omega⟩ ⟨l.val % 128, by omega⟩))
        (x0 (ix2 ⟨8192 + r.val, by omega⟩ ⟨3072 + l.val, by omega⟩)) := by
  generalize hv : val_main_v52 (F := Ideal) x0 x1 = v
  pointwise [val_main_v101, val_main_v100, val_main_v99, val_main_call1_v5, val_main_call1_v4, val_main_call1_cst_0, val_main_call1_v3,
    val_main_call1_v2, val_main_call1_cst, val_main_call1_v1, val_main_call1_v0, val_main_v98, val_main_v97, val_main_v96, val_main_v95,
    val_main_v94, val_main_v93, val_main_v92, val_main_v91, val_main_v90, val_main_v89, val_main_v88, val_main_v87, val_main_cst_12, val_main_v86,
    val_main_v85, val_main_v84, val_main_v83, val_main_cst_11, val_main_v82, val_main_v81, val_main_cst_10, val_main_v80, val_main_v79,
    val_main_v78, val_main_v77, val_main_v76, val_main_cst_9, val_main_v75, val_main_v74, val_main_cst_8, val_main_v73, val_main_v72, GATED, hv]

/-- The output's array at a sequence's place, head and lane. -/
theorem ref_place (x0 : FVec Ideal S9216x5120 .f32) (x1 : FVec Ideal S1x128x8x128x128 .f32) (x2 x3 : FVec Ideal S8x128 .f32)
    (b : Fin 128) (i h : Fin 8) (e : Fin 128) :
    val_main_v101 (F := Ideal) x0 x1 x2 x3 (ix2 ⟨b.val * 8 + i.val, by omega⟩ ⟨h.val * 128 + e.val, by omega⟩)
      = GATED (fun y => OUT (Q x0 b h) (K x0 b h) (W x0 b h) (fun d e => x1 (ix5 0 b h d e)) h i y) e (x2 (ix2 h e)) (x3 (ix2 h e))
          (x0 (ix2 (row b i) ⟨3072 + (h.val * 128 + e.val), by omega⟩)) := by
  rw [ref_gated]
  have e1 : (⟨(b.val * 8 + i.val) / 8, by omega⟩ : Fin 128) = b := Fin.ext (by show (b.val * 8 + i.val) / 8 = b.val; omega)
  have e2 : (⟨(b.val * 8 + i.val) % 8, by omega⟩ : Fin 8) = i := Fin.ext (by show (b.val * 8 + i.val) % 8 = i.val; omega)
  have e4 : (⟨(h.val * 128 + e.val) / 128, by omega⟩ : Fin 8) = h := Fin.ext (by show (h.val * 128 + e.val) / 128 = h.val; omega)
  have e5 : (⟨(h.val * 128 + e.val) % 128, by omega⟩ : Fin 128) = e := Fin.ext (by show (h.val * 128 + e.val) % 128 = e.val; omega)
  simp only [e1, e2, e4, e5, ref_out]

end Cert.Reference6Ideal.Ret

end
-- ==== Proof.RetSample.lean ====
/- Retention over the sample: the host's tables at the first eight places are the reference's scalars, so every point's output
   block and state are the reference's of that sequence; the two result arrays follow. -/
module

public import proofs.«01_k».proof.Defs
public import proofs.«01_k».proof.Proof.RetSampleKernel
public import proofs.«01_k».proof.Proof.RetSampleRef

@[expose] public section

set_option maxRecDepth 16384

noncomputable section

open Idealize.ShloMosaic Idealize.ShloMosaic.TcCoe Idealize.SL.Sem
open Idealize.ShloMosaic.Pipeline (Dat)

namespace Cert.Kernel6Ideal.Ret

open Cert.Kernel6Ideal Cert.Kernel6Ideal.Gen Cert.Kernel6Ideal.Value
open Cert.ReferenceIdeal.Ret (LG GATED)
open Cert.Reference6Ideal.Ret (CD KD QD DEC STATE OUT Q K W row)

variable (m : (ℓ : Loc nD τ sig) → Buf (Elt Ideal) ℓ)

/-- The blocks' positions: point `t` is sequence `t`, its rows standing below the prompt's 8192. -/
theorem idx : ∀ t : Fin cfg0.N, win0_0.index t = ![1024 + t.val, 0] ∧ win0_1.index t = ![1024 + t.val, 1]
    ∧ win0_2.index t = ![1024 + t.val, 2] ∧ win0_3.index t = ![1024 + t.val, 3] ∧ win0_4.index t = ![t.val, 0, 0, 0]
    ∧ win0_5.index t = ![0, 0, 0] ∧ win0_6.index t = ![0, 0, 0] ∧ win0_7.index t = ![0, 0, 0] ∧ win0_8.index t = ![0, 0, 0]
    ∧ win0_9.index t = ![0, 0, 0] ∧ win0_10.index t = ![0, 0, 0] ∧ win0_11.index t = ![t.val, 0] ∧ win0_12.index t = ![t.val, 0, 0, 0] :=
  (by decide +kernel : ∀ t : Fin grid0.N, _)

theorem pt_lt (t : Fin cfg0.N) : t.val < 128 := t.isLt

/-- A point's sequence. -/
def seq (t : Fin cfg0.N) : Fin 128 := ⟨t.val, pt_lt t⟩

/-- The f32 pattern of a sequence's length. -/
theorem bits_eight : Ideal.ofBits FTy.f32 0x41000000#32 = ((8 : ℝ) : EReal) := by
  simp [Ideal.ofBits, Ideal.ieee, -EReal.coe_mul]; norm_num

/-- A place in a sequence comes before the sequence's end. -/
theorem place_lt (k : Fin 8) : FloatOps.sitofp (F := Ideal) FTy.f32 (BitVec.ofNat 32 k.val) < Ideal.ofBits FTy.f32 0x41000000#32 := by
  rw [bits_eight]
  show ((((BitVec.ofNat 32 k.val).toInt : ℤ) : ℝ) : EReal) < ((8 : ℝ) : EReal)
  have hk : (BitVec.ofNat 32 k.val).toInt < 8 := (by decide +kernel : ∀ k : Fin 8, (BitVec.ofNat 32 k.val).toInt < 8) k
  exact EReal.coe_lt_coe_iff.mpr (by exact_mod_cast hk)

/-- The decay over a sequence. -/
theorem tab_cd (c : Dev nD) (h : Fin 8) (e : Fin 128) : (V m c main_v56 : FVec Ideal S8x1x128 .f32) (ix3 h 0 e) = CD h := by
  simp only [V, hostOps0, hostOps0_1, hostOps0_2, hostOps0_3, hostOps0_4, List.flatten_cons, List.flatten_nil, List.append_nil, List.cons_append,
    List.nil_append]
  after_reads_simp
  pointwise [CD, LG]

/-- The decay of a key to its sequence's end; the mask on the places is true at the first eight. -/
theorem tab_kd (c : Dev nD) (h k : Fin 8) (l : Fin 128) : (V m c main_v53 : FVec Ideal S8x128x128 .f32) (ix3 h (wide k) l) = KD k h := by
  simp only [V, hostOps0, hostOps0_1, hostOps0_2, hostOps0_3, hostOps0_4, List.flatten_cons, List.flatten_nil, List.append_nil, List.cons_append,
    List.nil_append]
  after_reads_simp
  simp only [StableHlo.TRef.ofBuf_toBuf]
  simp only [StableHlo.TRef.ofBuf, StableHlo.TRef.toBuf, id, cast_eq]
  pointwise [KD, LG]
  exact if_pos (place_lt k)

/-- The decay of the entering state for a query. -/
theorem tab_qd (c : Dev nD) (h k : Fin 8) (l : Fin 128) : (V m c main_v51 : FVec Ideal S8x128x128 .f32) (ix3 h (wide k) l) = QD k h := by
  simp only [V, hostOps0, hostOps0_1, hostOps0_2, hostOps0_3, hostOps0_4, List.flatten_cons, List.flatten_nil, List.append_nil, List.cons_append,
    List.nil_append]
  after_reads_simp
  pointwise [QD, LG]

/-- The decay between two places. -/
theorem tab_dec (c : Dev nD) (h i k : Fin 8) : (V m c main_v26 : FVec Ideal S8x128x128 .f32) (ix3 h (wide i) (wide k)) = DEC h i k := by
  simp only [V, hostOps0, hostOps0_1, hostOps0_2, hostOps0_3, hostOps0_4, List.flatten_cons, List.flatten_nil, List.append_nil, List.cons_append,
    List.nil_append]
  after_reads_simp
  simp only [StableHlo.TRef.ofBuf_toBuf]
  simp only [StableHlo.TRef.ofBuf, StableHlo.TRef.toBuf, id, cast_eq]
  pointwise [DEC, LG]

/-- The LayerNorm's gain as the kernel's host lays it out, -/
theorem tab_gg (c : Dev nD) (h : Fin 8) (e : Fin 128) : (V m c main_v57 : FVec Ideal S8x1x128 .f32) (ix3 h 0 e)
    = (m ((c : Thread nD τ).loc main_arg2) : FVec Ideal S8x128 .f32) (ix2 h e) := by
  simp only [V, hostOps0, hostOps0_1, hostOps0_2, hostOps0_3, hostOps0_4, List.flatten_cons, List.flatten_nil, List.append_nil, List.cons_append,
    List.nil_append]
  after_reads_simp
  pointwise

/-- and its bias. -/
theorem tab_gb (c : Dev nD) (h : Fin 8) (e : Fin 128) : (V m c main_v58 : FVec Ideal S8x1x128 .f32) (ix3 h 0 e)
    = (m ((c : Thread nD τ).loc main_arg3) : FVec Ideal S8x128 .f32) (ix2 h e) := by
  simp only [V, hostOps0, hostOps0_1, hostOps0_2, hostOps0_3, hostOps0_4, List.flatten_cons, List.flatten_nil, List.append_nil, List.cons_append,
    List.nil_append]
  after_reads_simp
  pointwise

/-- The entering states as the kernel's host lays them out. -/
theorem tab_s (c : Dev nD) (b : Fin 128) (h : Fin 8) (d e : Fin 128) : (V m c main_v0 : FVec Ideal S128x8x128x128 .f32) (ix4 b h d e)
    = (m ((c : Thread nD τ).loc main_arg1) : FVec Ideal S1x128x8x128x128 .f32) (ix5 0 b h d e) := by
  simp only [V, hostOps0, hostOps0_1, hostOps0_2, hostOps0_3, hostOps0_4, List.flatten_cons, List.flatten_nil, List.append_nil, List.cons_append,
    List.nil_append]
  after_reads_simp
  pointwise

/-- The argument the projections arrive in. -/
abbrev X (c : Dev nD) : FVec Ideal S9216x5120 .f32 := m ((c : Thread nD τ).loc main_arg0)

/-- The argument the states arrive in. -/
abbrev Z (c : Dev nD) : FVec Ideal S1x128x8x128x128 .f32 := m ((c : Thread nD τ).loc main_arg1)

theorem blk_q (c : Dev nD) (t : Fin cfg0.N) (i h : Fin 8) (d : Fin 128) :
    (iblk m c 0 t : FVec Ideal S8x1024 .f32) (ix2 i ⟨h.val * 128 + d.val, by omega⟩) = Q (X m c) (seq t) h i d := by
  have := pt_lt t
  simp only [seq, Q]
  blk_point [iblk, V, idx t]

theorem blk_k (c : Dev nD) (t : Fin cfg0.N) (i h : Fin 8) (d : Fin 128) :
    (iblk m c 1 t : FVec Ideal S8x1024 .f32) (ix2 i ⟨h.val * 128 + d.val, by omega⟩) = K (X m c) (seq t) h i d := by
  have := pt_lt t
  simp only [seq, K]
  blk_point [iblk, V, idx t]

theorem blk_v (c : Dev nD) (t : Fin cfg0.N) (i h : Fin 8) (d : Fin 128) :
    (iblk m c 2 t : FVec Ideal S8x1024 .f32) (ix2 i ⟨h.val * 128 + d.val, by omega⟩) = W (X m c) (seq t) h i d := by
  have := pt_lt t
  simp only [seq, W]
  blk_point [iblk, V, idx t]

theorem blk_s (c : Dev nD) (t : Fin cfg0.N) (h : Fin 8) (d e : Fin 128) :
    (iblk m c 4 t : FVec Ideal S1x8x128x128 .f32) (ix4 0 h d e) = Z m c (ix5 0 (seq t) h d e) := by
  refine Eq.trans ?_ (tab_s m c (seq t) h d e)
  simp only [seq]
  blk_point [iblk, idx t]

theorem blk_dec (c : Dev nD) (t : Fin cfg0.N) (h i k : Fin 8) : (iblk m c 5 t : FVec Ideal S8x128x128 .f32) (ix3 h (wide i) (wide k)) = DEC h i k := by
  rw [← tab_dec m c h i k]
  blk_point [iblk, idx t]

theorem blk_qd (c : Dev nD) (t : Fin cfg0.N) (h k : Fin 8) (l : Fin 128) : (iblk m c 6 t : FVec Ideal S8x128x128 .f32) (ix3 h (wide k) l) = QD k h := by
  rw [← tab_qd m c h k l]
  blk_point [iblk, idx t]

theorem blk_kd (c : Dev nD) (t : Fin cfg0.N) (h k : Fin 8) (l : Fin 128) : (iblk m c 7 t : FVec Ideal S8x128x128 .f32) (ix3 h (wide k) l) = KD k h := by
  rw [← tab_kd m c h k l]
  blk_point [iblk, idx t]

theorem blk_cd (c : Dev nD) (t : Fin cfg0.N) (h : Fin 8) (l : Fin 128) : (iblk m c 8 t : FVec Ideal S8x1x128 .f32) (ix3 h 0 l) = CD h := by
  rw [← tab_cd m c h l]
  blk_point [iblk, idx t]

theorem blk_gg (c : Dev nD) (t : Fin cfg0.N) (h : Fin 8) (l : Fin 128) : (iblk m c 9 t : FVec Ideal S8x1x128 .f32) (ix3 h 0 l) = (m ((c : Thread nD τ).loc main_arg2) : FVec Ideal S8x128 .f32) (ix2 h l) := by
  rw [← tab_gg m c h l]
  blk_point [iblk, idx t]

theorem blk_gb (c : Dev nD) (t : Fin cfg0.N) (h : Fin 8) (l : Fin 128) : (iblk m c 10 t : FVec Ideal S8x1x128 .f32) (ix3 h 0 l) = (m ((c : Thread nD τ).loc main_arg3) : FVec Ideal S8x128 .f32) (ix2 h l) := by
  rw [← tab_gb m c h l]
  blk_point [iblk, idx t]

/-- A point's state is the reference's. -/
theorem ks_eq (c : Dev nD) (t : Fin cfg0.N) (h : Fin 8) (d e : Fin 128) :
    KS (iblk m c 1 t) (iblk m c 2 t) (iblk m c 7 t) (iblk m c 8 t) (iblk m c 4 t) h d e
      = STATE (K (X m c) (seq t) h) (W (X m c) (seq t) h) (Z m c (ix5 0 (seq t) h d e)) h d e := by
  rw [KS, STATE, blk_s, blk_cd]
  refine congrArg _ (Finset.sum_congr rfl fun i _ => ?_)
  rw [blk_k, blk_v, blk_kd]

/-- A point's output before its LayerNorm is the reference's. -/
theorem ko_eq (c : Dev nD) (t : Fin cfg0.N) (h i : Fin 8) (e : Fin 128) :
    KO (iblk m c 0 t) (iblk m c 1 t) (iblk m c 2 t) (iblk m c 5 t) (iblk m c 6 t) (iblk m c 4 t) h i e
      = OUT (Q (X m c) (seq t) h) (K (X m c) (seq t) h) (W (X m c) (seq t) h) (fun d e => Z m c (ix5 0 (seq t) h d e)) h i e := by
  rw [KO, OUT, blk_qd]
  refine congrArg₂ (· + ·) ?_ ?_
  · refine Finset.sum_congr rfl fun j _ => ?_
    rw [blk_v, blk_dec, mul_comm]
    refine congrArg _ (congrArg (· * _) (Finset.sum_congr rfl fun d _ => ?_))
    rw [blk_q, blk_k]
  · refine congrArg (· * _) (Finset.sum_congr rfl fun d _ => ?_)
    rw [blk_q, blk_s, mul_comm]

theorem lane_lt (h : Fin 8) (e : Fin 128) : h.val * 128 + e.val < 1024 := by omega

/-- The output array after the run is the reference's. -/
theorem final_out (c : Dev nD) : (dats m 0 c).arrAt 11 cfg0.N
    = Cert.Reference6Ideal.Read.val_main_v101 (F := Ideal) (X m c) (Z m c) (m ((c : Thread nD τ).loc main_arg2))
        (m ((c : Thread nD τ).loc main_arg3)) := by
  refine (dats m 0 c).arrAt_eq_of_covers 11 _ (by decide +kernel) fun t hf y => ?_
  have ht := pt_lt t
  have hy1 : (y 1).val < 1024 := (y 1).isLt
  obtain ⟨i, h, e, hy⟩ : ∃ (i h : Fin 8) (e : Fin 128), y = ix2 i ⟨h.val * 128 + e.val, lane_lt h e⟩ := by
    refine ⟨y 0, ⟨(y 1).val / 128, by omega⟩, ⟨(y 1).val % 128, by omega⟩, ?_⟩
    funext a
    match a with
    | 0 => rfl
    | 1 => exact Fin.ext (by show (y 1).val = (y 1).val / 128 * 128 + (y 1).val % 128; omega)
  rw [show ((cfg0.win 11).blk t).view.emb y
      = ix2 ⟨(seq t).val * 8 + i.val, by omega⟩ ⟨h.val * 128 + e.val, by omega⟩ by
    rw [hy]
    simp only [seq]
    blk_ext [idx t]]
  rw [Cert.Reference6Ideal.Ret.ref_place]
  blk_simp
  rw [after0_11, hy, out, KG, blk_gg, blk_gb]
  refine (congrArg (fun f => GATED f e _ _ _) (funext fun y => ko_eq m c t h i y)).trans (congrArg (GATED _ e _ _) ?_)
  simp only [seq, row]
  blk_point [iblk, V, idx t]

/-- The states' array after the run is the reference's. -/
theorem final_state (c : Dev nD) : (dats m 0 c).arrAt 12 cfg0.N = Cert.Reference6Ideal.Read.val_main_v71 (F := Ideal) (X m c) (Z m c) := by
  refine (dats m 0 c).arrAt_eq_of_covers 12 _ (by decide +kernel) fun t hf y => ?_
  obtain ⟨h, d, e, hy⟩ : ∃ (h : Fin 8) (d e : Fin 128), y = ix4 0 h d e := by
    refine ⟨y 1, y 2, y 3, ?_⟩
    funext a
    match a with
    | 0 => exact Subsingleton.elim (α := Fin 1) _ _
    | 1 => rfl
    | 2 => rfl
    | 3 => rfl
  rw [show ((cfg0.win 12).blk t).view.emb y = ix4 (seq t) h d e by
    rw [hy]
    simp only [seq]
    blk_ext [idx t]]
  rw [Cert.Reference6Ideal.Ret.ref_state]
  blk_simp
  rw [after0_12, hy, state]
  exact ks_eq m c t h d e

end Cert.Kernel6Ideal.Ret

namespace Cert.Proof

/-- At `Ideal` the retention kernel over the sample and the reference agree in both results. -/
theorem retSample_algebraic : Cert.algebraic_Kernel6Ideal_Reference6Ideal := by
  pair_intro
  · run_from Cert.Kernel6Ideal.Value.run_blocks m g
  · refine (θ_run Cert.Reference6Ideal.defs _ _).mono (fun r h c => ⟨(h c).1.trans ?_, (h c).2.1.trans ?_, (h c).2.2⟩)
      (Cert.Reference6Ideal.Value.run (F := Ideal) m' g')
    · obtain ⟨h0, h1, h2, h3⟩ := hagree c
      rw [Cert.Reference6Ideal.Read.val_main_v101_eq m' c, Cert.Kernel6Ideal.Ret.final_out m c, h0, h1, h2, h3]
    · obtain ⟨h0, h1, h2, h3⟩ := hagree c
      rw [Cert.Kernel6Ideal.Ret.final_state m c, Cert.Reference6Ideal.Read.val_main_v71_eq, h0, h1]

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.MlaKeys
public import proofs.«01_k».proof.Proof.MlaLatent
public import proofs.«01_k».proof.Proof.MlaValueUp
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.MlaQueries
public import proofs.«01_k».proof.Proof.Ret
public import proofs.«01_k».proof.Proof.Ffn
public import proofs.«01_k».proof.Proof.SbInProj
public import proofs.«01_k».proof.Proof.Ev
public import proofs.«01_k».proof.Proof.Kpe
public import proofs.«01_k».proof.Proof.OutOdd
public import proofs.«01_k».proof.Proof.OutEven
public import proofs.«01_k».proof.Proof.RetSample
public import Idealize.ShloMosaic.Adequacy
public import Idealize.ShloMosaic.Init

@[expose] public section

noncomputable section

namespace Cert.Proof

open Idealize.ShloMosaic Idealize.SL.Sem Cert.Kernel

theorem frame_Kernel : Cert.quiescent_Kernel := fun m ρ _ => Cert.Kernel.Gen.frame m ρ
theorem frame_KernelIdeal : Cert.quiescent_KernelIdeal := fun m ρ _ => Cert.KernelIdeal.Gen.frame m ρ
theorem frame_ReferenceIdeal : Cert.quiescent_ReferenceIdeal := fun m ρ _ => (θ_run Cert.ReferenceIdeal.defs _ _).mono (fun r h => ⟨fun c => (h c).2.2, Idealize.ShloMosaic.sem_eq_zero_of_no_sems (by decide) r.2⟩) (Cert.ReferenceIdeal.Value.run (F := Ideal) m ρ)
theorem frame_Kernel2 : Cert.quiescent_Kernel2 := fun m ρ _ => Cert.Kernel2.Gen.frame m ρ
theorem frame_Kernel2Ideal : Cert.quiescent_Kernel2Ideal := fun m ρ _ => Cert.Kernel2Ideal.Gen.frame m ρ
theorem frame_Reference2Ideal : Cert.quiescent_Reference2Ideal := fun m ρ _ => (θ_run Cert.Reference2Ideal.defs _ _).mono (fun r h => ⟨fun c => (h c).2, Idealize.ShloMosaic.sem_eq_zero_of_no_sems (by decide) r.2⟩) (Cert.Reference2Ideal.Value.run (F := Ideal) m ρ)
theorem frame_Kernel3 : Cert.quiescent_Kernel3 := fun m ρ _ => Cert.Kernel3.Gen.frame m ρ
theorem frame_Kernel3Ideal : Cert.quiescent_Kernel3Ideal := fun m ρ _ => Cert.Kernel3Ideal.Gen.frame m ρ
theorem frame_Reference3Ideal : Cert.quiescent_Reference3Ideal := fun m ρ _ => (θ_run Cert.Reference3Ideal.defs _ _).mono (fun r h => ⟨fun c => (h c).2, Idealize.ShloMosaic.sem_eq_zero_of_no_sems (by decide) r.2⟩) (Cert.Reference3Ideal.Value.run (F := Ideal) m ρ)
theorem frame_Kernel4 : Cert.quiescent_Kernel4 := fun m ρ _ => Cert.Kernel4.Gen.frame m ρ
theorem frame_Kernel4Ideal : Cert.quiescent_Kernel4Ideal := fun m ρ _ => Cert.Kernel4Ideal.Gen.frame m ρ
theorem frame_Reference4Ideal : Cert.quiescent_Reference4Ideal := fun m ρ _ => (θ_run Cert.Reference4Ideal.defs _ _).mono (fun r h => ⟨fun c => (h c).2, Idealize.ShloMosaic.sem_eq_zero_of_no_sems (by decide) r.2⟩) (Cert.Reference4Ideal.Value.run (F := Ideal) m ρ)
theorem frame_Kernel5 : Cert.quiescent_Kernel5 := fun m ρ _ => Cert.Kernel5.Gen.frame m ρ
theorem frame_Kernel5Ideal : Cert.quiescent_Kernel5Ideal := fun m ρ _ => Cert.Kernel5Ideal.Gen.frame m ρ
theorem frame_Reference5Ideal : Cert.quiescent_Reference5Ideal := fun m ρ _ => (θ_run Cert.Reference5Ideal.defs _ _).mono (fun r h => ⟨fun c => (h c).2, Idealize.ShloMosaic.sem_eq_zero_of_no_sems (by decide) r.2⟩) (Cert.Reference5Ideal.Value.run (F := Ideal) m ρ)
theorem frame_Kernel6 : Cert.quiescent_Kernel6 := fun m ρ _ => Cert.Kernel6.Gen.frame m ρ
theorem frame_Kernel6Ideal : Cert.quiescent_Kernel6Ideal := fun m ρ _ => Cert.Kernel6Ideal.Gen.frame m ρ
theorem frame_Reference6Ideal : Cert.quiescent_Reference6Ideal := fun m ρ _ => (θ_run Cert.Reference6Ideal.defs _ _).mono (fun r h => ⟨fun c => (h c).2.2, Idealize.ShloMosaic.sem_eq_zero_of_no_sems (by decide) r.2⟩) (Cert.Reference6Ideal.Value.run (F := Ideal) m ρ)
theorem frame_Kernel7 : Cert.quiescent_Kernel7 := fun m ρ _ => Cert.Kernel7.Gen.frame m ρ
theorem frame_Kernel7Ideal : Cert.quiescent_Kernel7Ideal := fun m ρ _ => Cert.Kernel7Ideal.Gen.frame m ρ
theorem frame_Reference7Ideal : Cert.quiescent_Reference7Ideal := fun m ρ _ => (θ_run Cert.Reference7Ideal.defs _ _).mono (fun r h => ⟨fun c => (h c).2, Idealize.ShloMosaic.sem_eq_zero_of_no_sems (by decide) r.2⟩) (Cert.Reference7Ideal.Value.run (F := Ideal) m ρ)
theorem frame_Kernel8 : Cert.quiescent_Kernel8 := fun m ρ _ => Cert.Kernel8.Gen.frame m ρ
theorem frame_Kernel8Ideal : Cert.quiescent_Kernel8Ideal := fun m ρ _ => Cert.Kernel8Ideal.Gen.frame m ρ
theorem frame_Reference8Ideal : Cert.quiescent_Reference8Ideal := fun m ρ _ => (θ_run Cert.Reference8Ideal.defs _ _).mono (fun r h => ⟨fun c => (h c).2, Idealize.ShloMosaic.sem_eq_zero_of_no_sems (by decide) r.2⟩) (Cert.Reference8Ideal.Value.run (F := Ideal) m ρ)
theorem frame_Kernel9 : Cert.quiescent_Kernel9 := fun m ρ _ => Cert.Kernel9.Gen.frame m ρ
theorem frame_Kernel9Ideal : Cert.quiescent_Kernel9Ideal := fun m ρ _ => Cert.Kernel9Ideal.Gen.frame m ρ
theorem frame_Reference9Ideal : Cert.quiescent_Reference9Ideal := fun m ρ _ => (θ_run Cert.Reference9Ideal.defs _ _).mono (fun r h => ⟨fun c => (h c).2.2, Idealize.ShloMosaic.sem_eq_zero_of_no_sems (by decide) r.2⟩) (Cert.Reference9Ideal.Value.run (F := Ideal) m ρ)
theorem frame_Kernel10 : Cert.quiescent_Kernel10 := fun m ρ _ => Cert.Kernel10.Gen.frame m ρ
theorem frame_Kernel10Ideal : Cert.quiescent_Kernel10Ideal := fun m ρ _ => Cert.Kernel10Ideal.Gen.frame m ρ
theorem frame_Reference10Ideal : Cert.quiescent_Reference10Ideal := fun m ρ _ => (θ_run Cert.Reference10Ideal.defs _ _).mono (fun r h => ⟨fun c => (h c).2, Idealize.ShloMosaic.sem_eq_zero_of_no_sems (by decide) r.2⟩) (Cert.Reference10Ideal.Value.run (F := Ideal) m ρ)
theorem frame_Kernel11 : Cert.quiescent_Kernel11 := fun m ρ _ => Cert.Kernel11.Gen.frame m ρ
theorem frame_Kernel11Ideal : Cert.quiescent_Kernel11Ideal := fun m ρ _ => Cert.Kernel11Ideal.Gen.frame m ρ
theorem frame_Reference11Ideal : Cert.quiescent_Reference11Ideal := fun m ρ _ => (θ_run Cert.Reference11Ideal.defs _ _).mono (fun r h => ⟨fun c => (h c).2, Idealize.ShloMosaic.sem_eq_zero_of_no_sems (by decide) r.2⟩) (Cert.Reference11Ideal.Value.run (F := Ideal) m ρ)
theorem frame_Kernel12 : Cert.quiescent_Kernel12 := fun m ρ _ => Cert.Kernel12.Gen.frame m ρ
theorem frame_Kernel12Ideal : Cert.quiescent_Kernel12Ideal := fun m ρ _ => Cert.Kernel12Ideal.Gen.frame m ρ
theorem frame_Reference12Ideal : Cert.quiescent_Reference12Ideal := fun m ρ _ => (θ_run Cert.Reference12Ideal.defs _ _).mono (fun r h => ⟨fun c => (h c).2, Idealize.ShloMosaic.sem_eq_zero_of_no_sems (by decide) r.2⟩) (Cert.Reference12Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  frame_Kernel, frame_KernelIdeal, frame_ReferenceIdeal, frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  frame_Kernel12, frame_Kernel12Ideal, frame_Reference12Ideal,
  trivial, ret_algebraic, trivial, ffn_algebraic, trivial, sbIn_algebraic,
  trivial, ev_algebraic, trivial, kpe_algebraic,
  trivial, retSample_algebraic, trivial, out_odd_algebraic, trivial, out_even_algebraic,
  trivial, kv_up_algebraic, trivial, q_latent_algebraic, trivial, value_up_algebraic,
  trivial, q_up_algebraic⟩

end Cert.Proof

end
